-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Wts (m : (ℓ : Loc Cert.Wts.nD Cert.Wts.τ Cert.Wts.sig) → Buf (Elt Bits) ℓ) : Prop :=
  True

def Pre_WtsIdeal (m : (ℓ : Loc Cert.WtsIdeal.nD Cert.WtsIdeal.τ Cert.WtsIdeal.sig) → Buf (Elt Ideal) ℓ) : Prop :=
  True

def Pre_WtsRefIdeal (m : (ℓ : Loc Cert.WtsRefIdeal.nD Cert.WtsRefIdeal.τ Cert.WtsRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8)
      ∧ r.2.mem ((c.tc : Thread Cert.Lru.nD Cert.Lru.τ).loc Cert.Lru.main_arg9) = m ((c.tc : Thread Cert.Lru.nD Cert.Lru.τ).loc Cert.Lru.main_arg9))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
      ∧ r.2.mem ((c.tc : Thread Cert.LruIdeal.nD Cert.LruIdeal.τ).loc Cert.LruIdeal.main_arg9) = m ((c.tc : Thread Cert.LruIdeal.nD Cert.LruIdeal.τ).loc Cert.LruIdeal.main_arg9))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7)
      ∧ r.2.mem ((c.tc : Thread Cert.LruRefIdeal.nD Cert.LruRefIdeal.τ).loc Cert.LruRefIdeal.main_arg8) = m ((c.tc : Thread Cert.LruRefIdeal.nD Cert.LruRefIdeal.τ).loc Cert.LruRefIdeal.main_arg8)
      ∧ r.2.mem ((c.tc : Thread Cert.LruRefIdeal.nD Cert.LruRefIdeal.τ).loc Cert.LruRefIdeal.main_arg9) = m ((c.tc : Thread Cert.LruRefIdeal.nD Cert.LruRefIdeal.τ).loc Cert.LruRefIdeal.main_arg9))
      ∧ r.2.sem = fun _ => 0)

def quiescent_Wts [hWts : Cert.Wts.Facts] : Prop :=
  ∀ (m : (ℓ : Loc Cert.Wts.nD Cert.Wts.τ Cert.Wts.sig) → Buf (Elt Bits) ℓ) (g : Dev Cert.Wts.nD → PrngReg), Pre_Wts m →
    θ_run (Cert.Wts.defs (F := Bits)) (onTc (τ := Cert.Wts.τ) (Cert.Wts.main (F := Bits))) ⟨m, fun _ => 0, g⟩ (fun r => (∀ c : Dev Cert.Wts.nD,
      r.2.mem ((c.tc : Thread Cert.Wts.nD Cert.Wts.τ).loc Cert.Wts.main_arg0) = m ((c.tc : Thread Cert.Wts.nD Cert.Wts.τ).loc Cert.Wts.main_arg0)
      ∧ r.2.mem ((c.tc : Thread Cert.Wts.nD Cert.Wts.τ).loc Cert.Wts.main_arg1) = m ((c.tc : Thread Cert.Wts.nD Cert.Wts.τ).loc Cert.Wts.main_arg1))
      ∧ r.2.sem = fun _ => 0)

def quiescent_WtsIdeal [hWtsIdeal : Cert.WtsIdeal.Facts] : Prop :=
  ∀ (m : (ℓ : Loc Cert.WtsIdeal.nD Cert.WtsIdeal.τ Cert.WtsIdeal.sig) → Buf (Elt Ideal) ℓ) (g : Dev Cert.WtsIdeal.nD → PrngReg), Pre_WtsIdeal m →
    θ_run (Cert.WtsIdeal.defs (F := Ideal)) (onTc (τ := Cert.WtsIdeal.τ) (Cert.WtsIdeal.main (F := Ideal))) ⟨m, fun _ => 0, g⟩ (fun r => (∀ c : Dev Cert.WtsIdeal.nD,
      r.2.mem ((c.tc : Thread Cert.WtsIdeal.nD Cert.WtsIdeal.τ).loc Cert.WtsIdeal.main_arg0) = m ((c.tc : Thread Cert.WtsIdeal.nD Cert.WtsIdeal.τ).loc Cert.WtsIdeal.main_arg0)
      ∧ r.2.mem ((c.tc : Thread Cert.WtsIdeal.nD Cert.WtsIdeal.τ).loc Cert.WtsIdeal.main_arg1) = m ((c.tc : Thread Cert.WtsIdeal.nD Cert.WtsIdeal.τ).loc Cert.WtsIdeal.main_arg1))
      ∧ r.2.sem = fun _ => 0)

def quiescent_WtsRefIdeal [hWtsRefIdeal : Cert.WtsRefIdeal.Facts] : Prop :=
  ∀ (m : (ℓ : Loc Cert.WtsRefIdeal.nD Cert.WtsRefIdeal.τ Cert.WtsRefIdeal.sig) → Buf (Elt Ideal) ℓ) (g : Dev Cert.WtsRefIdeal.nD → PrngReg), Pre_WtsRefIdeal m →
    θ_run (Cert.WtsRefIdeal.defs (F := Ideal)) (onTc (τ := Cert.WtsRefIdeal.τ) (Cert.WtsRefIdeal.main (F := Ideal))) ⟨m, fun _ => 0, g⟩ (fun r => (∀ c : Dev Cert.WtsRefIdeal.nD,
      r.2.mem ((c.tc : Thread Cert.WtsRefIdeal.nD Cert.WtsRefIdeal.τ).loc Cert.WtsRefIdeal.main_arg0) = m ((c.tc : Thread Cert.WtsRefIdeal.nD Cert.WtsRefIdeal.τ).loc Cert.WtsRefIdeal.main_arg0)
      ∧ r.2.mem ((c.tc : Thread Cert.WtsRefIdeal.nD Cert.WtsRefIdeal.τ).loc Cert.WtsRefIdeal.main_arg1) = m ((c.tc : Thread Cert.WtsRefIdeal.nD Cert.WtsRefIdeal.τ).loc Cert.WtsRefIdeal.main_arg1))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v59) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Lru_LruIdeal : Prop :=
  IdealRules.named_const.Statement Cert.LruIdeal.κ "half_log2_e" .f32 0x3F38AA3B#32 (((2 * (Real.log 2))⁻¹ : ℝ) : EReal)

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)) →
    ∃ (v0 : (c : Dev Cert.LruIdeal.nD) → Buf (Elt Ideal) ((c.tc : Thread Cert.LruIdeal.nD Cert.LruIdeal.τ).loc Cert.LruIdeal.main_v0)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v0) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
          ∧ r.2.mem ((c.tc : Thread Cert.LruIdeal.nD Cert.LruIdeal.τ).loc Cert.LruIdeal.main_arg8) = m ((c.tc : Thread Cert.LruIdeal.nD Cert.LruIdeal.τ).loc Cert.LruIdeal.main_arg8)
          ∧ r.2.mem ((c.tc : Thread Cert.LruIdeal.nD Cert.LruIdeal.τ).loc Cert.LruIdeal.main_arg9) = m ((c.tc : Thread Cert.LruIdeal.nD Cert.LruIdeal.τ).loc Cert.LruIdeal.main_arg9))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v109) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7)
          ∧ r.2.mem ((c.tc : Thread Cert.LruRefIdeal.nD Cert.LruRefIdeal.τ).loc Cert.LruRefIdeal.main_arg8) = m' ((c.tc : Thread Cert.LruRefIdeal.nD Cert.LruRefIdeal.τ).loc Cert.LruRefIdeal.main_arg8)
          ∧ r.2.mem ((c.tc : Thread Cert.LruRefIdeal.nD Cert.LruRefIdeal.τ).loc Cert.LruRefIdeal.main_arg9) = m' ((c.tc : Thread Cert.LruRefIdeal.nD Cert.LruRefIdeal.τ).loc Cert.LruRefIdeal.main_arg9))

def preserves_Wts_WtsIdeal : Prop :=
  True

def algebraic_WtsIdeal_WtsRefIdeal [hWtsIdeal : Cert.WtsIdeal.Facts] [hWtsRefIdeal : Cert.WtsRefIdeal.Facts] : Prop :=
  ∀ (m : (ℓ : Loc Cert.WtsIdeal.nD Cert.WtsIdeal.τ Cert.WtsIdeal.sig) → Buf (Elt Ideal) ℓ) (g : Dev Cert.WtsIdeal.nD → PrngReg)
    (m' : (ℓ : Loc Cert.WtsRefIdeal.nD Cert.WtsRefIdeal.τ Cert.WtsRefIdeal.sig) → Buf (Elt Ideal) ℓ) (g' : Dev Cert.WtsRefIdeal.nD → PrngReg), Pre_WtsIdeal m →
    (∀ c : Dev Cert.WtsIdeal.nD,
      m' ((c.tc : Thread Cert.WtsRefIdeal.nD Cert.WtsRefIdeal.τ).loc Cert.WtsRefIdeal.main_arg0) = m ((c.tc : Thread Cert.WtsIdeal.nD Cert.WtsIdeal.τ).loc Cert.WtsIdeal.main_arg0)
      ∧ m' ((c.tc : Thread Cert.WtsRefIdeal.nD Cert.WtsRefIdeal.τ).loc Cert.WtsRefIdeal.main_arg1) = m ((c.tc : Thread Cert.WtsIdeal.nD Cert.WtsIdeal.τ).loc Cert.WtsIdeal.main_arg1)) →
    ∃ (v0 : (c : Dev Cert.WtsIdeal.nD) → Buf (Elt Ideal) ((c.tc : Thread Cert.WtsIdeal.nD Cert.WtsIdeal.τ).loc Cert.WtsIdeal.main_v0_0)) (v1 : (c : Dev Cert.WtsIdeal.nD) → Buf (Elt Ideal) ((c.tc : Thread Cert.WtsIdeal.nD Cert.WtsIdeal.τ).loc Cert.WtsIdeal.main_v0_1)),
      θ_run (Cert.WtsIdeal.defs (F := Ideal)) (onTc (τ := Cert.WtsIdeal.τ) (Cert.WtsIdeal.main (F := Ideal))) ⟨m, fun _ => 0, g⟩ (fun r => ∀ c : Dev Cert.WtsIdeal.nD,
          r.2.mem ((c.tc : Thread Cert.WtsIdeal.nD Cert.WtsIdeal.τ).loc Cert.WtsIdeal.main_v0_0) = v0 c
          ∧ r.2.mem ((c.tc : Thread Cert.WtsIdeal.nD Cert.WtsIdeal.τ).loc Cert.WtsIdeal.main_v0_1) = v1 c
          ∧ r.2.mem ((c.tc : Thread Cert.WtsIdeal.nD Cert.WtsIdeal.τ).loc Cert.WtsIdeal.main_arg0) = m ((c.tc : Thread Cert.WtsIdeal.nD Cert.WtsIdeal.τ).loc Cert.WtsIdeal.main_arg0)
          ∧ r.2.mem ((c.tc : Thread Cert.WtsIdeal.nD Cert.WtsIdeal.τ).loc Cert.WtsIdeal.main_arg1) = m ((c.tc : Thread Cert.WtsIdeal.nD Cert.WtsIdeal.τ).loc Cert.WtsIdeal.main_arg1))
      ∧ θ_run (Cert.WtsRefIdeal.defs (F := Ideal)) (onTc (τ := Cert.WtsRefIdeal.τ) (Cert.WtsRefIdeal.main (F := Ideal))) ⟨m', fun _ => 0, g'⟩ (fun r => ∀ c : Dev Cert.WtsRefIdeal.nD,
          r.2.mem ((c.tc : Thread Cert.WtsRefIdeal.nD Cert.WtsRefIdeal.τ).loc Cert.WtsRefIdeal.main_v40) = v0 c
          ∧ r.2.mem ((c.tc : Thread Cert.WtsRefIdeal.nD Cert.WtsRefIdeal.τ).loc Cert.WtsRefIdeal.main_v81) = v1 c
          ∧ r.2.mem ((c.tc : Thread Cert.WtsRefIdeal.nD Cert.WtsRefIdeal.τ).loc Cert.WtsRefIdeal.main_arg0) = m' ((c.tc : Thread Cert.WtsRefIdeal.nD Cert.WtsRefIdeal.τ).loc Cert.WtsRefIdeal.main_arg0)
          ∧ r.2.mem ((c.tc : Thread Cert.WtsRefIdeal.nD Cert.WtsRefIdeal.τ).loc Cert.WtsRefIdeal.main_arg1) = m' ((c.tc : Thread Cert.WtsRefIdeal.nD Cert.WtsRefIdeal.τ).loc Cert.WtsRefIdeal.main_arg1))

def Claim : Prop :=
  ∃ (hMerge : Cert.Merge.Facts) (hMergeIdeal : Cert.MergeIdeal.Facts) (hMergeRefIdeal : Cert.MergeRefIdeal.Facts) (hLru : Cert.Lru.Facts) (hLruIdeal : Cert.LruIdeal.Facts) (hLruRefIdeal : Cert.LruRefIdeal.Facts) (hWts : Cert.Wts.Facts) (hWtsIdeal : Cert.WtsIdeal.Facts) (hWtsRefIdeal : Cert.WtsRefIdeal.Facts),
    quiescent_Merge (hMerge := hMerge)
    ∧ quiescent_MergeIdeal (hMergeIdeal := hMergeIdeal)
    ∧ quiescent_MergeRefIdeal (hMergeRefIdeal := hMergeRefIdeal)
    ∧ quiescent_Lru (hLru := hLru)
    ∧ quiescent_LruIdeal (hLruIdeal := hLruIdeal)
    ∧ quiescent_LruRefIdeal (hLruRefIdeal := hLruRefIdeal)
    ∧ quiescent_Wts (hWts := hWts)
    ∧ quiescent_WtsIdeal (hWtsIdeal := hWtsIdeal)
    ∧ quiescent_WtsRefIdeal (hWtsRefIdeal := hWtsRefIdeal)
    ∧ preserves_Merge_MergeIdeal
    ∧ algebraic_MergeIdeal_MergeRefIdeal (hMergeIdeal := hMergeIdeal) (hMergeRefIdeal := hMergeRefIdeal)
    ∧ preserves_Lru_LruIdeal
    ∧ algebraic_LruIdeal_LruRefIdeal (hLruIdeal := hLruIdeal) (hLruRefIdeal := hLruRefIdeal)
    ∧ preserves_Wts_WtsIdeal
    ∧ algebraic_WtsIdeal_WtsRefIdeal (hWtsIdeal := hWtsIdeal) (hWtsRefIdeal := hWtsRefIdeal)
-- ==== Merge.lean ====
abbrev S16384x1024 : Shape := ⟨2, ![16384, 1024]⟩
abbrev S16384x512 : Shape := ⟨2, ![16384, 512]⟩
abbrev S1024x9216 : Shape := ⟨2, ![1024, 9216]⟩
abbrev S1x9216 : Shape := ⟨2, ![1, 9216]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S1024x2048 : Shape := ⟨2, ![1024, 2048]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 12
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x1024, .bf16⟩
  | .hbm, ⟨3, _⟩ => ⟨S1024x9216, .f32⟩
  | .hbm, ⟨4, _⟩ => ⟨S1x9216, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1024x2048, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_4 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_5 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_6 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S16384x1024 : Shape := ⟨2, ![16384, 1024]⟩
abbrev S16384x512 : Shape := ⟨2, ![16384, 512]⟩
abbrev S1024x9216 : Shape := ⟨2, ![1024, 9216]⟩
abbrev S1x9216 : Shape := ⟨2, ![1, 9216]⟩
abbrev S512x1024 : Shape := ⟨2, ![512, 1024]⟩
abbrev S1024x1024 : Shape := ⟨2, ![1024, 1024]⟩
abbrev S1x1024 : Shape := ⟨2, ![1, 1024]⟩
abbrev S16384x9216 : Shape := ⟨2, ![16384, 9216]⟩
abbrev S9216 : Shape := ⟨1, ![9216]⟩
abbrev S16384x1536 : Shape := ⟨2, ![16384, 1536]⟩
abbrev S16384x2048 : Shape := ⟨2, ![16384, 2048]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x1024, .bf16⟩
  | .hbm, ⟨3, _⟩ => ⟨S1024x9216, .f32⟩
  | .hbm, ⟨4, _⟩ => ⟨S1x9216, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S16384x9216, .f32⟩
  | .hbm, ⟨12, _⟩ => ⟨S9216, .f32⟩
  | .hbm, ⟨13, _⟩ => ⟨S1x9216, .f32⟩
  | .hbm, ⟨14, _⟩ => ⟨S16384x9216, .f32⟩
  | .hbm, ⟨15, _⟩ => ⟨S16384x9216, .f32⟩
  | .hbm, ⟨16, _⟩ => ⟨S16384x1536, .f32⟩
  | .hbm, ⟨17, _⟩ => ⟨S16384x1536, .f32⟩
  | .hbm, ⟨18, _⟩ => ⟨S16384x1536, .f32⟩
  | .hbm, ⟨19, _⟩ => ⟨S16384x512, .f32⟩
  | .hbm, ⟨20, _⟩ => ⟨S16384x1024, .f32⟩
  | .hbm, ⟨21, _⟩ => ⟨S16384x1024, .f32⟩
  | .hbm, ⟨22, _⟩ => ⟨S16384x2048, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Lru.lean ====
abbrev S4x4096x1024 : Shape := ⟨3, ![4, 4096, 1024]⟩
abbrev S1024x9216 : Shape := ⟨2, ![1024, 9216]⟩
abbrev S1x9216 : Shape := ⟨2, ![1, 9216]⟩
abbrev S4x1024 : Shape := ⟨2, ![4, 1024]⟩
abbrev S1x1024 : Shape := ⟨2, ![1, 1024]⟩
abbrev S16x64x64 : Shape := ⟨3, ![16, 64, 64]⟩
abbrev S1024x256 : Shape := ⟨2, ![1024, 256]⟩
abbrev S4x64x64 : Shape := ⟨3, ![4, 64, 64]⟩
abbrev S1x4096x256 : Shape := ⟨3, ![1, 4096, 256]⟩
abbrev S1024x512 : Shape := ⟨2, ![1024, 512]⟩
abbrev S256x512 : Shape := ⟨2, ![256, 512]⟩
abbrev S2x4104x128 : Shape := ⟨3, ![2, 4104, 128]⟩
abbrev S4096x256 : Shape := ⟨2, ![4096, 256]⟩
abbrev S2x4160x128 : Shape := ⟨3, ![2, 4160, 128]⟩
abbrev S3x1024x1024 : Shape := ⟨3, ![3, 1024, 1024]⟩
abbrev S3 : Shape := ⟨1, ![3]⟩
abbrev S2x8x128 : Shape := ⟨3, ![2, 8, 128]⟩
abbrev S1x256 : Shape := ⟨2, ![1, 256]⟩
abbrev S4x256 : Shape := ⟨2, ![4, 256]⟩
abbrev S1x64x64 : Shape := ⟨3, ![1, 64, 64]⟩
abbrev S64x64 : Shape := ⟨2, ![64, 64]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1024x128 : Shape := ⟨2, ![1024, 128]⟩
abbrev S1x1024x128 : Shape := ⟨3, ![1, 1024, 128]⟩
abbrev S1x128 : Shape := ⟨2, ![1, 128]⟩
abbrev S256x128 : Shape := ⟨2, ![256, 128]⟩
abbrev S1x256x128 : Shape := ⟨3, ![1, 256, 128]⟩
abbrev S8x128 : Shape := ⟨2, ![8, 128]⟩
abbrev S1x8x128 : Shape := ⟨3, ![1, 8, 128]⟩

abbrev nBuf : Space → Nat
  | .hbm => 11
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S1024x9216, .f32⟩
  | .hbm, ⟨2, _⟩ => ⟨S1x9216, .f32⟩
  | .hbm, ⟨3, _⟩ => ⟨S4x1024, .f32⟩
  | .hbm, ⟨4, _⟩ => ⟨S1x1024, .f32⟩
  | .hbm, ⟨5, _⟩ => ⟨S16x64x64, .f32⟩
  | .hbm, ⟨6, _⟩ => ⟨S1x1024, .f32⟩
  | .hbm, ⟨7, _⟩ => ⟨S16x64x64, .f32⟩
  | .hbm, ⟨8, _⟩ => ⟨S1x1024, .f32⟩
  | .hbm, ⟨9, _⟩ => ⟨S1x1024, .f32⟩
  | .hbm, ⟨10, _⟩ => ⟨S4x4096x1024, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S4x64x64, .f32⟩
  | .local _ .vmem, ⟨5, _⟩ => ⟨S4x64x64, .f32⟩
  | .local _ .vmem, ⟨6, _⟩ => ⟨S4x64x64, .f32⟩
  | .local _ .vmem, ⟨7, _⟩ => ⟨S4x64x64, .f32⟩
  | .local _ .vmem, ⟨8, _⟩ => ⟨S1x9216, .f32⟩
  | .local _ .vmem, ⟨9, _⟩ => ⟨S4x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x4096x256, .bf16⟩
  | .local _ .vmem, ⟨15, _⟩ => ⟨S1x4096x256, .bf16⟩
  | .local _ .vmem, ⟨16, _⟩ => ⟨S1024x512, .bf16⟩
  | .local _ .vmem, ⟨17, _⟩ => ⟨S256x512, .bf16⟩
  | .local _ .vmem, ⟨18, _⟩ => ⟨S2x4104x128, .f32⟩
  | .local _ .vmem, ⟨19, _⟩ => ⟨S4096x256, .f32⟩
  | .local _ .vmem, ⟨20, _⟩ => ⟨S2x4160x128, .f32⟩
  | .local _ .vmem, ⟨21, _⟩ => ⟨S2x4160x128, .f32⟩
  | .local _ .vmem, ⟨22, _⟩ => ⟨S3x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c5120_i32 : BitVec 32 := 5120#32
  let arg1 : BitVec 32 := BitVec.ofNat 32 (i 1).val
  let c256_i32 : BitVec 32 := 256#32
  let v4 : BitVec 32 := Scalar.muli arg1 c256_i32
  let v5 : BitVec 32 := Scalar.addi c5120_i32 v4
  v5
def k0_off1 (i : grid0.Coords) (c5120_i32 : BitVec 32) : Fin 2 → Nat :=
  let c0_2 : Index := 0#32
  let arg1 : BitVec 32 := BitVec.ofNat 32 (i 1).val
  let c256_i32 : BitVec 32 := 256#32
  let v4 : BitVec 32 := Scalar.muli arg1 c256_i32
  let v5 : BitVec 32 := Scalar.addi c5120_i32 v4
  let v6 : BitVec 32 := v5
  let v7 : Index := Scalar.indexCast v6
  ![0, v7.toNat]
def k0_mult2 (i : grid0.Coords) : BitVec 32 :=
  let c6144_i32 : BitVec 32 := 6144#32
  let arg1 : BitVec 32 := BitVec.ofNat 32 (i 1).val
  let c256_i32_3 : BitVec 32 := 256#32
  let v9 : BitVec 32 := Scalar.muli arg1 c256_i32_3
  let v10 : BitVec 32 := Scalar.addi c6144_i32 v9
  v10
def k0_mult3 (i : grid0.Coords) : BitVec 32 :=
  let c0_i32 : BitVec 32 := 0#32
  let arg1 : BitVec 32 := BitVec.ofNat 32 (i 1).val
  let c256_i32_5 : BitVec 32 := 256#32
  let v14 : BitVec 32 := Scalar.muli arg1 c256_i32_5
  let v15 : BitVec 32 := Scalar.addi c0_i32 v14
  v15
def k0_off2 (i : grid0.Coords) : Fin 2 → Nat :=
  let c0_6 : Index := 0#32
  let c0_i32 : BitVec 32 := 0#32
  let arg1 : BitVec 32 := BitVec.ofNat 32 (i 1).val
  let c256_i32_5 : BitVec 32 := 256#32
  let v14 : BitVec 32 := Scalar.muli arg1 c256_i32_5
  let v15 : BitVec 32 := Scalar.addi c0_i32 v14
  let v16 : BitVec 32 := v15
  let v17 : Index := Scalar.indexCast v16
  ![0, v17.toNat]
def k0_mult4 (i : grid0.Coords) : BitVec 32 :=
  let c0_i32_8 : BitVec 32 := 0#32
  let arg1 : BitVec 32 := BitVec.ofNat 32 (i 1).val
  let c256_i32_7 : BitVec 32 := 256#32
  let v19 : BitVec 32 := Scalar.muli arg1 c256_i32_7
  let v20 : BitVec 32 := Scalar.addi c0_i32_8 v19
  v20
def k0_off3 (i : grid0.Coords) : Fin 2 → Nat :=
  let c0_9 : Index := 0#32
  let c0_i32_8 : BitVec 32 := 0#32
  let arg1 : BitVec 32 := BitVec.ofNat 32 (i 1).val
  let c256_i32_7 : BitVec 32 := 256#32
  let v19 : BitVec 32 := Scalar.muli arg1 c256_i32_7
  let v20 : BitVec 32 := Scalar.addi c0_i32_8 v19
  let v21 : BitVec 32 := v20
  let v22 : Index := Scalar.indexCast v21
  ![0, v22.toNat]
def k0_mult5 (i : grid0.Coords) : BitVec 32 :=
  let c0_i32_11 : BitVec 32 := 0#32
  let arg1 : BitVec 32 := BitVec.ofNat 32 (i 1).val
  let c256_i32_10 : BitVec 32 := 256#32
  let v24 : BitVec 32 := Scalar.muli arg1 c256_i32_10
  let v25 : BitVec 32 := Scalar.addi c0_i32_11 v24
  v25
def k0_mult6 (i : grid0.Coords) : BitVec 32 :=
  let c0_i32_14 : BitVec 32 := 0#32
  let arg1 : BitVec 32 := BitVec.ofNat 32 (i 1).val
  let c256_i32_13 : BitVec 32 := 256#32
  let v29 : BitVec 32 := Scalar.muli arg1 c256_i32_13
  let v30 : BitVec 32 := Scalar.addi c0_i32_14 v29
  v30
def k0_cond1 (i : grid0.Coords) : BitVec 1 :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c0_i32_57 : BitVec 32 := 0#32
  let v98 : BitVec 1 := Scalar.cmpi .eq v97 c0_i32_57
  let v99 : BitVec 32 := Scalar.extui v98
  let c0_i32_58 : BitVec 32 := 0#32
  let v100 : BitVec 1 := Scalar.cmpi .ne v99 c0_i32_58
  v100

def k0_mult7 : BitVec 32 :=
  let c0_i32_500 : BitVec 32 := 0#32
  let c4_i32_501 : BitVec 32 := 4#32
  let v876 : BitVec 32 := Scalar.remsi c0_i32_500 c4_i32_501
  let c1024_i32_502 : BitVec 32 := 1024#32
  let v877 : BitVec 32 := Scalar.muli v876 c1024_i32_502
  v877
def k0_off4 (c0_i32_503 : BitVec 32) : Fin 1 → Nat :=
  let c3_i32_504 : BitVec 32 := 3#32
  let v879 : BitVec 32 := Scalar.remsi c0_i32_503 c3_i32_504
  ![v879.toNat]
def k0_off5 (c0_i32_503 : BitVec 32) : Fin 3 → Nat :=
  let c3_i32_504 : BitVec 32 := 3#32
  let v879 : BitVec 32 := Scalar.remsi c0_i32_503 c3_i32_504
  let c0_i32_505 : BitVec 32 := 0#32
  let c0_i32_506 : BitVec 32 := 0#32
  ![v879.toNat, 0, 0]
def k0_off6 (c0_i32_498 : BitVec 32) (c0_i32_500 : BitVec 32) : Fin 3 → Nat :=
  let c16_i32_499 : BitVec 32 := 16#32
  let v875 : BitVec 32 := Scalar.divsi c0_i32_498 c16_i32_499
  let c4_i32_501 : BitVec 32 := 4#32
  let v876 : BitVec 32 := Scalar.remsi c0_i32_500 c4_i32_501
  let c1024_i32_502 : BitVec 32 := 1024#32
  let v877 : BitVec 32 := Scalar.muli v876 c1024_i32_502
  let v878 : BitVec 32 := v877
  let c0_i32_507 : BitVec 32 := 0#32
  ![v875.toNat, v878.toNat, 0]
def k0_off6_at (r : Fin 2) : BitVec 32 × BitVec 32 :=
  if r.val < 1 then
    (0#32, 0#32)
  else
    (1#32, 1#32)
def k0_mult8 : BitVec 32 :=
  let c1_i32_510 : BitVec 32 := 1#32
  let c4_i32_511 : BitVec 32 := 4#32
  let v887 : BitVec 32 := Scalar.remsi c1_i32_510 c4_i32_511
  let c1024_i32_512 : BitVec 32 := 1024#32
  let v888 : BitVec 32 := Scalar.muli v887 c1024_i32_512
  v888
def k0_mult9 (i : grid0.Coords) : BitVec 32 :=
  let c0_i32_60 : BitVec 32 := 0#32
  let arg1 : BitVec 32 := BitVec.ofNat 32 (i 1).val
  let c256_i32_59 : BitVec 32 := 256#32
  let v101 : BitVec 32 := Scalar.muli arg1 c256_i32_59
  let v102 : BitVec 32 := Scalar.addi c0_i32_60 v101
  v102
def k0_mult10 (i : grid0.Coords) : BitVec 32 :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_66 : BitVec 32 := 4#32
  let v118 : BitVec 32 := Scalar.muli v97 c4_i32_66
  let c0_i32_67 : BitVec 32 := 0#32
  let v119 : BitVec 32 := Scalar.addi v118 c0_i32_67
  let c4_i32_68 : BitVec 32 := 4#32
  let v121 : BitVec 32 := Scalar.remsi v119 c4_i32_68
  let c1024_i32 : BitVec 32 := 1024#32
  let v122 : BitVec 32 := Scalar.muli v121 c1024_i32
  v122
def k0_off7 (i : grid0.Coords) : Fin 1 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_66 : BitVec 32 := 4#32
  let v118 : BitVec 32 := Scalar.muli v97 c4_i32_66
  let c0_i32_67 : BitVec 32 := 0#32
  let v119 : BitVec 32 := Scalar.addi v118 c0_i32_67
  let c3_i32 : BitVec 32 := 3#32
  let v124 : BitVec 32 := Scalar.remsi v119 c3_i32
  ![v124.toNat]
def k0_off8 (i : grid0.Coords) : Fin 3 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_66 : BitVec 32 := 4#32
  let v118 : BitVec 32 := Scalar.muli v97 c4_i32_66
  let c0_i32_67 : BitVec 32 := 0#32
  let v119 : BitVec 32 := Scalar.addi v118 c0_i32_67
  let c3_i32 : BitVec 32 := 3#32
  let v124 : BitVec 32 := Scalar.remsi v119 c3_i32
  let c0_i32_69 : BitVec 32 := 0#32
  let c0_i32_70 : BitVec 32 := 0#32
  ![v124.toNat, 0, 0]
def k0_off9 (i : grid0.Coords) : Fin 3 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_66 : BitVec 32 := 4#32
  let v118 : BitVec 32 := Scalar.muli v97 c4_i32_66
  let c0_i32_67 : BitVec 32 := 0#32
  let v119 : BitVec 32 := Scalar.addi v118 c0_i32_67
  let c16_i32 : BitVec 32 := 16#32
  let v120 : BitVec 32 := Scalar.divsi v119 c16_i32
  let c4_i32_68 : BitVec 32 := 4#32
  let v121 : BitVec 32 := Scalar.remsi v119 c4_i32_68
  let c1024_i32 : BitVec 32 := 1024#32
  let v122 : BitVec 32 := Scalar.muli v121 c1024_i32
  let v123 : BitVec 32 := v122
  let c0_i32_71 : BitVec 32 := 0#32
  ![v120.toNat, v123.toNat, 0]
def k0_cond2 (i : grid0.Coords) : BitVec 1 :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_66 : BitVec 32 := 4#32
  let v118 : BitVec 32 := Scalar.muli v97 c4_i32_66
  let c0_i32_67 : BitVec 32 := 0#32
  let v119 : BitVec 32 := Scalar.addi v118 c0_i32_67
  let c2_i32 : BitVec 32 := 2#32
  let v131 : BitVec 32 := Scalar.addi v119 c2_i32
  let c64_i32 : BitVec 32 := 64#32
  let v132 : BitVec 1 := Scalar.cmpi .slt v131 c64_i32
  let v133 : BitVec 32 := Scalar.extui v132
  let c0_i32_72 : BitVec 32 := 0#32
  let v134 : BitVec 1 := Scalar.cmpi .ne v133 c0_i32_72
  v134

def k0_mult11 (i : grid0.Coords) : BitVec 32 :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_66 : BitVec 32 := 4#32
  let v118 : BitVec 32 := Scalar.muli v97 c4_i32_66
  let c0_i32_67 : BitVec 32 := 0#32
  let v119 : BitVec 32 := Scalar.addi v118 c0_i32_67
  let c2_i32_498 : BitVec 32 := 2#32
  let v875 : BitVec 32 := Scalar.addi v119 c2_i32_498
  let c4_i32_500 : BitVec 32 := 4#32
  let v877 : BitVec 32 := Scalar.remsi v875 c4_i32_500
  let c1024_i32_501 : BitVec 32 := 1024#32
  let v878 : BitVec 32 := Scalar.muli v877 c1024_i32_501
  v878
def k0_off10 (i : grid0.Coords) : Fin 1 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_66 : BitVec 32 := 4#32
  let v118 : BitVec 32 := Scalar.muli v97 c4_i32_66
  let c0_i32_67 : BitVec 32 := 0#32
  let v119 : BitVec 32 := Scalar.addi v118 c0_i32_67
  let c2_i32_498 : BitVec 32 := 2#32
  let v875 : BitVec 32 := Scalar.addi v119 c2_i32_498
  let c3_i32_502 : BitVec 32 := 3#32
  let v880 : BitVec 32 := Scalar.remsi v875 c3_i32_502
  ![v880.toNat]
def k0_off11 (i : grid0.Coords) : Fin 3 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_66 : BitVec 32 := 4#32
  let v118 : BitVec 32 := Scalar.muli v97 c4_i32_66
  let c0_i32_67 : BitVec 32 := 0#32
  let v119 : BitVec 32 := Scalar.addi v118 c0_i32_67
  let c2_i32_498 : BitVec 32 := 2#32
  let v875 : BitVec 32 := Scalar.addi v119 c2_i32_498
  let c3_i32_502 : BitVec 32 := 3#32
  let v880 : BitVec 32 := Scalar.remsi v875 c3_i32_502
  let c0_i32_503 : BitVec 32 := 0#32
  let c0_i32_504 : BitVec 32 := 0#32
  ![v880.toNat, 0, 0]
def k0_off12 (i : grid0.Coords) : Fin 3 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_66 : BitVec 32 := 4#32
  let v118 : BitVec 32 := Scalar.muli v97 c4_i32_66
  let c0_i32_67 : BitVec 32 := 0#32
  let v119 : BitVec 32 := Scalar.addi v118 c0_i32_67
  let c2_i32_498 : BitVec 32 := 2#32
  let v875 : BitVec 32 := Scalar.addi v119 c2_i32_498
  let c16_i32_499 : BitVec 32 := 16#32
  let v876 : BitVec 32 := Scalar.divsi v875 c16_i32_499
  let c4_i32_500 : BitVec 32 := 4#32
  let v877 : BitVec 32 := Scalar.remsi v875 c4_i32_500
  let c1024_i32_501 : BitVec 32 := 1024#32
  let v878 : BitVec 32 := Scalar.muli v877 c1024_i32_501
  let v879 : BitVec 32 := v878
  let c0_i32_505 : BitVec 32 := 0#32
  ![v876.toNat, v879.toNat, 0]
def k0_mult12 : BitVec 32 :=
  let c0_i32_73 : BitVec 32 := 0#32
  c0_i32_73
def k0_off13 (i : grid0.Coords) : Fin 3 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_74 : BitVec 32 := 4#32
  let v136 : BitVec 32 := Scalar.muli v97 c4_i32_74
  let c0_i32_75 : BitVec 32 := 0#32
  let v137 : BitVec 32 := Scalar.addi v136 c0_i32_75
  let c3_i32_76 : BitVec 32 := 3#32
  let v138 : BitVec 32 := Scalar.remsi v137 c3_i32_76
  let v139 : Index := Scalar.indexCast v138
  let c0_77 : Index := 0#32
  let c0_78 : Index := 0#32
  ![v139.toNat, 0, 0]
def k0_off14 (c0_i32_73 : BitVec 32) (c8_i32 : BitVec 32) : Fin 3 → Nat :=
  let c0_82 : Index := 0#32
  let v135 : BitVec 32 := c0_i32_73
  let v149 : BitVec 32 := Scalar.addi v135 c8_i32
  let v150 : Index := Scalar.indexCast v149
  let c0_83 : Index := 0#32
  ![0, v150.toNat, 0]
def k0_off14_at (r : Fin 5) : BitVec 32 × BitVec 32 :=
  if r.val < 2 then
    if r.val < 1 then
      (0#32, 8#32)
    else
      (3072#32, 5#32)
  else
    if r.val < 3 then
      (3072#32, 6#32)
    else
      if r.val < 4 then
        (3072#32, 7#32)
      else
        (3072#32, 8#32)
def k0_off15 (c0_i32_73 : BitVec 32) (c8_i32_84 : BitVec 32) : Fin 3 → Nat :=
  let c1_85 : Index := 1#32
  let v135 : BitVec 32 := c0_i32_73
  let v155 : BitVec 32 := Scalar.addi v135 c8_i32_84
  let v156 : Index := Scalar.indexCast v155
  let c0_86 : Index := 0#32
  ![1, v156.toNat, 0]
def k0_off15_at (r : Fin 5) : BitVec 32 × BitVec 32 :=
  if r.val < 2 then
    if r.val < 1 then
      (0#32, 8#32)
    else
      (3072#32, 5#32)
  else
    if r.val < 3 then
      (3072#32, 6#32)
    else
      if r.val < 4 then
        (3072#32, 7#32)
      else
        (3072#32, 8#32)
@[reducible] def k0_t1_loop : Scf.Loop 32 :=
  let c0_i32_88 : BitVec 32 := 0#32
  let c3_i32_89 : BitVec 32 := 3#32
  let v169 : BitVec 32 := Scalar.addi c0_i32_88 c3_i32_89
  let c1_i32 : BitVec 32 := 1#32
  ⟨c0_i32_88, v169, c1_i32⟩
def k0_mult13 (i : grid0.Coords) (k0_t1 : Fin k0_t1_loop.trips) : BitVec 32 :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_499 : BitVec 32 := 4#32
  let v876 : BitVec 32 := Scalar.muli v97 c4_i32_499
  let c0_i32_88 : BitVec 32 := 0#32
  let c1_i32 : BitVec 32 := 1#32
  let arg22 : BitVec 32 := Scf.iv c0_i32_88 c1_i32 k0_t1
  let c1_i32_498 : BitVec 32 := 1#32
  let v875 : BitVec 32 := Scalar.addi arg22 c1_i32_498
  let v877 : BitVec 32 := Scalar.addi v876 v875
  let c4_i32_501 : BitVec 32 := 4#32
  let v879 : BitVec 32 := Scalar.remsi v877 c4_i32_501
  let c1024_i32_502 : BitVec 32 := 1024#32
  let v880 : BitVec 32 := Scalar.muli v879 c1024_i32_502
  v880
def k0_off16 (i : grid0.Coords) (k0_t1 : Fin k0_t1_loop.trips) : Fin 1 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_499 : BitVec 32 := 4#32
  let v876 : BitVec 32 := Scalar.muli v97 c4_i32_499
  let c0_i32_88 : BitVec 32 := 0#32
  let c1_i32 : BitVec 32 := 1#32
  let arg22 : BitVec 32 := Scf.iv c0_i32_88 c1_i32 k0_t1
  let c1_i32_498 : BitVec 32 := 1#32
  let v875 : BitVec 32 := Scalar.addi arg22 c1_i32_498
  let v877 : BitVec 32 := Scalar.addi v876 v875
  let c3_i32_503 : BitVec 32 := 3#32
  let v882 : BitVec 32 := Scalar.remsi v877 c3_i32_503
  ![v882.toNat]
def k0_off17 (i : grid0.Coords) (k0_t1 : Fin k0_t1_loop.trips) : Fin 3 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_499 : BitVec 32 := 4#32
  let v876 : BitVec 32 := Scalar.muli v97 c4_i32_499
  let c0_i32_88 : BitVec 32 := 0#32
  let c1_i32 : BitVec 32 := 1#32
  let arg22 : BitVec 32 := Scf.iv c0_i32_88 c1_i32 k0_t1
  let c1_i32_498 : BitVec 32 := 1#32
  let v875 : BitVec 32 := Scalar.addi arg22 c1_i32_498
  let v877 : BitVec 32 := Scalar.addi v876 v875
  let c3_i32_503 : BitVec 32 := 3#32
  let v882 : BitVec 32 := Scalar.remsi v877 c3_i32_503
  let c0_i32_504 : BitVec 32 := 0#32
  let c0_i32_505 : BitVec 32 := 0#32
  ![v882.toNat, 0, 0]
def k0_off18 (i : grid0.Coords) (k0_t1 : Fin k0_t1_loop.trips) : Fin 3 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_499 : BitVec 32 := 4#32
  let v876 : BitVec 32 := Scalar.muli v97 c4_i32_499
  let c0_i32_88 : BitVec 32 := 0#32
  let c1_i32 : BitVec 32 := 1#32
  let arg22 : BitVec 32 := Scf.iv c0_i32_88 c1_i32 k0_t1
  let c1_i32_498 : BitVec 32 := 1#32
  let v875 : BitVec 32 := Scalar.addi arg22 c1_i32_498
  let v877 : BitVec 32 := Scalar.addi v876 v875
  let c16_i32_500 : BitVec 32 := 16#32
  let v878 : BitVec 32 := Scalar.divsi v877 c16_i32_500
  let c4_i32_501 : BitVec 32 := 4#32
  let v879 : BitVec 32 := Scalar.remsi v877 c4_i32_501
  let c1024_i32_502 : BitVec 32 := 1024#32
  let v880 : BitVec 32 := Scalar.muli v879 c1024_i32_502
  let v881 : BitVec 32 := v880
  let c0_i32_506 : BitVec 32 := 0#32
  ![v878.toNat, v881.toNat, 0]
def k0_cond3 (i : grid0.Coords) (k0_t1 : Fin k0_t1_loop.trips) : BitVec 1 :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_499 : BitVec 32 := 4#32
  let v876 : BitVec 32 := Scalar.muli v97 c4_i32_499
  let c0_i32_88 : BitVec 32 := 0#32
  let c1_i32 : BitVec 32 := 1#32
  let arg22 : BitVec 32 := Scf.iv c0_i32_88 c1_i32 k0_t1
  let c1_i32_498 : BitVec 32 := 1#32
  let v875 : BitVec 32 := Scalar.addi arg22 c1_i32_498
  let v877 : BitVec 32 := Scalar.addi v876 v875
  let c2_i32_507 : BitVec 32 := 2#32
  let v889 : BitVec 32 := Scalar.addi v877 c2_i32_507
  let c64_i32_508 : BitVec 32 := 64#32
  let v890 : BitVec 1 := Scalar.cmpi .slt v889 c64_i32_508
  let v891 : BitVec 32 := Scalar.extui v890
  let c0_i32_509 : BitVec 32 := 0#32
  let v892 : BitVec 1 := Scalar.cmpi .ne v891 c0_i32_509
  v892

def k0_mult14 (i : grid0.Coords) (k0_t1 : Fin k0_t1_loop.trips) : BitVec 32 :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_499 : BitVec 32 := 4#32
  let v876 : BitVec 32 := Scalar.muli v97 c4_i32_499
  let c0_i32_88 : BitVec 32 := 0#32
  let c1_i32 : BitVec 32 := 1#32
  let arg22 : BitVec 32 := Scf.iv c0_i32_88 c1_i32 k0_t1
  let c1_i32_498 : BitVec 32 := 1#32
  let v875 : BitVec 32 := Scalar.addi arg22 c1_i32_498
  let v877 : BitVec 32 := Scalar.addi v876 v875
  let c2_i32_601 : BitVec 32 := 2#32
  let v1121 : BitVec 32 := Scalar.addi v877 c2_i32_601
  let c4_i32_603 : BitVec 32 := 4#32
  let v1123 : BitVec 32 := Scalar.remsi v1121 c4_i32_603
  let c1024_i32_604 : BitVec 32 := 1024#32
  let v1124 : BitVec 32 := Scalar.muli v1123 c1024_i32_604
  v1124
def k0_off19 (i : grid0.Coords) (k0_t1 : Fin k0_t1_loop.trips) : Fin 1 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_499 : BitVec 32 := 4#32
  let v876 : BitVec 32 := Scalar.muli v97 c4_i32_499
  let c0_i32_88 : BitVec 32 := 0#32
  let c1_i32 : BitVec 32 := 1#32
  let arg22 : BitVec 32 := Scf.iv c0_i32_88 c1_i32 k0_t1
  let c1_i32_498 : BitVec 32 := 1#32
  let v875 : BitVec 32 := Scalar.addi arg22 c1_i32_498
  let v877 : BitVec 32 := Scalar.addi v876 v875
  let c2_i32_601 : BitVec 32 := 2#32
  let v1121 : BitVec 32 := Scalar.addi v877 c2_i32_601
  let c3_i32_605 : BitVec 32 := 3#32
  let v1126 : BitVec 32 := Scalar.remsi v1121 c3_i32_605
  ![v1126.toNat]
def k0_off20 (i : grid0.Coords) (k0_t1 : Fin k0_t1_loop.trips) : Fin 3 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_499 : BitVec 32 := 4#32
  let v876 : BitVec 32 := Scalar.muli v97 c4_i32_499
  let c0_i32_88 : BitVec 32 := 0#32
  let c1_i32 : BitVec 32 := 1#32
  let arg22 : BitVec 32 := Scf.iv c0_i32_88 c1_i32 k0_t1
  let c1_i32_498 : BitVec 32 := 1#32
  let v875 : BitVec 32 := Scalar.addi arg22 c1_i32_498
  let v877 : BitVec 32 := Scalar.addi v876 v875
  let c2_i32_601 : BitVec 32 := 2#32
  let v1121 : BitVec 32 := Scalar.addi v877 c2_i32_601
  let c3_i32_605 : BitVec 32 := 3#32
  let v1126 : BitVec 32 := Scalar.remsi v1121 c3_i32_605
  let c0_i32_606 : BitVec 32 := 0#32
  let c0_i32_607 : BitVec 32 := 0#32
  ![v1126.toNat, 0, 0]
def k0_off21 (i : grid0.Coords) (k0_t1 : Fin k0_t1_loop.trips) : Fin 3 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_499 : BitVec 32 := 4#32
  let v876 : BitVec 32 := Scalar.muli v97 c4_i32_499
  let c0_i32_88 : BitVec 32 := 0#32
  let c1_i32 : BitVec 32 := 1#32
  let arg22 : BitVec 32 := Scf.iv c0_i32_88 c1_i32 k0_t1
  let c1_i32_498 : BitVec 32 := 1#32
  let v875 : BitVec 32 := Scalar.addi arg22 c1_i32_498
  let v877 : BitVec 32 := Scalar.addi v876 v875
  let c2_i32_601 : BitVec 32 := 2#32
  let v1121 : BitVec 32 := Scalar.addi v877 c2_i32_601
  let c16_i32_602 : BitVec 32 := 16#32
  let v1122 : BitVec 32 := Scalar.divsi v1121 c16_i32_602
  let c4_i32_603 : BitVec 32 := 4#32
  let v1123 : BitVec 32 := Scalar.remsi v1121 c4_i32_603
  let c1024_i32_604 : BitVec 32 := 1024#32
  let v1124 : BitVec 32 := Scalar.muli v1123 c1024_i32_604
  let v1125 : BitVec 32 := v1124
  let c0_i32_608 : BitVec 32 := 0#32
  ![v1122.toNat, v1125.toNat, 0]
def k0_mult15 (k0_t1 : Fin k0_t1_loop.trips) : BitVec 32 :=
  let c0_i32_88 : BitVec 32 := 0#32
  let c1_i32 : BitVec 32 := 1#32
  let arg22 : BitVec 32 := Scf.iv c0_i32_88 c1_i32 k0_t1
  let c1024_i32_510 : BitVec 32 := 1024#32
  let v893 : BitVec 32 := Scalar.muli arg22 c1024_i32_510
  v893
def k0_off22 (k0_t1 : Fin k0_t1_loop.trips) (c5_i32_511 : BitVec 32) : Fin 3 → Nat :=
  let c0_512 : Index := 0#32
  let c0_i32_88 : BitVec 32 := 0#32
  let c1_i32 : BitVec 32 := 1#32
  let arg22 : BitVec 32 := Scf.iv c0_i32_88 c1_i32 k0_t1
  let c1024_i32_510 : BitVec 32 := 1024#32
  let v893 : BitVec 32 := Scalar.muli arg22 c1024_i32_510
  let v894 : BitVec 32 := v893
  let v896 : BitVec 32 := Scalar.addi v894 c5_i32_511
  let v897 : Index := Scalar.indexCast v896
  let c0_513 : Index := 0#32
  ![0, v897.toNat, 0]
def k0_off23 (k0_t1 : Fin k0_t1_loop.trips) (c5_i32_523 : BitVec 32) : Fin 3 → Nat :=
  let c1_524 : Index := 1#32
  let c0_i32_88 : BitVec 32 := 0#32
  let c1_i32 : BitVec 32 := 1#32
  let arg22 : BitVec 32 := Scf.iv c0_i32_88 c1_i32 k0_t1
  let c1024_i32_510 : BitVec 32 := 1024#32
  let v893 : BitVec 32 := Scalar.muli arg22 c1024_i32_510
  let v894 : BitVec 32 := v893
  let v930 : BitVec 32 := Scalar.addi v894 c5_i32_523
  let v931 : Index := Scalar.indexCast v930
  let c0_525 : Index := 0#32
  ![1, v931.toNat, 0]
def k0_off24 (k0_t1 : Fin k0_t1_loop.trips) (c0_i32_543 : BitVec 32) : Fin 3 → Nat :=
  let c0_544 : Index := 0#32
  let c0_i32_88 : BitVec 32 := 0#32
  let c1_i32 : BitVec 32 := 1#32
  let arg22 : BitVec 32 := Scf.iv c0_i32_88 c1_i32 k0_t1
  let c4_i32_542 : BitVec 32 := 4#32
  let v993 : BitVec 32 := Scalar.muli arg22 c4_i32_542
  let v994 : BitVec 32 := Scalar.addi v993 c0_i32_543
  let c260_i32 : BitVec 32 := 260#32
  let v995 : BitVec 32 := Scalar.muli v994 c260_i32
  let v997 : Index := Scalar.indexCast v995
  let c0_545 : Index := 0#32
  ![0, v997.toNat, 0]
def k0_off25 (k0_t1 : Fin k0_t1_loop.trips) (c0_i32_543 : BitVec 32) : Fin 3 → Nat :=
  let c1_548 : Index := 1#32
  let c0_i32_88 : BitVec 32 := 0#32
  let c1_i32 : BitVec 32 := 1#32
  let arg22 : BitVec 32 := Scf.iv c0_i32_88 c1_i32 k0_t1
  let c4_i32_542 : BitVec 32 := 4#32
  let v993 : BitVec 32 := Scalar.muli arg22 c4_i32_542
  let v994 : BitVec 32 := Scalar.addi v993 c0_i32_543
  let c260_i32 : BitVec 32 := 260#32
  let v995 : BitVec 32 := Scalar.muli v994 c260_i32
  let v1007 : Index := Scalar.indexCast v995
  let c0_549 : Index := 0#32
  ![1, v1007.toNat, 0]
def k0_mult16 (k0_t1 : Fin k0_t1_loop.trips) : BitVec 32 :=
  let c0_i32_88 : BitVec 32 := 0#32
  let c1_i32 : BitVec 32 := 1#32
  let arg22 : BitVec 32 := Scf.iv c0_i32_88 c1_i32 k0_t1
  let c1_i32_585 : BitVec 32 := 1#32
  let v1085 : BitVec 32 := Scalar.addi arg22 c1_i32_585
  let c1024_i32_586 : BitVec 32 := 1024#32
  let v1086 : BitVec 32 := Scalar.muli v1085 c1024_i32_586
  v1086
def k0_off26 (i : grid0.Coords) (k0_t1 : Fin k0_t1_loop.trips) : Fin 3 → Nat :=
  let arg0 : BitVec 32 := BitVec.ofNat 32 (i 0).val
  let c4_i32 : BitVec 32 := 4#32
  let v96 : BitVec 32 := Scalar.muli arg0 c4_i32
  let arg1 : BitVec 32 := BitVec.ofNat 32 (i 1).val
  let v97 : BitVec 32 := Scalar.addi v96 arg1
  let c4_i32_587 : BitVec 32 := 4#32
  let v1088 : BitVec 32 := Scalar.muli v97 c4_i32_587
  let c0_i32_88 : BitVec 32 := 0#32
  let c1_i32 : BitVec 32 := 1#32
  let arg22 : BitVec 32 := Scf.iv c0_i32_88 c1_i32 k0_t1
  let c1_i32_585 : BitVec 32 := 1#32
  let v1085 : BitVec 32 := Scalar.addi arg22 c1_i32_585
  let v1089 : BitVec 32 := Scalar.addi v1088 v1085
  let c3_i32_588 : BitVec 32 := 3#32
  let v1090 : BitVec 32 := Scalar.remsi v1089 c3_i32_588
  let v1091 : Index := Scalar.indexCast v1090
  let c0_589 : Index := 0#32
  let c0_590 : Index := 0#32
  ![v1091.toNat, 0, 0]
def k0_off27 (k0_t1 : Fin k0_t1_loop.trips) : Fin 3 → Nat :=
  let c0_595 : Index := 0#32
  let c0_i32_88 : BitVec 32 := 0#32
  let c1_i32 : BitVec 32 := 1#32
  let arg22 : BitVec 32 := Scf.iv c0_i32_88 c1_i32 k0_t1
  let c1_i32_585 : BitVec 32 := 1#32
  let v1085 : BitVec 32 := Scalar.addi arg22 c1_i32_585
  let c1024_i32_586 : BitVec 32 := 1024#32
  let v1086 : BitVec 32 := Scalar.muli v1085 c1024_i32_586
  let v1087 : BitVec 32 := v1086
  let c8_i32_594 : BitVec 32 := 8#32
  let v1101 : BitVec 32 := Scalar.addi v1087 c8_i32_594
  let v1102 : Index := Scalar.indexCast v1101
  let c0_596 : Index := 0#32
  ![0, v1102.toNat, 0]
def k0_off28 (k0_t1 : Fin k0_t1_loop.trips) : Fin 3 → Nat :=
  let c1_598 : Index := 1#32
  let c0_i32_88 : BitVec 32 := 0#32
  let c1_i32 : BitVec 32 := 1#32
  let arg22 : BitVec 32 := Scf.iv c0_i32_88 c1_i32 k0_t1
  let c1_i32_585 : BitVec 32 := 1#32
  let v1085 : BitVec 32 := Scalar.addi arg22 c1_i32_585
  let c1024_i32_586 : BitVec 32 := 1024#32
  let v1086 : BitVec 32 := Scalar.muli v1085 c1024_i32_586
  let v1087 : BitVec 32 := v1086
  let c8_i32_597 : BitVec 32 := 8#32
  let v1107 : BitVec 32 := Scalar.addi v1087 c8_i32_597
  let v1108 : Index := Scalar.indexCast v1107
  let c0_599 : Index := 0#32
  ![1, v1108.toNat, 0]
def k0_off29 (k0_t1 : Fin k0_t1_loop.trips) : Fin 2 → Nat :=
  let c0_i32_88 : BitVec 32 := 0#32
  let c1_i32 : BitVec 32 := 1#32
  let arg22 : BitVec 32 := Scf.iv c0_i32_88 c1_i32 k0_t1
  let c1_i32_585 : BitVec 32 := 1#32
  let v1085 : BitVec 32 := Scalar.addi arg22 c1_i32_585
  let c1024_i32_586 : BitVec 32 := 1024#32
  let v1086 : BitVec 32 := Scalar.muli v1085 c1024_i32_586
  let v1087 : BitVec 32 := v1086
  let v1117 : Index := Scalar.indexCast v1087
  let c0_600 : Index := 0#32
  ![v1117.toNat, 0]
def k0_mult17 : BitVec 32 :=
  let c3072_i32 : BitVec 32 := 3072#32
  c3072_i32
@[reducible] def k0_t2_loop : Scf.Loop 32 :=
  let c0_i32_165 : BitVec 32 := 0#32
  let c256_i32_166 : BitVec 32 := 256#32
  let v335 : BitVec 32 := Scalar.addi c0_i32_165 c256_i32_166
  let c1_i32_167 : BitVec 32 := 1#32
  ⟨c0_i32_165, v335, c1_i32_167⟩
def k0_off30 (k0_t2 : Fin k0_t2_loop.trips) (c0_i32_498 : BitVec 32) : Fin 3 → Nat :=
  let c0_499 : Index := 0#32
  let c0_i32_165 : BitVec 32 := 0#32
  let c1_i32_167 : BitVec 32 := 1#32
  let arg22 : BitVec 32 := Scf.iv c0_i32_165 c1_i32_167 k0_t2
  let v875 : BitVec 32 := Scalar.addi c0_i32_498 arg22
  let v876 : Index := Scalar.indexCast v875
  let c0_500 : Index := 0#32
  ![0, v876.toNat, 0]
def k0_off31 (k0_t2 : Fin k0_t2_loop.trips) (c0_i32_515 : BitVec 32) : Fin 3 → Nat :=
  let c1_516 : Index := 1#32
  let c0_i32_165 : BitVec 32 := 0#32
  let c1_i32_167 : BitVec 32 := 1#32
  let arg22 : BitVec 32 := Scf.iv c0_i32_165 c1_i32_167 k0_t2
  let v911 : BitVec 32 := Scalar.addi c0_i32_515 arg22
  let v912 : Index := Scalar.indexCast v911
  let c0_517 : Index := 0#32
  ![1, v912.toNat, 0]
def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4096x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== LruIdeal.lean ====
variable {F : FTy → Type} [FloatOps F] [Named F]
def κ : String → Option EReal := fun
  | "half_log2_e" => some (((2 * (Real.log 2))⁻¹ : ℝ) : EReal)
  | _ => none
-- ==== LruRefIdeal.lean ====
abbrev S4x4096x1024 : Shape := ⟨3, ![4, 4096, 1024]⟩
abbrev S1024x9216 : Shape := ⟨2, ![1024, 9216]⟩
abbrev S1x9216 : Shape := ⟨2, ![1, 9216]⟩
abbrev S4x1024 : Shape := ⟨2, ![4, 1024]⟩
abbrev S1x1024 : Shape := ⟨2, ![1, 1024]⟩
abbrev S16x64x64 : Shape := ⟨3, ![16, 64, 64]⟩
abbrev S4x4096x9216 : Shape := ⟨3, ![4, 4096, 9216]⟩
abbrev S9216 : Shape := ⟨1, ![9216]⟩
abbrev S1x1x9216 : Shape := ⟨3, ![1, 1, 9216]⟩
abbrev S4x4096x1536 : Shape := ⟨3, ![4, 4096, 1536]⟩
abbrev S4x4096x512 : Shape := ⟨3, ![4, 4096, 512]⟩
abbrev S4x4096x2048 : Shape := ⟨3, ![4, 4096, 2048]⟩
abbrev S1024 : Shape := ⟨1, ![1024]⟩
abbrev S_ : Shape := ⟨0, ![]⟩
abbrev S4x4099x1024 : Shape := ⟨3, ![4, 4099, 1024]⟩
abbrev S1x1x1024 : Shape := ⟨3, ![1, 1, 1024]⟩
abbrev S4x4096x16x64 : Shape := ⟨4, ![4, 4096, 16, 64]⟩
abbrev S16x64x4x4096 : Shape := ⟨4, ![16, 64, 4, 4096]⟩
abbrev S4096x4x1024 : Shape := ⟨3, ![4096, 4, 1024]⟩
abbrev S1x4x1024 : Shape := ⟨3, ![1, 4, 1024]⟩

abbrev nBuf : Space → Nat
  | .hbm => 175
  | .vmem => 0
  | .smem => 0
  | _ => 0

abbrev hbmTy0_0 (i : Nat) : BufTy := match i % 128 with
  | 0 => ⟨S4x4096x1024, .f32⟩
  | 1 => ⟨S1024x9216, .f32⟩
  | 2 => ⟨S1x9216, .f32⟩
  | 3 => ⟨S4x1024, .f32⟩
  | 4 => ⟨S1x1024, .f32⟩
  | 5 => ⟨S16x64x64, .f32⟩
  | 6 => ⟨S1x1024, .f32⟩
  | 7 => ⟨S16x64x64, .f32⟩
  | 8 => ⟨S1x1024, .f32⟩
  | 9 => ⟨S1x1024, .f32⟩
  | 10 => ⟨S4x4096x9216, .f32⟩
  | 11 => ⟨S9216, .f32⟩
  | 12 => ⟨S1x1x9216, .f32⟩
  | 13 => ⟨S4x4096x9216, .f32⟩
  | 14 => ⟨S4x4096x9216, .f32⟩
  | 15 => ⟨S4x4096x1536, .f32⟩
  | 16 => ⟨S4x4096x1536, .f32⟩
  | 17 => ⟨S4x4096x1536, .f32⟩
  | 18 => ⟨S4x4096x512, .f32⟩
  | 19 => ⟨S4x4096x1024, .f32⟩
  | 20 => ⟨S4x4096x1024, .f32⟩
  | 21 => ⟨S4x4096x2048, .f32⟩
  | 22 => ⟨S1024, .f32⟩
  | 23 => ⟨S_, .i32⟩
  | 24 => ⟨S_, .f32⟩
  | 25 => ⟨S4x4099x1024, .f32⟩
  | 26 => ⟨S4x4096x1024, .f32⟩
  | 27 => ⟨S1x1024, .f32⟩
  | 28 => ⟨S1024, .f32⟩
  | 29 => ⟨S1x1x1024, .f32⟩
  | 30 => ⟨S4x4096x1024, .f32⟩
  | 31 => ⟨S4x4096x1024, .f32⟩
  | 32 => ⟨S1x1x1024, .f32⟩
  | 33 => ⟨S4x4096x1024, .f32⟩
  | 34 => ⟨S4x4096x1024, .f32⟩
  | 35 => ⟨S4x4096x1024, .f32⟩
  | 36 => ⟨S1x1024, .f32⟩
  | 37 => ⟨S1024, .f32⟩
  | 38 => ⟨S1x1x1024, .f32⟩
  | 39 => ⟨S4x4096x1024, .f32⟩
  | 40 => ⟨S4x4096x1024, .f32⟩
  | 41 => ⟨S4x4096x1024, .f32⟩
  | 42 => ⟨S4x4096x1024, .f32⟩
  | 43 => ⟨S1x1024, .f32⟩
  | 44 => ⟨S1024, .f32⟩
  | 45 => ⟨S1x1x1024, .f32⟩
  | 46 => ⟨S4x4096x1024, .f32⟩
  | 47 => ⟨S4x4096x1024, .f32⟩
  | 48 => ⟨S4x4096x1024, .f32⟩
  | 49 => ⟨S4x4096x1024, .f32⟩
  | 50 => ⟨S1x1024, .f32⟩
  | 51 => ⟨S1024, .f32⟩
  | 52 => ⟨S1x1x1024, .f32⟩
  | 53 => ⟨S4x4096x1024, .f32⟩
  | 54 => ⟨S4x4096x1024, .f32⟩
  | 55 => ⟨S4x4096x1024, .f32⟩
  | 56 => ⟨S1024, .f32⟩
  | 57 => ⟨S1024, .f32⟩
  | 58 => ⟨S1024, .f32⟩
  | 59 => ⟨S4x4096x16x64, .f32⟩
  | 60 => ⟨S16x64x4x4096, .f32⟩
  | 61 => ⟨S4x4096x16x64, .f32⟩
  | 62 => ⟨S4x4096x1024, .f32⟩
  | 63 => ⟨S1x1x1024, .f32⟩
  | 64 => ⟨S4x4096x1024, .f32⟩
  | 65 => ⟨S4x4096x1024, .f32⟩
  | 66 => ⟨S4x4096x1024, .f32⟩
  | 67 => ⟨S4x4096x1024, .f32⟩
  | 68 => ⟨S_, .f32⟩
  | 69 => ⟨S4x4096x1024, .f32⟩
  | 70 => ⟨S4x4096x1024, .f32⟩
  | 71 => ⟨S_, .f32⟩
  | 72 => ⟨S4x4096x1024, .f32⟩
  | 73 => ⟨S4x4096x1024, .f32⟩
  | 74 => ⟨S16x64x4x4096, .f32⟩
  | 75 => ⟨S4x4096x16x64, .f32⟩
  | 76 => ⟨S4x4096x1024, .f32⟩
  | 77 => ⟨S1x1x1024, .f32⟩
  | 78 => ⟨S4x4096x1024, .f32⟩
  | 79 => ⟨S4x4096x1024, .f32⟩
  | 80 => ⟨S4x4096x1024, .f32⟩
  | 81 => ⟨S4x4096x1024, .f32⟩
  | 82 => ⟨S_, .f32⟩
  | 83 => ⟨S4x4096x1024, .f32⟩
  | 84 => ⟨S4x4096x1024, .f32⟩
  | 85 => ⟨S_, .f32⟩
  | 86 => ⟨S4x4096x1024, .f32⟩
  | 87 => ⟨S4x4096x1024, .f32⟩
  | 88 => ⟨S_, .f32⟩
  | 89 => ⟨S4x4096x1024, .f32⟩
  | 90 => ⟨S4x4096x1024, .f32⟩
  | 91 => ⟨S1024, .f32⟩
  | 92 => ⟨S_, .f32⟩
  | 93 => ⟨S1024, .f32⟩
  | 94 => ⟨S1024, .f32⟩
  | 95 => ⟨S1024, .f32⟩
  | 96 => ⟨S1024, .f32⟩
  | 97 => ⟨S1024, .i1⟩
  | 98 => ⟨S1024, .f32⟩
  | 99 => ⟨S1024, .f32⟩
  | 100 => ⟨S1024, .f32⟩
  | 101 => ⟨S1024, .f32⟩
  | 102 => ⟨S1024, .f32⟩
  | 103 => ⟨S1024, .f32⟩
  | 104 => ⟨S1024, .f32⟩
  | 105 => ⟨S1024, .f32⟩
  | 106 => ⟨S1x1x1024, .f32⟩
  | 107 => ⟨S4x4096x1024, .f32⟩
  | 108 => ⟨S4x4096x1024, .f32⟩
  | 109 => ⟨S4x4096x1024, .f32⟩
  | 110 => ⟨S_, .f32⟩
  | 111 => ⟨S4x4096x1024, .f32⟩
  | 112 => ⟨S4x4096x1024, .f32⟩
  | 113 => ⟨S4x4096x1024, .f32⟩
  | 114 => ⟨S4x4096x1024, .f32⟩
  | 115 => ⟨S_, .f32⟩
  | 116 => ⟨S4x4096x1024, .f32⟩
  | 117 => ⟨S4x4096x1024, .f32⟩
  | 118 => ⟨S4x4096x1024, .f32⟩
  | 119 => ⟨S4x4096x1024, .f32⟩
  | 120 => ⟨S4x4096x1024, .f32⟩
  | 121 => ⟨S_, .f32⟩
  | 122 => ⟨S4x1024, .f32⟩
  | 123 => ⟨S4096x4x1024, .f32⟩
  | 124 => ⟨S4096x4x1024, .f32⟩
  | 125 => ⟨S_, .f32⟩
  | 126 => ⟨S4096x4x1024, .f32⟩
  | 127 => ⟨S_, .i32⟩
  | _ => ⟨S4x4096x1024, .f32⟩

abbrev hbmTy0_1 (i : Nat) : BufTy := match i % 128 with
  | 0 => ⟨S4096x4x1024, .f32⟩
  | 1 => ⟨S4096x4x1024, .f32⟩
  | 2 => ⟨S_, .i32⟩
  | 3 => ⟨S4x1024, .f32⟩
  | 4 => ⟨S4096x4x1024, .f32⟩
  | 5 => ⟨S_, .i32⟩
  | 6 => ⟨S_, .i1⟩
  | 7 => ⟨S_, .i32⟩
  | 8 => ⟨S_, .i32⟩
  | 9 => ⟨S1x4x1024, .f32⟩
  | 10 => ⟨S4x1024, .f32⟩
  | 11 => ⟨S_, .i32⟩
  | 12 => ⟨S_, .i32⟩
  | 13 => ⟨S1x4x1024, .f32⟩
  | 14 => ⟨S4x1024, .f32⟩
  | 15 => ⟨S4x1024, .f32⟩
  | 16 => ⟨S4x1024, .f32⟩
  | 17 => ⟨S1x4x1024, .f32⟩
  | 18 => ⟨S_, .i32⟩
  | 19 => ⟨S_, .i32⟩
  | 20 => ⟨S4096x4x1024, .f32⟩
  | 21 => ⟨S_, .i32⟩
  | 22 => ⟨S_, .i32⟩
  | 23 => ⟨S4x4096x1024, .f32⟩
  | 24 => ⟨S4x4096x9216, .f32⟩
  | 25 => ⟨S9216, .f32⟩
  | 26 => ⟨S1x1x9216, .f32⟩
  | 27 => ⟨S4x4096x9216, .f32⟩
  | 28 => ⟨S4x4096x9216, .f32⟩
  | 29 => ⟨S4x4096x1536, .f32⟩
  | 30 => ⟨S4x4096x1536, .f32⟩
  | 31 => ⟨S4x4096x1536, .f32⟩
  | 32 => ⟨S4x4096x512, .f32⟩
  | 33 => ⟨S4x4096x1024, .f32⟩
  | 34 => ⟨S4x4096x1024, .f32⟩
  | 35 => ⟨S4x4096x2048, .f32⟩
  | 36 => ⟨S4x4096x1024, .f32⟩
  | 37 => ⟨S4x4096x1024, .f32⟩
  | 38 => ⟨S_, .f32⟩
  | 39 => ⟨S4x4096x1024, .f32⟩
  | 40 => ⟨S4x4096x1024, .f32⟩
  | 41 => ⟨S_, .f32⟩
  | 42 => ⟨S4x4096x1024, .f32⟩
  | 43 => ⟨S4x4096x1024, .f32⟩
  | 44 => ⟨S4x4096x1024, .f32⟩
  | 45 => ⟨S4x4096x1024, .f32⟩
  | 46 => ⟨S4x4096x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst : Ref sig .tc := ⟨.hbm, 68, rfl⟩
abbrev main_v56 : Ref sig .tc := ⟨.hbm, 69, rfl⟩
abbrev main_v57 : Ref sig .tc := ⟨.hbm, 70, rfl⟩
abbrev main_cst_0 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_1 : Ref sig .tc := ⟨.hbm, 82, rfl⟩
abbrev main_v68 : Ref sig .tc := ⟨.hbm, 83, rfl⟩
abbrev main_v69 : Ref sig .tc := ⟨.hbm, 84, rfl⟩
abbrev main_cst_2 : Ref sig .tc := ⟨.hbm, 85, rfl⟩
abbrev main_v70 : Ref sig .tc := ⟨.hbm, 86, rfl⟩
abbrev main_v71 : Ref sig .tc := ⟨.hbm, 87, rfl⟩
abbrev main_cst_3 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_4 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_5 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_6 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_7 : Ref sig .tc := ⟨.hbm, 125, rfl⟩
abbrev main_v92 : Ref sig .tc := ⟨.hbm, 126, rfl⟩
abbrev main_c_8 : Ref sig .tc := ⟨.hbm, 127, rfl⟩
abbrev main_v93_0 : Ref sig .tc := ⟨.hbm, 128, rfl⟩
abbrev main_v93_1 : Ref sig .tc := ⟨.hbm, 129, rfl⟩
abbrev main_v93_2 : Ref sig .tc := ⟨.hbm, 130, rfl⟩
abbrev main_v93_3 : Ref sig .tc := ⟨.hbm, 131, rfl⟩
abbrev main_v93_4 : Ref sig .tc := ⟨.hbm, 132, rfl⟩
abbrev main_while0c_c_13 : Ref sig .tc := ⟨.hbm, 133, rfl⟩
abbrev main_while0c_v110 : Ref sig .tc := ⟨.hbm, 134, rfl⟩
abbrev main_while0b_call2_c : Ref sig .tc := ⟨.hbm, 135, rfl⟩
abbrev main_while0b_call2_c_0 : Ref sig .tc := ⟨.hbm, 136, rfl⟩
abbrev main_while0b_call2_v0 : Ref sig .tc := ⟨.hbm, 137, rfl⟩
abbrev main_while0b_v110 : Ref sig .tc := ⟨.hbm, 138, rfl⟩
abbrev main_while0b_call3_c : Ref sig .tc := ⟨.hbm, 139, rfl⟩
abbrev main_while0b_call3_c_0 : Ref sig .tc := ⟨.hbm, 140, rfl⟩
abbrev main_while0b_call3_v0 : Ref sig .tc := ⟨.hbm, 141, rfl⟩
abbrev main_while0b_v111 : Ref sig .tc := ⟨.hbm, 142, rfl⟩
abbrev main_while0b_v112 : Ref sig .tc := ⟨.hbm, 143, rfl⟩
abbrev main_while0b_v113 : Ref sig .tc := ⟨.hbm, 144, rfl⟩
abbrev main_while0b_call4_v0 : Ref sig .tc := ⟨.hbm, 145, rfl⟩
abbrev main_while0b_call4_c : Ref sig .tc := ⟨.hbm, 146, rfl⟩
abbrev main_while0b_call4_c_0 : Ref sig .tc := ⟨.hbm, 147, rfl⟩
abbrev main_while0b_v114 : Ref sig .tc := ⟨.hbm, 148, rfl⟩
abbrev main_while0b_c_13 : Ref sig .tc := ⟨.hbm, 149, rfl⟩
abbrev main_while0b_v115 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_call5_v0 : Ref sig .tc := ⟨.hbm, 164, rfl⟩
abbrev main_call5_v1 : Ref sig .tc := ⟨.hbm, 165, rfl⟩
abbrev main_call5_cst : Ref sig .tc := ⟨.hbm, 166, rfl⟩
abbrev main_call5_v2 : Ref sig .tc := ⟨.hbm, 167, rfl⟩
abbrev main_call5_v3 : Ref sig .tc := ⟨.hbm, 168, rfl⟩
abbrev main_call5_cst_0 : Ref sig .tc := ⟨.hbm, 169, rfl⟩
abbrev main_call5_v4 : Ref sig .tc := ⟨.hbm, 170, rfl⟩
abbrev main_call5_v5 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩

abbrev nD : Nat := 1
abbrev τ : Topo := Topo.v7x

variable {F : FTy → Type} [FloatOps F]

abbrev main_while0_count : Scf.Loop 32 := ⟨0#32, 4096#32, 1#32⟩
-- ==== Wts.lean ====
abbrev S1024x9216 : Shape := ⟨2, ![1024, 9216]⟩
abbrev S1x9216 : Shape := ⟨2, ![1, 9216]⟩
abbrev S4x1024x1280 : Shape := ⟨3, ![4, 1024, 1280]⟩
abbrev S4x8x1280 : Shape := ⟨3, ![4, 8, 1280]⟩
abbrev S1024x128 : Shape := ⟨2, ![1024, 128]⟩
abbrev S1x128 : Shape := ⟨2, ![1, 128]⟩
abbrev S1x1024x1280 : Shape := ⟨3, ![1, 1024, 1280]⟩
abbrev S1x8x1280 : Shape := ⟨3, ![1, 8, 1280]⟩
abbrev S256x128 : Shape := ⟨2, ![256, 128]⟩
abbrev S1x256x128 : Shape := ⟨3, ![1, 256, 128]⟩
abbrev S8x128 : Shape := ⟨2, ![8, 128]⟩
abbrev S1x8x128 : Shape := ⟨3, ![1, 8, 128]⟩

abbrev nBuf : Space → Nat
  | .hbm => 4
  | .vmem => 44
  | .smem => 0
  | _ => 0

abbrev bufTy : (tb : Table) → Fin (tcTables nBuf tb) → BufTy
  | .hbm, ⟨0, _⟩ => ⟨S1024x9216, .f32⟩
  | .hbm, ⟨1, _⟩ => ⟨S1x9216, .f32⟩
  | .hbm, ⟨2, _⟩ => ⟨S4x1024x1280, .bf16⟩
  | .hbm, ⟨3, _⟩ => ⟨S4x8x1280, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x1024x1280, .bf16⟩
  | .local _ .vmem, ⟨41, _⟩ => ⟨S1x1024x1280, .bf16⟩
  | .local _ .vmem, ⟨42, _⟩ => ⟨S1x8x1280, .f32⟩
  | .local _ .vmem, ⟨43, _⟩ => ⟨S1x8x1280, .f32⟩
  | _, _ => ⟨S1024x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c36_i32 : BitVec 32 := 36#32
  let v0 : BitVec 32 := Scalar.addi c36_i32 arg0
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_16 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_17 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_18 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_19 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1024x1280 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x1280 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== WtsRefIdeal.lean ====
abbrev S1024x9216 : Shape := ⟨2, ![1024, 9216]⟩
abbrev S1x9216 : Shape := ⟨2, ![1, 9216]⟩
abbrev S1024x1536 : Shape := ⟨2, ![1024, 1536]⟩
abbrev S1024x512 : Shape := ⟨2, ![1024, 512]⟩
abbrev S1024x1024 : Shape := ⟨2, ![1024, 1024]⟩
abbrev S1024x2048 : Shape := ⟨2, ![1024, 2048]⟩
abbrev S1024x4x2x2x32 : Shape := ⟨5, ![1024, 4, 2, 2, 32]⟩
abbrev S1024x4x128 : Shape := ⟨3, ![1024, 4, 128]⟩
abbrev S1024x4x1280 : Shape := ⟨3, ![1024, 4, 1280]⟩
abbrev S4x1024x1280 : Shape := ⟨3, ![4, 1024, 1280]⟩
abbrev S1x1536 : Shape := ⟨2, ![1, 1536]⟩
abbrev S1x512 : Shape := ⟨2, ![1, 512]⟩
abbrev S1x1024 : Shape := ⟨2, ![1, 1024]⟩
abbrev S1x2048 : Shape := ⟨2, ![1, 2048]⟩
abbrev S1x4x2x2x32 : Shape := ⟨5, ![1, 4, 2, 2, 32]⟩
abbrev S1x4x128 : Shape := ⟨3, ![1, 4, 128]⟩
abbrev S1x4x1280 : Shape := ⟨3, ![1, 4, 1280]⟩
abbrev S4x1x1280 : Shape := ⟨3, ![4, 1, 1280]⟩
abbrev S4x8x1280 : Shape := ⟨3, ![4, 8, 1280]⟩

abbrev nBuf : Space → Nat
  | .hbm => 84
  | .vmem => 0
  | .smem => 0
  | _ => 0

abbrev bufTy : (tb : Table) → Fin (tcTables nBuf tb) → BufTy
  | .hbm, ⟨0, _⟩ => ⟨S1024x9216, .f32⟩
  | .hbm, ⟨1, _⟩ => ⟨S1x9216, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x512, .f32⟩
  | .hbm, ⟨6, _⟩ => ⟨S1024x1024, .f32⟩
  | .hbm, ⟨7, _⟩ => ⟨S1024x1024, .f32⟩
  | .hbm, ⟨8, _⟩ => ⟨S1024x2048, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x4x2x2x32, .f32⟩
  | .hbm, ⟨19, _⟩ => ⟨S1024x4x2x2x32, .f32⟩
  | .hbm, ⟨20, _⟩ => ⟨S1024x4x128, .f32⟩
  | .hbm, ⟨21, _⟩ => ⟨S1024x4x2x2x32, .f32⟩
  | .hbm, ⟨22, _⟩ => ⟨S1024x4x2x2x32, .f32⟩
  | .hbm, ⟨23, _⟩ => ⟨S1024x4x128, .f32⟩
  | .hbm, ⟨24, _⟩ => ⟨S1024x4x128, .f32⟩
  | .hbm, ⟨25, _⟩ => ⟨S1024x4x128, .f32⟩
  | .hbm, ⟨26, _⟩ => ⟨S1024x4x2x2x32, .f32⟩
  | .hbm, ⟨27, _⟩ => ⟨S1024x4x2x2x32, .f32⟩
  | .hbm, ⟨28, _⟩ => ⟨S1024x4x128, .f32⟩
  | .hbm, ⟨29, _⟩ => ⟨S1024x4x2x2x32, .f32⟩
  | .hbm, ⟨30, _⟩ => ⟨S1024x4x2x2x32, .f32⟩
  | .hbm, ⟨31, _⟩ => ⟨S1024x4x128, .f32⟩
  | .hbm, ⟨32, _⟩ => ⟨S1024x4x128, .f32⟩
  | .hbm, ⟨33, _⟩ => ⟨S1024x4x2x2x32, .f32⟩
  | .hbm, ⟨34, _⟩ => ⟨S1024x4x2x2x32, .f32⟩
  | .hbm, ⟨35, _⟩ => ⟨S1024x4x128, .f32⟩
  | .hbm, ⟨36, _⟩ => ⟨S1024x4x2x2x32, .f32⟩
  | .hbm, ⟨37, _⟩ => ⟨S1024x4x2x2x32, .f32⟩
  | .hbm, ⟨38, _⟩ => ⟨S1024x4x128, .f32⟩
  | .hbm, ⟨39, _⟩ => ⟨S1024x4x128, .f32⟩
  | .hbm, ⟨40, _⟩ => ⟨S1024x4x1280, .f32⟩
  | .hbm, ⟨41, _⟩ => ⟨S4x1024x1280, .f32⟩
  | .hbm, ⟨42, _⟩ => ⟨S4x1024x1280, .bf16⟩
  | .hbm, ⟨43, _⟩ => ⟨S1x1536, .f32⟩
  | .hbm, ⟨44, _⟩ => ⟨S1x1536, .f32⟩
  | .hbm, ⟨45, _⟩ => ⟨S1x1536, .f32⟩
  | .hbm, ⟨46, _⟩ => ⟨S1x512, .f32⟩
  | .hbm, ⟨47, _⟩ => ⟨S1x1024, .f32⟩
  | .hbm, ⟨48, _⟩ => ⟨S1x1024, .f32⟩
  | .hbm, ⟨49, _⟩ => ⟨S1x2048, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S1x4x2x2x32, .f32⟩
  | .hbm, ⟨60, _⟩ => ⟨S1x4x2x2x32, .f32⟩
  | .hbm, ⟨61, _⟩ => ⟨S1x4x128, .f32⟩
  | .hbm, ⟨62, _⟩ => ⟨S1x4x2x2x32, .f32⟩
  | .hbm, ⟨63, _⟩ => ⟨S1x4x2x2x32, .f32⟩
  | .hbm, ⟨64, _⟩ => ⟨S1x4x128, .f32⟩
  | .hbm, ⟨65, _⟩ => ⟨S1x4x128, .f32⟩
  | .hbm, ⟨66, _⟩ => ⟨S1x4x128, .f32⟩
  | .hbm, ⟨67, _⟩ => ⟨S1x4x2x2x32, .f32⟩
  | .hbm, ⟨68, _⟩ => ⟨S1x4x2x2x32, .f32⟩
  | .hbm, ⟨69, _⟩ => ⟨S1x4x128, .f32⟩
  | .hbm, ⟨70, _⟩ => ⟨S1x4x2x2x32, .f32⟩
  | .hbm, ⟨71, _⟩ => ⟨S1x4x2x2x32, .f32⟩
  | .hbm, ⟨72, _⟩ => ⟨S1x4x128, .f32⟩
  | .hbm, ⟨73, _⟩ => ⟨S1x4x128, .f32⟩
  | .hbm, ⟨74, _⟩ => ⟨S1x4x2x2x32, .f32⟩
  | .hbm, ⟨75, _⟩ => ⟨S1x4x2x2x32, .f32⟩
  | .hbm, ⟨76, _⟩ => ⟨S1x4x128, .f32⟩
  | .hbm, ⟨77, _⟩ => ⟨S1x4x2x2x32, .f32⟩
  | .hbm, ⟨78, _⟩ => ⟨S1x4x2x2x32, .f32⟩
  | .hbm, ⟨79, _⟩ => ⟨S1x4x128, .f32⟩
  | .hbm, ⟨80, _⟩ => ⟨S1x4x128, .f32⟩
  | .hbm, ⟨81, _⟩ => ⟨S1x4x1280, .f32⟩
  | .hbm, ⟨82, _⟩ => ⟨S4x1x1280, .f32⟩
  | .hbm, ⟨83, _⟩ => ⟨S4x8x1280, .f32⟩
  | _, _ => ⟨S1024x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩

abbrev nD : Nat := 1
abbrev τ : Topo := Topo.v7x

variable {F : FTy → Type} [FloatOps F]
-- ==== Proof.MergeSpec.lean ====
/- What one row of the merge computes, as extended reals: the two gates, the two projected branches, the output
   projection, the residual and the layer norm; and the kernel's payloads read as those functions. -/
module

public import proofs.«01_k».proof.Proof.Gen.MergeIdeal.Skeleton
public import Idealize.ShloMosaic.Lib.Pointwise

@[expose] public section

set_option maxRecDepth 16384

noncomputable section

namespace Cert.Merged

open Idealize.ShloMosaic

/-- A gate at one feature: the logistic of the row's projection. -/
def gate (x : Fin 1024 → EReal) (w : Fin 1024 → EReal) (b : EReal) : EReal :=
  Ideal.logistic ((∑ k : Fin 1024, x k * w k) + b)

/-- The gated sum of the two projected branches at one feature. -/
def mixed (x : Fin 1024 → EReal) (a : Fin 512 → EReal) (h : Fin 1024 → EReal)
    (wa wb : Fin 1024 → Fin 1024 → EReal) (ba bb : Fin 1024 → EReal)
    (pa : Fin 512 → Fin 1024 → EReal) (pl : Fin 1024 → Fin 1024 → EReal) (j : Fin 1024) : EReal :=
  gate x (fun k => wa k j) (ba j) * (∑ k : Fin 512, a k * pa k j)
    + gate x (fun k => wb k j) (bb j) * (∑ k : Fin 1024, h k * pl k j)

/-- The row the layer norm is applied to: the scaled input plus the projected mixture. -/
def summed (x u : Fin 1024 → EReal) (po : Fin 1024 → Fin 1024 → EReal) (bo : Fin 1024 → EReal) (j : Fin 1024) : EReal :=
  Ideal.ofBits .f32 0x3F9837F0#32 * x j + ((∑ k : Fin 1024, u k * po k j) + bo j)

/-- A row less its mean. -/
def centred (y : Fin 1024 → EReal) (j : Fin 1024) : EReal :=
  y j - Ideal.div (∑ k : Fin 1024, y k) (Ideal.ofBits .f32 0x44800000#32)

/-- The layer norm of a row. -/
def normed (y g b : Fin 1024 → EReal) (j : Fin 1024) : EReal :=
  centred y j * Ideal.rsqrt (Ideal.div (∑ k : Fin 1024, centred y k * centred y k) (Ideal.ofBits .f32 0x44800000#32)
      + Ideal.ofBits .f32 0x3727C5AC#32) * g j + b j

/-- One row of the merge. -/
def rowOut (x : Fin 1024 → EReal) (a : Fin 512 → EReal) (h : Fin 1024 → EReal)
    (wa wb : Fin 1024 → Fin 1024 → EReal) (ba bb : Fin 1024 → EReal)
    (pa : Fin 512 → Fin 1024 → EReal) (pl po : Fin 1024 → Fin 1024 → EReal) (bo g b : Fin 1024 → EReal) : Fin 1024 → EReal :=
  normed (summed x (mixed x a h wa wb ba bb pa pl) po bo) g b

open Cert.MergeIdeal Cert.MergeIdeal.Gen

section
variable [Cert.MergeIdeal.Facts]

/-- The first half-block's stored value at a row and a feature. -/
theorem first_half (x : Vec Ideal S256x1024 .f32) (wa : Vec Ideal S1024x1024 .bf16) (ba : Vec Ideal S1x1024 .f32)
    (wb : Vec Ideal S1024x1024 .bf16) (bb : Vec Ideal S1x1024 .f32) (a : Vec Ideal S256x512 .f32)
    (pa : Vec Ideal S512x1024 .bf16) (h : Vec Ideal S256x1024 .bf16) (pl po : Vec Ideal S1024x1024 .bf16)
    (bo g b : Vec Ideal S1x1024 .f32) (r : Fin 256) (j : Fin 1024) :
    k0_pay21 x (k0_pay20 x wa ba wb bb a pa h pl po) bo g b (ix2 r j)
      = rowOut (fun k => x (ix2 r k)) (fun k => a (ix2 r k)) (fun k => h (ix2 r k))
          (fun k l => wa (ix2 k l)) (fun k l => wb (ix2 k l)) (fun l => ba (ix2 0 l)) (fun l => bb (ix2 0 l))
          (fun k l => pa (ix2 k l)) (fun k l => pl (ix2 k l)) (fun k l => po (ix2 k l))
          (fun l => bo (ix2 0 l)) (fun l => g (ix2 0 l)) (fun l => b (ix2 0 l)) j := by
  pointwise [k0_pay20, k0_pay21]
  rfl

/-- The second half-block's stored value at a row and a feature. -/
theorem second_half (x : Vec Ideal S256x1024 .f32) (wa : Vec Ideal S1024x1024 .bf16) (ba : Vec Ideal S1x1024 .f32)
    (wb : Vec Ideal S1024x1024 .bf16) (bb : Vec Ideal S1x1024 .f32) (a : Vec Ideal S256x512 .f32)
    (pa : Vec Ideal S512x1024 .bf16) (h : Vec Ideal S256x1024 .bf16) (pl po : Vec Ideal S1024x1024 .bf16)
    (bo g b : Vec Ideal S1x1024 .f32) (r : Fin 256) (j : Fin 1024) :
    k0_pay1 (k0_pay24 x (k0_pay22 x) (k0_pay23 x wa ba) wb bb a pa h pl po bo)
        (k0_pay25 x (k0_pay22 x) (k0_pay23 x wa ba) wb bb a pa h pl po bo) (Scalar.ofBits .f32 0x3727C5AC#32) g b (ix2 r j)
      = rowOut (fun k => x (ix2 r k)) (fun k => a (ix2 r k)) (fun k => h (ix2 r k))
          (fun k l => wa (ix2 k l)) (fun k l => wb (ix2 k l)) (fun l => ba (ix2 0 l)) (fun l => bb (ix2 0 l))
          (fun k l => pa (ix2 k l)) (fun k l => pl (ix2 k l)) (fun k l => po (ix2 k l))
          (fun l => bo (ix2 0 l)) (fun l => g (ix2 0 l)) (fun l => b (ix2 0 l)) j := by
  pointwise [k0_pay1, k0_pay25, k0_pay24, k0_pay23, k0_pay22]
  rfl

end

end Cert.Merged

end
-- ==== Proof.MergeBlocks.lean ====
/- What the merge kernel leaves, point by point: the weights its first point puts in scratch, carried to the others, and the
   output block of every point as the rows of the merge. -/
module

public import proofs.«01_k».proof.Proof.MergeSpec
public import proofs.«01_k».proof.Proof.Gen.MergeIdeal.Value
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Merged

open Idealize.ShloMosaic Idealize.ShloMosaic.TcCoe Idealize.ShloMosaic.Tactic
open Cert.MergeIdeal Cert.MergeIdeal.Gen

variable (m : (ℓ : Loc nD τ sig) → Buf (Elt Ideal) ℓ)

/-- The gate weights side by side, as the first scratch holds them. -/
def wide (a b : Vec Ideal S1024x1024 .f32) : Vec Ideal S1024x2048 .bf16 := fun i =>
  if h : (i 1).val < 1024 then a (ix2 (i 0) ⟨(i 1).val, h⟩)
  else b (ix2 (i 0) ⟨(i 1).val - 1024, by have : (i 1).val < 2048 := (i 1).isLt; omega⟩)

/-- Where a rectangle of 256 rows and 1024 columns puts an index. -/
theorem emb_at {n p r c : ℕ} (inb : ∀ a : Fin 2, (![r, c] : Fin 2 → ℕ) a + (![256, 1024] : Fin 2 → ℕ) a ≤ (![n, p] : Fin 2 → ℕ) a)
    (x : S256x1024.Idx) :
    (Rect.unit (s := ⟨2, ![n, p]⟩) ![r, c] ![256, 1024] inb).emb x
      = ix2 (n0 := n) (n1 := p) ⟨r + (x 0).val, by have h0 : r + 256 ≤ n := inb 0; have h1 : (x 0).val < 256 := (x 0).isLt; omega⟩
          ⟨c + (x 1).val, by have h0 : c + 1024 ≤ p := inb 1; have h1 : (x 1).val < 1024 := (x 1).isLt; omega⟩ := by
  funext a
  apply Fin.ext
  match a with
  | ⟨0, _⟩ => exact congrArg (r + ·) (one_mul _)
  | ⟨1, _⟩ => exact congrArg (c + ·) (one_mul _)

/-- Stores of row blocks of one array leave that array. -/
theorem halves {e : EltTy} (G : Vec Ideal S512x1024 e) (w0 w1 : Vec Ideal S256x1024 e)
    (h0 : ∀ x : S256x1024.Idx, w0 x = G (ix2 ⟨0 + (x 0).val, by have h1 : (x 0).val < 256 := (x 0).isLt; omega⟩ ⟨0 + (x 1).val, by have h1 : (x 1).val < 1024 := (x 1).isLt; omega⟩))
    (h1 : ∀ x : S256x1024.Idx, w1 x = G (ix2 ⟨256 + (x 0).val, by have h1 : (x 0).val < 256 := (x 0).isLt; omega⟩ ⟨0 + (x 1).val, by have h1 : (x 1).val < 1024 := (x 1).isLt; omega⟩))
    : View.canon (Val := Elt Ideal) (s := S512x1024) (e := e) [⟨Rect.unit ![256, 0] ![256, 1024] inb_S512x1024_S256x1024_256_0, w1⟩, ⟨Rect.unit ![0, 0] ![256, 1024] inb_S512x1024_S256x1024_0_0, w0⟩] = G := by
  funext y
  exact View.canon_append_of_piecesOf G [] [_, _] ⟨fun x => (h1 x).trans (congrArg G (emb_at inb_S512x1024_S256x1024_256_0 x)).symm, fun x => (h0 x).trans (congrArg G (emb_at inb_S512x1024_S256x1024_0_0 x)).symm, trivial⟩ y
    (View.cover_of_tiledL _ ![256, 1024] (by sl_kernel_rfl) y)

/-- Stores of row blocks of one array leave that array. -/
theorem quarters {e : EltTy} (G : Vec Ideal S1024x1024 e) (w0 w1 w2 w3 : Vec Ideal S256x1024 e)
    (h0 : ∀ x : S256x1024.Idx, w0 x = G (ix2 ⟨0 + (x 0).val, by have h1 : (x 0).val < 256 := (x 0).isLt; omega⟩ ⟨0 + (x 1).val, by have h1 : (x 1).val < 1024 := (x 1).isLt; omega⟩))
    (h1 : ∀ x : S256x1024.Idx, w1 x = G (ix2 ⟨256 + (x 0).val, by have h1 : (x 0).val < 256 := (x 0).isLt; omega⟩ ⟨0 + (x 1).val, by have h1 : (x 1).val < 1024 := (x 1).isLt; omega⟩))
    (h2 : ∀ x : S256x1024.Idx, w2 x = G (ix2 ⟨512 + (x 0).val, by have h1 : (x 0).val < 256 := (x 0).isLt; omega⟩ ⟨0 + (x 1).val, by have h1 : (x 1).val < 1024 := (x 1).isLt; omega⟩))
    (h3 : ∀ x : S256x1024.Idx, w3 x = G (ix2 ⟨768 + (x 0).val, by have h1 : (x 0).val < 256 := (x 0).isLt; omega⟩ ⟨0 + (x 1).val, by have h1 : (x 1).val < 1024 := (x 1).isLt; omega⟩))
    : View.canon (Val := Elt Ideal) (s := S1024x1024) (e := e) [⟨Rect.unit ![768, 0] ![256, 1024] inb_S1024x1024_S256x1024_768_0, w3⟩, ⟨Rect.unit ![512, 0] ![256, 1024] inb_S1024x1024_S256x1024_512_0, w2⟩, ⟨Rect.unit ![256, 0] ![256, 1024] inb_S1024x1024_S256x1024_256_0, w1⟩, ⟨Rect.unit ![0, 0] ![256, 1024] inb_S1024x1024_S256x1024_0_0, w0⟩] = G := by
  funext y
  exact View.canon_append_of_piecesOf G [] [_, _, _, _] ⟨fun x => (h3 x).trans (congrArg G (emb_at inb_S1024x1024_S256x1024_768_0 x)).symm, fun x => (h2 x).trans (congrArg G (emb_at inb_S1024x1024_S256x1024_512_0 x)).symm, fun x => (h1 x).trans (congrArg G (emb_at inb_S1024x1024_S256x1024_256_0 x)).symm, fun x => (h0 x).trans (congrArg G (emb_at inb_S1024x1024_S256x1024_0_0 x)).symm, trivial⟩ y
    (View.cover_of_tiledL _ ![256, 1024] (by sl_kernel_rfl) y)

/-- The first point's stores of the gate weights leave them side by side. -/
theorem stored_wide (a b : Vec Ideal S1024x1024 .f32) :
    View.canon (Val := Elt Ideal) (s := S1024x2048) (e := .bf16) [⟨Rect.unit ![768, 1024] ![256, 1024] inb_S1024x2048_S256x1024_768_1024, k0_pay15 (View.ld b (Rect.unit ![768, 0] ![256, 1024] inb_S1024x1024_S256x1024_768_0))⟩,
      ⟨Rect.unit ![768, 0] ![256, 1024] inb_S1024x2048_S256x1024_768_0, k0_pay14 (View.ld a (Rect.unit ![768, 0] ![256, 1024] inb_S1024x1024_S256x1024_768_0))⟩,
      ⟨Rect.unit ![512, 1024] ![256, 1024] inb_S1024x2048_S256x1024_512_1024, k0_pay11 (View.ld b (Rect.unit ![512, 0] ![256, 1024] inb_S1024x1024_S256x1024_512_0))⟩,
      ⟨Rect.unit ![512, 0] ![256, 1024] inb_S1024x2048_S256x1024_512_0, k0_pay10 (View.ld a (Rect.unit ![512, 0] ![256, 1024] inb_S1024x1024_S256x1024_512_0))⟩,
      ⟨Rect.unit ![256, 1024] ![256, 1024] inb_S1024x2048_S256x1024_256_1024, k0_pay7 (View.ld b (Rect.unit ![256, 0] ![256, 1024] inb_S1024x1024_S256x1024_256_0))⟩,
      ⟨Rect.unit ![256, 0] ![256, 1024] inb_S1024x2048_S256x1024_256_0, k0_pay6 (View.ld a (Rect.unit ![256, 0] ![256, 1024] inb_S1024x1024_S256x1024_256_0))⟩,
      ⟨Rect.unit ![0, 1024] ![256, 1024] inb_S1024x2048_S256x1024_0_1024, k0_pay3 (View.ld b (Rect.unit ![0, 0] ![256, 1024] inb_S1024x1024_S256x1024_0_0))⟩,
      ⟨Rect.unit ![0, 0] ![256, 1024] inb_S1024x2048_S256x1024_0_0, k0_pay2 (View.ld a (Rect.unit ![0, 0] ![256, 1024] inb_S1024x1024_S256x1024_0_0))⟩] = wide a b := by
  funext y
  refine View.canon_append_of_piecesOf (wide a b) [] [_, _, _, _, _, _, _, _] ⟨fun x => ?_, fun x => ?_, fun x => ?_, fun x => ?_, fun x => ?_, fun x => ?_, fun x => ?_, fun x => ?_, trivial⟩ y
    (View.cover_of_tiledL _ ![256, 1024] (by sl_kernel_rfl) y)
  · refine Eq.trans ?_ (congrArg (wide a b) (emb_at inb_S1024x2048_S256x1024_768_1024 x)).symm
    idx_vars x
    unfold_payloads
    pointwise [wide]
  · refine Eq.trans ?_ (congrArg (wide a b) (emb_at inb_S1024x2048_S256x1024_768_0 x)).symm
    idx_vars x
    unfold_payloads
    pointwise [wide]
  · refine Eq.trans ?_ (congrArg (wide a b) (emb_at inb_S1024x2048_S256x1024_512_1024 x)).symm
    idx_vars x
    unfold_payloads
    pointwise [wide]
  · refine Eq.trans ?_ (congrArg (wide a b) (emb_at inb_S1024x2048_S256x1024_512_0 x)).symm
    idx_vars x
    unfold_payloads
    pointwise [wide]
  · refine Eq.trans ?_ (congrArg (wide a b) (emb_at inb_S1024x2048_S256x1024_256_1024 x)).symm
    idx_vars x
    unfold_payloads
    pointwise [wide]
  · refine Eq.trans ?_ (congrArg (wide a b) (emb_at inb_S1024x2048_S256x1024_256_0 x)).symm
    idx_vars x
    unfold_payloads
    pointwise [wide]
  · refine Eq.trans ?_ (congrArg (wide a b) (emb_at inb_S1024x2048_S256x1024_0_1024 x)).symm
    idx_vars x
    unfold_payloads
    pointwise [wide]
  · refine Eq.trans ?_ (congrArg (wide a b) (emb_at inb_S1024x2048_S256x1024_0_0 x)).symm
    idx_vars x
    unfold_payloads
    pointwise [wide]
/-- The first point's stores of these weights leave them whole. -/
theorem stored_attn (a : Vec Ideal S512x1024 .f32) :
    View.canon (Val := Elt Ideal) (s := S512x1024) (e := .bf16) [⟨Rect.unit ![256, 0] ![256, 1024] inb_S512x1024_S256x1024_256_0, k0_pay19 (View.ld a (Rect.unit ![256, 0] ![256, 1024] inb_S512x1024_S256x1024_256_0))⟩,
      ⟨Rect.unit ![0, 0] ![256, 1024] inb_S512x1024_S256x1024_0_0, k0_pay18 (View.ld a (Rect.unit ![0, 0] ![256, 1024] inb_S512x1024_S256x1024_0_0))⟩] = (fun i => a i : Vec Ideal S512x1024 .bf16) := by
  refine halves _ _ _ (fun x => ?_) (fun x => ?_) <;> unfold_payloads <;> pointwise []

/-- The first point's stores of these weights leave them whole. -/
theorem stored_rec (a : Vec Ideal S1024x1024 .f32) :
    View.canon (Val := Elt Ideal) (s := S1024x1024) (e := .bf16) [⟨Rect.unit ![768, 0] ![256, 1024] inb_S1024x1024_S256x1024_768_0, k0_pay16 (View.ld a (Rect.unit ![768, 0] ![256, 1024] inb_S1024x1024_S256x1024_768_0))⟩,
      ⟨Rect.unit ![512, 0] ![256, 1024] inb_S1024x1024_S256x1024_512_0, k0_pay12 (View.ld a (Rect.unit ![512, 0] ![256, 1024] inb_S1024x1024_S256x1024_512_0))⟩,
      ⟨Rect.unit ![256, 0] ![256, 1024] inb_S1024x1024_S256x1024_256_0, k0_pay8 (View.ld a (Rect.unit ![256, 0] ![256, 1024] inb_S1024x1024_S256x1024_256_0))⟩,
      ⟨Rect.unit ![0, 0] ![256, 1024] inb_S1024x1024_S256x1024_0_0, k0_pay4 (View.ld a (Rect.unit ![0, 0] ![256, 1024] inb_S1024x1024_S256x1024_0_0))⟩] = (fun i => a i : Vec Ideal S1024x1024 .bf16) := by
  refine quarters _ _ _ _ _ (fun x => ?_) (fun x => ?_) (fun x => ?_) (fun x => ?_) <;> unfold_payloads <;> pointwise []

/-- The first point's stores of these weights leave them whole. -/
theorem stored_out (a : Vec Ideal S1024x1024 .f32) :
    View.canon (Val := Elt Ideal) (s := S1024x1024) (e := .bf16) [⟨Rect.unit ![768, 0] ![256, 1024] inb_S1024x1024_S256x1024_768_0, k0_pay17 (View.ld a (Rect.unit ![768, 0] ![256, 1024] inb_S1024x1024_S256x1024_768_0))⟩,
      ⟨Rect.unit ![512, 0] ![256, 1024] inb_S1024x1024_S256x1024_512_0, k0_pay13 (View.ld a (Rect.unit ![512, 0] ![256, 1024] inb_S1024x1024_S256x1024_512_0))⟩,
      ⟨Rect.unit ![256, 0] ![256, 1024] inb_S1024x1024_S256x1024_256_0, k0_pay9 (View.ld a (Rect.unit ![256, 0] ![256, 1024] inb_S1024x1024_S256x1024_256_0))⟩,
      ⟨Rect.unit ![0, 0] ![256, 1024] inb_S1024x1024_S256x1024_0_0, k0_pay5 (View.ld a (Rect.unit ![0, 0] ![256, 1024] inb_S1024x1024_S256x1024_0_0))⟩] = (fun i => a i : Vec Ideal S1024x1024 .bf16) := by
  refine quarters _ _ _ _ _ (fun x => ?_) (fun x => ?_) (fun x => ?_) (fun x => ?_) <;> unfold_payloads <;> pointwise []

/-- A point's output block: each row the merge of its rows. -/
def blockOut (x : Vec Ideal S512x1024 .f32) (a : Vec Ideal S512x512 .f32) (h : Vec Ideal S512x1024 .bf16)
    (W : Vec Ideal S1024x2048 .bf16) (ba bb : Vec Ideal S1x1024 .f32) (pa : Vec Ideal S512x1024 .bf16)
    (pl po : Vec Ideal S1024x1024 .bf16) (bo g b : Vec Ideal S1x1024 .f32) : Vec Ideal S512x1024 .f32 := fun i =>
  rowOut (fun k => x (ix2 (i 0) k)) (fun k => a (ix2 (i 0) k)) (fun k => h (ix2 (i 0) k))
    (fun k l => W (ix2 k ⟨l.val, by omega⟩)) (fun k l => W (ix2 k ⟨1024 + l.val, by omega⟩)) (fun l => ba (ix2 0 l)) (fun l => bb (ix2 0 l))
    (fun k l => pa (ix2 k l)) (fun k l => pl (ix2 k l)) (fun k l => po (ix2 k l))
    (fun l => bo (ix2 0 l)) (fun l => g (ix2 0 l)) (fun l => b (ix2 0 l)) (i 1)

/-- The two stores of a point leave that block. -/
theorem stored_block (x : Vec Ideal S512x1024 .f32) (a : Vec Ideal S512x512 .f32) (h : Vec Ideal S512x1024 .bf16)
    (W : Vec Ideal S1024x2048 .bf16) (ba bb : Vec Ideal S1x1024 .f32) (pa : Vec Ideal S512x1024 .bf16)
    (pl po : Vec Ideal S1024x1024 .bf16) (bo g b : Vec Ideal S1x1024 .f32) :
    View.canon (Val := Elt Ideal) (s := S512x1024) (e := .f32) [⟨Rect.unit ![256, 0] ![256, 1024] inb_S512x1024_S256x1024_256_0, k0_pay1 (k0_pay24 (View.ld x (Rect.unit ![256, 0] ![256, 1024] inb_S512x1024_S256x1024_256_0)) (k0_pay22 (View.ld x (Rect.unit ![256, 0] ![256, 1024] inb_S512x1024_S256x1024_256_0))) (k0_pay23 (View.ld x (Rect.unit ![256, 0] ![256, 1024] inb_S512x1024_S256x1024_256_0)) (View.ld W (Rect.unit ![0, 0] ![1024, 1024] inb_S1024x2048_S1024x1024_0_0)) ba) (View.ld W (Rect.unit ![0, 1024] ![1024, 1024] inb_S1024x2048_S1024x1024_0_1024)) bb (View.ld a (Rect.unit ![256, 0] ![256, 512] inb_S512x512_S256x512_256_0)) pa (View.ld h (Rect.unit ![256, 0] ![256, 1024] inb_S512x1024_S256x1024_256_0)) pl po bo) (k0_pay25 (View.ld x (Rect.unit ![256, 0] ![256, 1024] inb_S512x1024_S256x1024_256_0)) (k0_pay22 (View.ld x (Rect.unit ![256, 0] ![256, 1024] inb_S512x1024_S256x1024_256_0))) (k0_pay23 (View.ld x (Rect.unit ![256, 0] ![256, 1024] inb_S512x1024_S256x1024_256_0)) (View.ld W (Rect.unit ![0, 0] ![1024, 1024] inb_S1024x2048_S1024x1024_0_0)) ba) (View.ld W (Rect.unit ![0, 1024] ![1024, 1024] inb_S1024x2048_S1024x1024_0_1024)) bb (View.ld a (Rect.unit ![256, 0] ![256, 512] inb_S512x512_S256x512_256_0)) pa (View.ld h (Rect.unit ![256, 0] ![256, 1024] inb_S512x1024_S256x1024_256_0)) pl po bo) (FloatOps.ofBits .f32 0x3727C5AC#32) g b⟩,
      ⟨Rect.unit ![0, 0] ![256, 1024] inb_S512x1024_S256x1024_0_0, k0_pay21 (View.ld x (Rect.unit ![0, 0] ![256, 1024] inb_S512x1024_S256x1024_0_0)) (k0_pay20 (View.ld x (Rect.unit ![0, 0] ![256, 1024] inb_S512x1024_S256x1024_0_0)) (View.ld W (Rect.unit ![0, 0] ![1024, 1024] inb_S1024x2048_S1024x1024_0_0)) ba (View.ld W (Rect.unit ![0, 1024] ![1024, 1024] inb_S1024x2048_S1024x1024_0_1024)) bb (View.ld a (Rect.unit ![0, 0] ![256, 512] inb_S512x512_S256x512_0_0)) pa (View.ld h (Rect.unit ![0, 0] ![256, 1024] inb_S512x1024_S256x1024_0_0)) pl po) bo g b⟩] = blockOut x a h W ba bb pa pl po bo g b := by
  refine halves _ _ _ (fun y => ?_) (fun y => ?_)
  · idx_vars y
    refine (first_half _ _ _ _ _ _ _ _ _ _ _ _ _ _ _).trans ?_
    pointwise [blockOut]
  · idx_vars y
    refine (second_half _ _ _ _ _ _ _ _ _ _ _ _ _ _ _).trans ?_
    pointwise [blockOut]

/-- A load of stores that leave `G` is a load of `G`. -/
theorem loaded {S : Shape} {e : EltTy} {sp : Space} (v : View sig .tc sp S e) (L : List (View.Piece (Elt Ideal) S e)) (G : Vec Ideal S e)
    (B : Rect S) (h : View.canon L = G) : v.readCov L B.toLoadRect = View.ld G B := by
  rw [View.readCov_eq_canon', h]

/-- A load of all of it likewise. -/
theorem loaded_whole {S : Shape} {e : EltTy} {sp : Space} (v : View sig .tc sp S e) (L : List (View.Piece (Elt Ideal) S e)) (G : Vec Ideal S e)
    {off : Fin S.rank → Nat} (inb : ∀ a, off a + S.size a ≤ S.size a) (h0 : ∀ a, off a = 0) (h : View.canon L = G) :
    v.readCov L (Rect.unit off S.size inb).toLoadRect = G :=
  (loaded v L G _ h).trans (View.ld_unit_lit inb G h0)

/-- The gate weights after the first point. -/
theorem first_wide (c : Dev nD) (t : Fin cfg0.N) (h : t.val % 32 = 0) :
    (outsAt0 m c t.val t.isLt).2.1 = wide (iblk m c 3 t) (iblk m c 4 t) := by
  rw [outsAt0_A m c t h]
  dsimp only
  frame_out
  exact stored_wide _ _

/-- These weights after the first point. -/
theorem first_attn (c : Dev nD) (t : Fin cfg0.N) (h : t.val % 32 = 0) :
    (outsAt0 m c t.val t.isLt).2.2.1 = (fun i => iblk m c 7 t i : Vec Ideal S512x1024 .bf16) := by
  rw [outsAt0_A m c t h]
  dsimp only
  frame_out
  exact stored_attn _

/-- These weights after the first point. -/
theorem first_rec (c : Dev nD) (t : Fin cfg0.N) (h : t.val % 32 = 0) :
    (outsAt0 m c t.val t.isLt).2.2.2.1 = (fun i => iblk m c 8 t i : Vec Ideal S1024x1024 .bf16) := by
  rw [outsAt0_A m c t h]
  dsimp only
  frame_out
  exact stored_rec _

/-- These weights after the first point. -/
theorem first_out (c : Dev nD) (t : Fin cfg0.N) (h : t.val % 32 = 0) :
    (outsAt0 m c t.val t.isLt).2.2.2.2 = (fun i => iblk m c 9 t i : Vec Ideal S1024x1024 .bf16) := by
  rw [outsAt0_A m c t h]
  dsimp only
  frame_out
  exact stored_out _

theorem first_block (c : Dev nD) (t : Fin cfg0.N) (h : t.val % 32 = 0) :
    (outsAt0 m c t.val t.isLt).1 = blockOut (iblk m c 0 t) (iblk m c 1 t) (iblk m c 2 t) (outsAt0 m c t.val t.isLt).2.1
      (iblk m c 5 t) (iblk m c 6 t) (outsAt0 m c t.val t.isLt).2.2.1 (outsAt0 m c t.val t.isLt).2.2.2.1
      (outsAt0 m c t.val t.isLt).2.2.2.2 (iblk m c 10 t) (iblk m c 11 t) (iblk m c 12 t) := by
  rw [first_wide m c t h, first_attn m c t h, first_rec m c t h, first_out m c t h, outsAt0_A m c t h]
  dsimp only
  frame_out
  rw [loaded_whole _ _ _ _ (by decide) (stored_attn _), loaded_whole _ _ _ _ (by decide) (stored_rec _), loaded_whole _ _ _ _ (by decide) (stored_out _),
    loaded _ _ _ _ (stored_wide _ _), loaded _ _ _ _ (stored_wide _ _)]
  exact stored_block _ _ _ _ _ _ _ _ _ _ _ _

theorem later_block (c : Dev nD) (t : Fin cfg0.N) (h : ¬t.val % 32 = 0) :
    (outsAt0 m c t.val t.isLt).1 = blockOut (iblk m c 0 t) (iblk m c 1 t) (iblk m c 2 t) (outsAt0 m c t.val t.isLt).2.1
      (iblk m c 5 t) (iblk m c 6 t) (outsAt0 m c t.val t.isLt).2.2.1 (outsAt0 m c t.val t.isLt).2.2.2.1
      (outsAt0 m c t.val t.isLt).2.2.2.2 (iblk m c 10 t) (iblk m c 11 t) (iblk m c 12 t) := by
  rw [outsAt0_B m c t h]
  dsimp only [sout0_B_0, sout0_B_1, sout0_B_2, sout0_B_3]
  frame_out
  simp only [read_unread_whole]
  exact stored_block _ _ _ _ _ _ _ _ _ _ _ _

end Cert.Merged

end
-- ==== Proof.MergeValue.lean ====
/- The merge kernel's result array: every row is the merge of the rows of the arguments. -/
module

public import proofs.«01_k».proof.Proof.MergeBlocks
public import Idealize.ShloMosaic.Lib.Pipeline.ValueKit

@[expose] public section

set_option maxRecDepth 16384

noncomputable section

namespace Cert.Merged

open Idealize.ShloMosaic Idealize.ShloMosaic.TcCoe Idealize.ShloMosaic.Tactic
open Cert.MergeIdeal Cert.MergeIdeal.Gen

variable (m : (ℓ : Loc nD τ sig) → Buf (Elt Ideal) ℓ)

theorem idx_rows : ∀ t : Fin cfg0.N, win0_0.index t = ![t.val, 0] ∧ win0_1.index t = ![t.val, 0] ∧ win0_2.index t = ![t.val, 0]
    ∧ win0_13.index t = ![t.val, 0] :=
  (by decide +kernel : ∀ t : Fin grid0.N, _)

theorem idx_once : ∀ t : Fin cfg0.N, win0_3.index t = ![0, 7] ∧ win0_4.index t = ![0, 8] ∧ win0_5.index t = ![0, 7] ∧ win0_6.index t = ![0, 8]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

theorem points (t : Fin cfg0.N) : t.val < 32 := lt_of_lt_of_eq t.isLt N_0

theorem blk_x (c : Dev nD) (t : Fin cfg0.N) (r : Fin 512) (k : Fin 1024) :
    iblk m c 0 t (ix2 r k) = m ((c : Thread nD τ).loc main_arg0) (ix2 ⟨t.val * 512 + r.val, by have := points t; omega⟩ k) := by
  blk_ext [iblk, V, idx_rows t]

theorem blk_attn (c : Dev nD) (t : Fin cfg0.N) (r : Fin 512) (k : Fin 512) :
    iblk m c 1 t (ix2 r k) = m ((c : Thread nD τ).loc main_arg1) (ix2 ⟨t.val * 512 + r.val, by have := points t; omega⟩ k) := by
  blk_ext [iblk, V, idx_rows t]

theorem blk_rec (c : Dev nD) (t : Fin cfg0.N) (r : Fin 512) (k : Fin 1024) :
    iblk m c 2 t (ix2 r k) = m ((c : Thread nD τ).loc main_arg2) (ix2 ⟨t.val * 512 + r.val, by have := points t; omega⟩ k) := by
  blk_ext [iblk, V, idx_rows t]

theorem blk_wa (c : Dev nD) (t : Fin cfg0.N) (k l : Fin 1024) :
    iblk m c 3 t (ix2 k l) = m ((c : Thread nD τ).loc main_arg3) (ix2 k ⟨7168 + l.val, by omega⟩) := by
  blk_ext [iblk, V, idx_once t]

theorem blk_wb (c : Dev nD) (t : Fin cfg0.N) (k l : Fin 1024) :
    iblk m c 4 t (ix2 k l) = m ((c : Thread nD τ).loc main_arg3) (ix2 k ⟨8192 + l.val, by omega⟩) := by
  blk_ext [iblk, V, idx_once t]

theorem blk_ba (c : Dev nD) (t : Fin cfg0.N) (l : Fin 1024) :
    iblk m c 5 t (ix2 0 l) = m ((c : Thread nD τ).loc main_arg4) (ix2 0 ⟨7168 + l.val, by omega⟩) := by
  blk_ext [iblk, V, idx_once t]

theorem blk_bb (c : Dev nD) (t : Fin cfg0.N) (l : Fin 1024) :
    iblk m c 6 t (ix2 0 l) = m ((c : Thread nD τ).loc main_arg4) (ix2 0 ⟨8192 + l.val, by omega⟩) := by
  blk_ext [iblk, V, idx_once t]

theorem blk_pa (c : Dev nD) (t : Fin cfg0.N) (k : Fin 512) (l : Fin 1024) :
    iblk m c 7 t (ix2 k l) = m ((c : Thread nD τ).loc main_arg5) (ix2 k l) := by
  blk_ext [iblk, V, idx_once t]

theorem blk_pl (c : Dev nD) (t : Fin cfg0.N) (k l : Fin 1024) :
    iblk m c 8 t (ix2 k l) = m ((c : Thread nD τ).loc main_arg6) (ix2 k l) := by
  blk_ext [iblk, V, idx_once t]

theorem blk_po (c : Dev nD) (t : Fin cfg0.N) (k l : Fin 1024) :
    iblk m c 9 t (ix2 k l) = m ((c : Thread nD τ).loc main_arg7) (ix2 k l) := by
  blk_ext [iblk, V, idx_once t]

theorem blk_bo (c : Dev nD) (t : Fin cfg0.N) (l : Fin 1024) :
    iblk m c 10 t (ix2 0 l) = m ((c : Thread nD τ).loc main_arg8) (ix2 0 l) := by
  blk_ext [iblk, V, idx_once t]

theorem blk_g (c : Dev nD) (t : Fin cfg0.N) (l : Fin 1024) :
    iblk m c 11 t (ix2 0 l) = m ((c : Thread nD τ).loc main_arg9) (ix2 0 l) := by
  blk_ext [iblk, V, idx_once t]

theorem blk_b (c : Dev nD) (t : Fin cfg0.N) (l : Fin 1024) :
    iblk m c 12 t (ix2 0 l) = m ((c : Thread nD τ).loc main_arg10) (ix2 0 l) := by
  blk_ext [iblk, V, idx_once t]

theorem held_wide (c : Dev nD) (t : Fin cfg0.N) (k : Fin 1024) (l : Fin 2048) :
    (outsAt0 m c t.val t.isLt).2.1 (ix2 k l) = m ((c : Thread nD τ).loc main_arg3) (ix2 k ⟨7168 + l.val, by omega⟩) := by
  rw [Pipeline.eq_of_write_hold (fun n h => (outsAt0 m c n h).2.1) 32 (fun t => wide (iblk m c 3 t) (iblk m c 4 t))
    (first_wide m c) (fun t h => by rw [outsAt0_B m c t h]; rfl) t]
  show wide _ _ (ix2 k l) = _
  unfold wide
  split
  · rename_i h
    exact blk_wa m c _ k ⟨l.val, h⟩
  · rename_i h
    refine (blk_wb m c _ k ⟨l.val - 1024, by omega⟩).trans (congrArg (fun q => m ((c : Thread nD τ).loc main_arg3) (ix2 k q)) (Fin.ext ?_))
    have h : ¬ l.val < 1024 := h
    show 8192 + (l.val - 1024) = 7168 + l.val
    omega

theorem held_attn (c : Dev nD) (t : Fin cfg0.N) (k : Fin 512) (l : Fin 1024) :
    (outsAt0 m c t.val t.isLt).2.2.1 (ix2 k l) = m ((c : Thread nD τ).loc main_arg5) (ix2 k l) := by
  rw [Pipeline.eq_of_write_hold (fun n h => (outsAt0 m c n h).2.2.1) 32 (fun t => (fun i => iblk m c 7 t i : Vec Ideal S512x1024 .bf16))
    (first_attn m c) (fun t h => by rw [outsAt0_B m c t h]; rfl) t]
  exact blk_pa m c _ k l

theorem held_rec (c : Dev nD) (t : Fin cfg0.N) (k : Fin 1024) (l : Fin 1024) :
    (outsAt0 m c t.val t.isLt).2.2.2.1 (ix2 k l) = m ((c : Thread nD τ).loc main_arg6) (ix2 k l) := by
  rw [Pipeline.eq_of_write_hold (fun n h => (outsAt0 m c n h).2.2.2.1) 32 (fun t => (fun i => iblk m c 8 t i : Vec Ideal S1024x1024 .bf16))
    (first_rec m c) (fun t h => by rw [outsAt0_B m c t h]; rfl) t]
  exact blk_pl m c _ k l

theorem held_out (c : Dev nD) (t : Fin cfg0.N) (k : Fin 1024) (l : Fin 1024) :
    (outsAt0 m c t.val t.isLt).2.2.2.2 (ix2 k l) = m ((c : Thread nD τ).loc main_arg7) (ix2 k l) := by
  rw [Pipeline.eq_of_write_hold (fun n h => (outsAt0 m c n h).2.2.2.2) 32 (fun t => (fun i => iblk m c 9 t i : Vec Ideal S1024x1024 .bf16))
    (first_out m c) (fun t h => by rw [outsAt0_B m c t h]; rfl) t]
  exact blk_po m c _ k l

theorem block (c : Dev nD) (t : Fin cfg0.N) :
    (outsAt0 m c t.val t.isLt).1 = blockOut (iblk m c 0 t) (iblk m c 1 t) (iblk m c 2 t) (outsAt0 m c t.val t.isLt).2.1
      (iblk m c 5 t) (iblk m c 6 t) (outsAt0 m c t.val t.isLt).2.2.1 (outsAt0 m c t.val t.isLt).2.2.2.1
      (outsAt0 m c t.val t.isLt).2.2.2.2 (iblk m c 10 t) (iblk m c 11 t) (iblk m c 12 t) := by
  by_cases h : t.val % 32 = 0
  · exact first_block m c t h
  · exact later_block m c t h

/-- Rows of equal ingredients are equal. -/
theorem row_eq {x x' : Fin 1024 → EReal} {a a' : Fin 512 → EReal} {h h' : Fin 1024 → EReal}
    {wa wa' wb wb' : Fin 1024 → Fin 1024 → EReal} {ba ba' bb bb' : Fin 1024 → EReal} {pa pa' : Fin 512 → Fin 1024 → EReal}
    {pl pl' po po' : Fin 1024 → Fin 1024 → EReal} {bo bo' g g' b b' : Fin 1024 → EReal}
    (ex : ∀ k, x k = x' k) (ea : ∀ k, a k = a' k) (eh : ∀ k, h k = h' k) (ewa : ∀ k l, wa k l = wa' k l)
    (ewb : ∀ k l, wb k l = wb' k l) (eba : ∀ l, ba l = ba' l) (ebb : ∀ l, bb l = bb' l) (epa : ∀ k l, pa k l = pa' k l)
    (epl : ∀ k l, pl k l = pl' k l) (epo : ∀ k l, po k l = po' k l) (ebo : ∀ l, bo l = bo' l) (eg : ∀ l, g l = g' l)
    (eb : ∀ l, b l = b' l) : rowOut x a h wa wb ba bb pa pl po bo g b = rowOut x' a' h' wa' wb' ba' bb' pa' pl' po' bo' g' b' := by
  obtain rfl := funext ex; obtain rfl := funext ea; obtain rfl := funext eh; obtain rfl := funext fun k => funext (ewa k)
  obtain rfl := funext fun k => funext (ewb k); obtain rfl := funext eba; obtain rfl := funext ebb
  obtain rfl := funext fun k => funext (epa k); obtain rfl := funext fun k => funext (epl k); obtain rfl := funext fun k => funext (epo k)
  obtain rfl := funext ebo; obtain rfl := funext eg; obtain rfl := funext eb; rfl

/-- The result as a function of the argument arrays. -/
def merged (x : (⟨2, ![16384, 1024]⟩ : Shape).Idx → EReal) (a : (⟨2, ![16384, 512]⟩ : Shape).Idx → EReal)
    (h : (⟨2, ![16384, 1024]⟩ : Shape).Idx → EReal) (w : (⟨2, ![1024, 9216]⟩ : Shape).Idx → EReal)
    (bi : (⟨2, ![1, 9216]⟩ : Shape).Idx → EReal) (pa : (⟨2, ![512, 1024]⟩ : Shape).Idx → EReal)
    (pl po : (⟨2, ![1024, 1024]⟩ : Shape).Idx → EReal) (bo g b : (⟨2, ![1, 1024]⟩ : Shape).Idx → EReal) :
    (⟨2, ![16384, 1024]⟩ : Shape).Idx → EReal := fun i =>
  rowOut (fun k => x (ix2 (i 0) k)) (fun k => a (ix2 (i 0) k)) (fun k => h (ix2 (i 0) k))
    (fun k l => w (ix2 k ⟨7168 + l.val, by omega⟩)) (fun k l => w (ix2 k ⟨7168 + (1024 + l.val), by omega⟩))
    (fun l => bi (ix2 0 ⟨7168 + l.val, by omega⟩)) (fun l => bi (ix2 0 ⟨7168 + (1024 + l.val), by omega⟩))
    (fun k l => pa (ix2 k l)) (fun k l => pl (ix2 k l)) (fun k l => po (ix2 k l))
    (fun l => bo (ix2 0 l)) (fun l => g (ix2 0 l)) (fun l => b (ix2 0 l)) (i 1)

theorem final (c : Dev nD) : (dats m 0 c).arrAt 13 cfg0.N
    = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 13 _ (by decide +kernel) fun t hf y => ?_
  blk_simp
  rw [after0_13, block]
  obtain ⟨r, j, rfl⟩ : ∃ (r : Fin 512) (j : Fin 1024), y = (ix2 r j : (⟨2, ![512, 1024]⟩ : Shape).Idx) := ⟨y 0, y 1, eq_ix2 y⟩
  have he : ((win0_13.blk t).view.emb (ix2 r j) : (⟨2, ![16384, 1024]⟩ : Shape).Idx)
      = ix2 ⟨t.val * 512 + r.val, by have := points t; omega⟩ j := by
    blk_ext [idx_rows t]
  rw [he]
  refine congrFun (row_eq (fun k => blk_x m c t r k) (fun k => blk_attn m c t r k) (fun k => blk_rec m c t r k)
    (fun k l => held_wide m c t k _) (fun k l => held_wide m c t k _) (fun l => blk_ba m c t l)
    (fun l => (blk_bb m c t l).trans ?_)
    (fun k l => held_attn m c t k l) (fun k l => held_rec m c t k l) (fun k l => held_out m c t k l)
    (fun l => blk_bo m c t l) (fun l => blk_g m c t l) (fun l => blk_b m c t l)) j
  refine congrArg (fun q => m ((c : Thread nD τ).loc main_arg4) (ix2 0 q)) (Fin.ext ?_)
  show 8192 + l.val = 7168 + (1024 + l.val)
  omega

end Cert.Merged

end
-- ==== Proof.MergeReference.lean ====
/- The merge reference's result array read entry by entry. -/
module

public import proofs.«01_k».proof.Proof.MergeValue
public import proofs.«01_k».proof.Proof.Gen.MergeRefIdeal.Run
public import Idealize.ShloMosaic.Lib.Tactic.CleanTypes

@[expose] public section

set_option maxRecDepth 16384

noncomputable section

namespace Cert.Merged

open Idealize.ShloMosaic Idealize.ShloMosaic.TcCoe Idealize.ShloMosaic.Tactic
open Cert.MergeRefIdeal Cert.MergeRefIdeal.Value

variable (m : (ℓ : Loc Cert.MergeRefIdeal.nD Cert.MergeRefIdeal.τ Cert.MergeRefIdeal.sig) → Buf (Elt Ideal) ℓ)

theorem reference (c : Dev Cert.MergeRefIdeal.nD) : res_main_v59 m c
    = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  funext i
  obtain ⟨r, j, rfl⟩ : ∃ (r : Fin 16384) (j : Fin 1024), i = (ix2 r j : (⟨2, ![16384, 1024]⟩ : Shape).Idx) := ⟨i 0, i 1, eq_ix2 i⟩
  unfold res_main_v59
  clean_types
  pointwise [merged, rowOut, normed, centred, summed, mixed, gate]
  rfl

end Cert.Merged

end
-- ==== Proof.LruIdealRing.lean ====
/- The ring of the gated recurrence's kernel: its three slots, their semaphores, the sixteen blocks of x, and which of
   them are at home, in flight or held before each of the sixty-four copies. At the idealized program. -/
module

public import proofs.«01_k».proof.Proof.LruRing
public import proofs.«01_k».proof.Proof.Gen.LruIdeal.Launch
public import proofs.«01_k».proof.Proof.Gen.LruIdeal.Skeleton
public import proofs.«01_k».proof.Proof.Gen.LruIdeal.Loops
public import proofs.«01_k».proof.Proof.Gen.LruIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.LruIdeal

open Cert.LruIdeal Cert.LruIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The pipeline's resource algebra beside the counters of the kernel's own copies. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] [Named F] in
theorem ent_of_eq {P Q : sProp 𝕄} (e : P = Q) : P ⊢ Q := e ▸ .rfl

/-! ## Names -/

abbrev xM : Memref sig .tc .hbm S4x4096x1024 .f32 := Memref.whole main_arg0
abbrev ringM : Memref sig .tc .vmem S3x1024x1024 .f32 := Memref.whole cc0_scratch6

/-- The block of x that copy number `q` brings. -/
def bx (q : ℕ) : Fin 16 := Fin.ofNat 16 (4 * (q / 16) + q % 4)

abbrev xOff (b : Fin 16) : Fin 3 → Nat := ![b.val / 4, 1024 * (b.val % 4), 0]
theorem xOff_inb (b : Fin 16) : ∀ a, xOff b a + S1x1024x1024.size a ≤ S4x4096x1024.size a := by
  have := b.isLt; intro a; fin_cases a
  · show b.val / 4 + 1 ≤ 4; omega
  · show 1024 * (b.val % 4) + 1024 ≤ 4096; omega
  · show 0 + 1024 ≤ 1024; omega
abbrev slotOff (s : Fin 3) : Fin 3 → Nat := ![s.val, 0, 0]
theorem slotOff_inb (s : Fin 3) : ∀ a, slotOff s a + S1x1024x1024.size a ≤ S3x1024x1024.size a := by
  have := s.isLt; intro a; fin_cases a
  · show s.val + 1 ≤ 3; omega
  · show 0 + 1024 ≤ 1024; omega
  · show 0 + 1024 ≤ 1024; omega
abbrev semOff (s : Fin 3) : Fin 1 → Nat := ![s.val]
theorem semOff_inb (s : Fin 3) : ∀ a, semOff s a + S1.size a ≤ S3.size a := by
  have := s.isLt; intro a; fin_cases a; show s.val + 1 ≤ 3; omega

/-- Block `b` of x. -/
def xb (b : Fin 16) : Memref sig .tc .hbm S1024x1024 .f32 :=
  (xM.slice (Rect.unit (s := S4x4096x1024) (xOff b) S1x1024x1024.size (xOff_inb b)) (fun _ => rfl)).squeeze S1024x1024 squeezes_S1x1024x1024_S1024x1024
/-- Slot `s` of the ring. -/
def rslot (s : Fin 3) : Memref sig .tc .vmem S1024x1024 .f32 :=
  (ringM.slice (Rect.unit (s := S3x1024x1024) (slotOff s) S1x1024x1024.size (slotOff_inb s)) (fun _ => rfl)).squeeze S1024x1024 squeezes_S1x1024x1024_S1024x1024
/-- Slot `s`'s semaphore. -/
def csm (s : Fin 3) : DmaSems sig S_ := (cc0_scratch7.slice (Rect.unit (s := S3) (semOff s) S1.size (semOff_inb s))).squeeze S_ squeezes_S1_S_

instance (s : Fin 3) : ClosedOff (slotOff s) := ⟨slotOff s, rfl⟩
instance (b : Fin 16) : ClosedOff (xOff b) := ⟨xOff b, rfl⟩

/-- The number of copies before point `i`. -/
abbrev qOf (i : grid0.Coords) : ℕ := 16 * (i 0).val + 4 * (i 1).val

omit [FloatOps F] [Named F] in
theorem i0_lt (i : grid0.Coords) : (i 0).val < 4 := (i 0).isLt
omit [FloatOps F] [Named F] in
theorem i1_lt (i : grid0.Coords) : (i 1).val < 4 := (i 1).isLt
omit [FloatOps F] [Named F] in
theorem trips1 : k0_t1_loop.trips = 3 := by decide

theorem csm_congr {off : Fin 1 → Nat} {s : Fin 3} (e : off = semOff s) (hh) :
    (cc0_scratch7.slice (Rect.unit (s := S3) off S1.size hh)).squeeze S_ squeezes_S1_S_ = csm s :=
  congrArg (fun A : DmaSems sig S1 => A.squeeze S_ squeezes_S1_S_) (SemArray.slice_unit_congr _ e _ _)
theorem rslot_congr {off : Fin 3 → Nat} {s : Fin 3} (e : off = slotOff s) (hh hs) :
    (ringM.slice (Rect.unit (s := S3x1024x1024) off S1x1024x1024.size hh) hs).squeeze S1024x1024 squeezes_S1x1024x1024_S1024x1024 = rslot s :=
  congrArg (fun M : Memref sig .tc .vmem S1x1024x1024 .f32 => M.squeeze S1024x1024 squeezes_S1x1024x1024_S1024x1024) (Memref.slice_unit_congr _ e _ _ _ _)
theorem xb_congr {off : Fin 3 → Nat} {b : Fin 16} (e : off = xOff b) (hh hs) :
    (xM.slice (Rect.unit (s := S4x4096x1024) off S1x1024x1024.size hh) hs).squeeze S1024x1024 squeezes_S1x1024x1024_S1024x1024 = xb b :=
  congrArg (fun M : Memref sig .tc .hbm S1x1024x1024 .f32 => M.squeeze S1024x1024 squeezes_S1x1024x1024_S1024x1024) (Memref.slice_unit_congr _ e _ _ _ _)

theorem sem_eq {n q : ℕ} (h : n % 3 = q % 3) : (![n % 3] : Fin 1 → ℕ) = semOff (Ring.sl 3 q) := by
  simp [semOff, Ring.sl, Fin.ofNat, h]
theorem slot_eq {n q : ℕ} (h : n % 3 = q % 3) : (![n % 3, 0, 0] : Fin 3 → ℕ) = slotOff (Ring.sl 3 q) := by
  simp [slotOff, Ring.sl, Fin.ofNat, h]
theorem x_eq {a r q : ℕ} (hq : q < 64) (ha : a = q / 16) (hr : r = 1024 * (q % 4)) : (![a, r, 0] : Fin 3 → ℕ) = xOff (bx q) := by
  have h : (bx q).val = 4 * (q / 16) + q % 4 := by simp only [bx, Fin.ofNat]; omega
  have h1 : (4 * (q / 16) + q % 4) / 4 = q / 16 := by omega
  have h2 : (4 * (q / 16) + q % 4) % 4 = q % 4 := by omega
  subst ha hr
  unfold xOff; rw [h, h1, h2]

section Canon
variable (i : grid0.Coords)

@[sl_canon] theorem semL0 (hh) : (cc0_scratch7.slice (Rect.unit (s := S3) (k0_off4 0#32) S1.size hh)).squeeze S_ squeezes_S1_S_ = csm (Ring.sl 3 0) := csm_congr (by decide) _
@[sl_canon] theorem semL1 (hh) : (cc0_scratch7.slice (Rect.unit (s := S3) (k0_off4 1#32) S1.size hh)).squeeze S_ squeezes_S1_S_ = csm (Ring.sl 3 1) := csm_congr (by decide) _
@[sl_canon] theorem slotL0 (hh hs) : (ringM.slice (Rect.unit (s := S3x1024x1024) (k0_off5 0#32) S1x1024x1024.size hh) hs).squeeze S1024x1024 squeezes_S1x1024x1024_S1024x1024 = rslot (Ring.sl 3 0) := rslot_congr (by decide) _ _
@[sl_canon] theorem slotL1 (hh hs) : (ringM.slice (Rect.unit (s := S3x1024x1024) (k0_off5 1#32) S1x1024x1024.size hh) hs).squeeze S1024x1024 squeezes_S1x1024x1024_S1024x1024 = rslot (Ring.sl 3 1) := rslot_congr (by decide) _ _
@[sl_canon] theorem xL0 (hh hs) : (xM.slice (Rect.unit (s := S4x4096x1024) (k0_off6 0#32 0#32) S1x1024x1024.size hh) hs).squeeze S1024x1024 squeezes_S1x1024x1024_S1024x1024 = xb (bx 0) := xb_congr (by decide) _ _
@[sl_canon] theorem xL1 (hh hs) : (xM.slice (Rect.unit (s := S4x4096x1024) (k0_off6 1#32 1#32) S1x1024x1024.size hh) hs).squeeze S1024x1024 squeezes_S1x1024x1024_S1024x1024 = xb (bx 1) := xb_congr (by decide) _ _

@[sl_canon] theorem semW0 (hh) : (cc0_scratch7.slice (Rect.unit (s := S3) (k0_off7 i) S1.size hh)).squeeze S_ squeezes_S1_S_ = csm (Ring.sl 3 (qOf i)) := csm_congr ((k0_off7_eq i).trans (sem_eq rfl)) _
@[sl_canon] theorem slotW0 (hh hs) : (ringM.slice (Rect.unit (s := S3x1024x1024) (k0_off8 i) S1x1024x1024.size hh) hs).squeeze S1024x1024 squeezes_S1x1024x1024_S1024x1024 = rslot (Ring.sl 3 (qOf i)) := rslot_congr ((k0_off8_eq i).trans (slot_eq rfl)) _ _
@[sl_canon] theorem xW0 (hh hs) : (xM.slice (Rect.unit (s := S4x4096x1024) (k0_off9 i) S1x1024x1024.size hh) hs).squeeze S1024x1024 squeezes_S1x1024x1024_S1024x1024 = xb (bx (qOf i)) :=
  xb_congr ((k0_off9_eq i).trans (x_eq (by have := i0_lt i; have := i1_lt i; omega) rfl (by omega))) _ _
@[sl_canon] theorem semI0 (hh) : (cc0_scratch7.slice (Rect.unit (s := S3) (k0_off10 i) S1.size hh)).squeeze S_ squeezes_S1_S_ = csm (Ring.sl 3 (qOf i + 2)) := csm_congr ((k0_off10_eq i).trans (sem_eq rfl)) _
@[sl_canon] theorem slotI0 (hh hs) : (ringM.slice (Rect.unit (s := S3x1024x1024) (k0_off11 i) S1x1024x1024.size hh) hs).squeeze S1024x1024 squeezes_S1x1024x1024_S1024x1024 = rslot (Ring.sl 3 (qOf i + 2)) := rslot_congr ((k0_off11_eq i).trans (slot_eq rfl)) _ _
@[sl_canon] theorem xI0 (hh hs) : (xM.slice (Rect.unit (s := S4x4096x1024) (k0_off12 i) S1x1024x1024.size hh) hs).squeeze S1024x1024 squeezes_S1x1024x1024_S1024x1024 = xb (bx (qOf i + 2)) :=
  xb_congr ((k0_off12_eq i).trans (x_eq (by have := i0_lt i; have := i1_lt i; omega) rfl (by omega))) _ _

@[sl_canon] theorem semW (k : Fin k0_t1_loop.trips) (hh) : (cc0_scratch7.slice (Rect.unit (s := S3) (k0_off16 i k) S1.size hh)).squeeze S_ squeezes_S1_S_ = csm (Ring.sl 3 (qOf i + k.val + 1)) := csm_congr ((k0_off16_eq i k).trans (sem_eq rfl)) _
@[sl_canon] theorem slotW (k : Fin k0_t1_loop.trips) (hh hs) : (ringM.slice (Rect.unit (s := S3x1024x1024) (k0_off17 i k) S1x1024x1024.size hh) hs).squeeze S1024x1024 squeezes_S1x1024x1024_S1024x1024 = rslot (Ring.sl 3 (qOf i + k.val + 1)) := rslot_congr ((k0_off17_eq i k).trans (slot_eq rfl)) _ _
@[sl_canon] theorem xW (k : Fin k0_t1_loop.trips) (hh hs) : (xM.slice (Rect.unit (s := S4x4096x1024) (k0_off18 i k) S1x1024x1024.size hh) hs).squeeze S1024x1024 squeezes_S1x1024x1024_S1024x1024 = xb (bx (qOf i + k.val + 1)) :=
  xb_congr ((k0_off18_eq i k).trans (x_eq (by have := i0_lt i; have := i1_lt i; have := lt_of_lt_of_eq k.isLt trips1; omega) rfl rfl)) _ _
@[sl_canon] theorem semI (k : Fin k0_t1_loop.trips) (hh) : (cc0_scratch7.slice (Rect.unit (s := S3) (k0_off19 i k) S1.size hh)).squeeze S_ squeezes_S1_S_ = csm (Ring.sl 3 (qOf i + k.val + 1 + 2)) := csm_congr ((k0_off19_eq i k).trans (sem_eq rfl)) _
@[sl_canon] theorem slotI (k : Fin k0_t1_loop.trips) (hh hs) : (ringM.slice (Rect.unit (s := S3x1024x1024) (k0_off20 i k) S1x1024x1024.size hh) hs).squeeze S1024x1024 squeezes_S1x1024x1024_S1024x1024 = rslot (Ring.sl 3 (qOf i + k.val + 1 + 2)) := rslot_congr ((k0_off20_eq i k).trans (slot_eq rfl)) _ _
@[sl_canon] theorem xI (k : Fin k0_t1_loop.trips) (hk : qOf i + k.val + 1 + 2 < 64) (hh hs) : (xM.slice (Rect.unit (s := S4x4096x1024) (k0_off21 i k) S1x1024x1024.size hh) hs).squeeze S1024x1024 squeezes_S1x1024x1024_S1024x1024 = xb (bx (qOf i + k.val + 1 + 2)) :=
  xb_congr ((k0_off21_eq i k).trans (x_eq hk rfl rfl)) _ _

instance slotClosed (k : Fin k0_t1_loop.trips) : ClosedOff (k0_off26 i k) := ⟨slotOff (Ring.sl 3 (qOf i + k.val + 1)), (k0_off26_eq i k).trans (slot_eq rfl)⟩
instance slotClosed0 : ClosedOff (k0_off13 i) := ⟨slotOff (Ring.sl 3 (qOf i)), (k0_off13_eq i).trans (slot_eq rfl)⟩

/-- The three conditions. -/
theorem cond1_iff : k0_cond1 i = 1#1 ↔ qOf i = 0 := by revert i; decide +kernel
theorem cond2_true : k0_cond2 i = 1#1 := by revert i; decide +kernel
theorem cond3_iff (k : Fin k0_t1_loop.trips) : k0_cond3 i k = 1#1 ↔ qOf i + k.val + 1 + 2 < 64 := by revert i k; decide +kernel

end Canon

/-! ## Pieces -/

section Pieces
variable (c : Dev nD) (XA : Buf (Elt F) (xM.view.loc (c : Thread nD τ)))

abbrev cellP (s : Fin 3) : sProp 𝕄 := semVal ((c : Thread nD τ), SemLoc.dma (csm s).sem) 0
abbrev slotP (s : Fin 3) (f : Buf (Elt F) ((rslot s).view.loc (c : Thread nD τ))) : sProp 𝕄 :=
  (rslot s).view.loc (c : Thread nD τ) ↦[(rslot s).view.set]{fullShare} f
abbrev homeP (b : Fin 16) : sProp 𝕄 := (xb b).view.loc (c : Thread nD τ) ↦[(xb b).view.set]{fullShare} XA
/-- Block `b`'s words as a slot receives them. -/
abbrev payload (b : Fin 16) : S1024x1024.Idx → Elt F .f32 := ReadAs.same.apply ((xb b).view.read (Elt F) XA)
abbrev landed (s : Fin 3) (b : Fin 16) (f : Buf (Elt F) ((rslot s).view.loc (c : Thread nD τ))) : Buf (Elt F) ((rslot s).view.loc (c : Thread nD τ)) :=
  (rslot s).view.writes (Elt F) f [⟨Rect.whole S1024x1024, payload c XA b⟩]
/-- The units one copy moves. -/
abbrev NN : ℕ := 131072
abbrev flightP (s : Fin 3) (b : Fin 16) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- What is held of copy `q` before its wait: its flight, or past the last copy its idle slot. -/
def partP (q : ℕ) : sProp 𝕄 :=
  if q < 64 then iprop(∃ f, flightP c XA (Ring.sl 3 q) (bx q) f)
  else iprop((∃ f, slotP (F := F) c (Ring.sl 3 q) f) ∗ cellP (F := F) c (Ring.sl 3 q))
/-- The blocks at home before copy `q` is waited for: all but those of copies `q` and `q + 1`. -/
def homeSet (q : ℕ) : Finset (Fin 16) := Finset.univ.filter fun b => (q < 64 → b ≠ bx q) ∧ (q + 1 < 64 → b ≠ bx (q + 1))
def ringP (q : ℕ) : sProp 𝕄 :=
  iprop(partP c XA q ∗ partP c XA (q + 1) ∗ ((∃ f, slotP (F := F) c (Ring.sl 3 (q + 2)) f) ∗ cellP (F := F) c (Ring.sl 3 (q + 2)))
    ∗ bigSep (homeSet q) (homeP c XA))

omit [FloatOps F] [Named F] in
theorem partP_lt {q : ℕ} (h : q < 64) : partP c XA q = iprop(∃ f, flightP c XA (Ring.sl 3 q) (bx q) f) := if_pos h
omit [FloatOps F] [Named F] in
theorem partP_ge {q : ℕ} (h : ¬ q < 64) : partP c XA q = iprop((∃ f, slotP (F := F) c (Ring.sl 3 q) f) ∗ cellP (F := F) c (Ring.sl 3 q)) := if_neg h
omit [FloatOps F] [Named F] in
theorem sl_add3 (q : ℕ) : Ring.sl 3 (q + 1 + 2) = Ring.sl 3 q := by
  have h : (q + 1 + 2) % 3 = q % 3 := by omega
  simp [Ring.sl, Fin.ofNat, h]

theorem homeSet_mem : ∀ q < 64, q + 2 < 64 → bx (q + 2) ∈ homeSet q := by decide +kernel
theorem homeSet_next : ∀ q < 64, q + 2 < 64 → bx q ∉ (homeSet q).erase (bx (q + 2)) ∧ homeSet (q + 1) = insert (bx q) ((homeSet q).erase (bx (q + 2))) := by decide +kernel
theorem homeSet_last : ∀ q < 64, ¬ q + 2 < 64 → bx q ∉ homeSet q ∧ homeSet (q + 1) = insert (bx q) (homeSet q) := by decide +kernel
theorem homeSet_zero : homeSet 0 = (Finset.univ.erase (bx 0)).erase (bx 1) := by decide +kernel
theorem homeSet_end : homeSet 64 = Finset.univ := by decide +kernel

omit [FloatOps F] [Named F] in
theorem homes_out {q : ℕ} (h : q + 2 < 64) : bigSep (homeSet q) (homeP c XA) = iprop(homeP c XA (bx (q + 2)) ∗ bigSep ((homeSet q).erase (bx (q + 2))) (homeP c XA)) := by
  conv_lhs => rw [← Finset.insert_erase (homeSet_mem q (by omega) h)]
  exact bigSep_insert (Finset.notMem_erase _ _)
omit [FloatOps F] [Named F] in
theorem homes_next {q : ℕ} (h : q + 2 < 64) : bigSep (homeSet (q + 1)) (homeP c XA) = iprop(homeP c XA (bx q) ∗ bigSep ((homeSet q).erase (bx (q + 2))) (homeP c XA)) := by
  rw [(homeSet_next q (by omega) h).2]; exact bigSep_insert (homeSet_next q (by omega) h).1
omit [FloatOps F] [Named F] in
theorem homes_last {q : ℕ} (h : q < 64) (h' : ¬ q + 2 < 64) : bigSep (homeSet (q + 1)) (homeP c XA) = iprop(homeP c XA (bx q) ∗ bigSep (homeSet q) (homeP c XA)) := by
  rw [(homeSet_last q h h').2]; exact bigSep_insert (homeSet_last q h h').1

/-- The copy a step issues, into the slot as the copy before left it. -/
theorem flightP_after (s : Fin 3) (b b' : Fin 16) :
    flightP c XA s b' ((rslot s).view.writes (Elt F) (rslot s).view.junk [⟨Rect.whole S1024x1024, payload c XA b⟩])
      = Transfers.Flight countersEmb (c : Thread nD τ) (SemLoc.dma (csm s).sem) () NN
          iprop(((rslot s).view.loc (c : Thread nD τ) ↦[(rslot s).view.set]{fullShare}
                  (rslot s).view.writes (Elt F) (rslot s).view.junk [⟨Rect.whole S1024x1024, payload c XA b'⟩, ⟨Rect.whole S1024x1024, payload c XA b⟩])
                ∗ homeP c XA b') := by
  simp only [flightP, landed, slotP, NN, View.writes]

end Pieces

end Cert.Proof.LruIdeal

end
-- ==== Proof.LruIdealSpec.lean ====
/- What the buffers of one grid point hold, as functions of the point: the filtered stream, the gates, the recurrence, the output. At the idealized program. -/
module

public import proofs.«01_k».proof.Proof.LruSpec
public import proofs.«01_k».proof.Proof.LruIdealRing
public import Idealize.ShloMosaic.Lib.Pointwise

@[expose] public section

noncomputable section

namespace Cert.Proof.LruIdeal

open Cert.LruIdeal Cert.LruIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

/-- What one point reads: its four chunks of x, its slabs of the projection and of the gates' weights, its biases. -/
structure Par (F : FTy → Type) [FloatOps F] where
  xv : ℕ → Vec F S1x1024x1024 .f32
  ws : Vec F S1024x512 .bf16
  wg : Vec F S256x512 .bf16
  v8 : Vec F S1x256 .f32
  v13 : Vec F S1x256 .f32
  v18 : Vec F S4x256 .f32
  v23 : Vec F S1x256 .f32
  v28 : Vec F S1x256 .f32
  v33 : Vec F S1x256 .f32
  v117 : FVec F S1x256 .f32

section Spec
variable (p : Par F)

abbrev i2 (a b : ℕ) [NeZero a] [NeZero b] (x y : ℕ) : (⟨2, ![a, b]⟩ : Shape).Idx := ix2 (Fin.ofNat a x) (Fin.ofNat b y)
abbrev i3 (a b c : ℕ) [NeZero a] [NeZero b] [NeZero c] (x y z : ℕ) : (⟨3, ![a, b, c]⟩ : Shape).Idx := ix3 (Fin.ofNat a x) (Fin.ofNat b y) (Fin.ofNat c z)

/-- The projected stream, by half of the columns, row and column; zero ahead of the sequence. -/
def uS (s r c : ℕ) : F .f32 :=
  if r < 8 then Scalar.ofBits .f32 0x00000000#32
  else if s = 0 then k0_pay29 p.v8 (p.xv ((r - 8) / 1024)) p.ws (i3 1 1024 128 0 ((r - 8) % 1024) c)
  else k0_pay30 p.v8 (p.xv ((r - 8) / 1024)) p.ws (i3 1 1024 128 0 ((r - 8) % 1024) c)
/-- The gate column's values. -/
def gS (r c : ℕ) : F .f32 := k0_pay61 p.v13 (k0_pay27 (p.xv (r / 1024)) p.ws) (i2 1024 256 (r % 1024) c)
/-- The rows a tap of the filter reads for chunk `k`. -/
def vL (k s j : ℕ) : Vec F S1x1024x128 .f32 := fun y => uS p s (1024 * k + j + (y 1).val) (y 2).val
/-- Chunk `k`'s decays and inputs. -/
def aC (k : ℕ) : FVec F S1024x256 .f32 :=
  k0_pay8 p.v18 p.v28 p.v117 (k0_pay3 p.v18 (k0_pay2 p.v18 p.v23 (vL p k 0 5) (vL p k 0 6)) (vL p k 0 7) (vL p k 0 8))
    (k0_pay4 p.v18 p.v23 (vL p k 1 5) (vL p k 1 6) (vL p k 1 7)) (vL p k 1 8) p.wg
def iC (k : ℕ) : FVec F S1024x256 .f32 :=
  k0_pay9 p.v18 p.v28 p.v33 p.v117 (k0_pay3 p.v18 (k0_pay2 p.v18 p.v23 (vL p k 0 5) (vL p k 0 6)) (vL p k 0 7) (vL p k 0 8))
    (k0_pay4 p.v18 p.v23 (vL p k 1 5) (vL p k 1 6) (vL p k 1 7)) (vL p k 1 8) p.wg
/-- Chunks of rows as the segmented buffers lay them out: segments of 256 rows at a stride of 260, the columns in halves. -/
def gOf (C : ℕ → FVec F S1024x256 .f32) (s r c : ℕ) : F .f32 := C (r / 1040) (i2 1024 256 (256 * (r % 1040 / 260) + r % 260) (128 * s + c))
def aS (s r c : ℕ) : F .f32 := gOf (aC p) s r c
def iS (s r c : ℕ) : F .f32 := gOf (iC p) s r c
/-- Step `j` of the eight segments of half `b`. -/
def aL (s b j : ℕ) : Vec F S1x8x128 .f32 := fun y => aS p s (2080 * b + 260 * (y 1).val + j) (y 2).val
def iL (s b j : ℕ) : Vec F S1x8x128 .f32 := fun y => iS p s (2080 * b + 260 * (y 1).val + j) (y 2).val
/-- The segments' states from zero and products of decays, after `j` steps. -/
def hV (s b : ℕ) : ℕ → FVec F S8x128 .f32
  | 0 => k0_pay88
  | j + 1 => k0_pay32 (hV s b j) (aL p s b j) (iL p s b j)
def pV (s b : ℕ) : ℕ → FVec F S8x128 .f32
  | 0 => k0_pay89
  | j + 1 => k0_pay33 (pV s b j) (aL p s b j)
def hS (s r c : ℕ) : F .f32 := hV p s (r / 2080) (r % 260 + 1) (i2 8 128 (r % 2080 / 260) c)
def pS (s r c : ℕ) : F .f32 := pV p s (r / 2080) (r % 260 + 1) (i2 8 128 (r % 2080 / 260) c)
/-- The state ahead of segment `n`. -/
def cin (s c : ℕ) : ℕ → F .f32
  | 0 => Scalar.ofBits .f32 0x00000000#32
  | n + 1 => FloatOps.addf (hV p s (n / 8) 256 (i2 8 128 (n % 8) c)) (FloatOps.mulf (pV p s (n / 8) 256 (i2 8 128 (n % 8) c)) (cin s c n))
/-- The point's result. -/
def oS (r c : ℕ) : F .bf16 :=
  FloatOps.truncf .bf16 bitsLt_bf16_f32
    (FloatOps.mulf (FloatOps.addf (hS p (c / 128) (260 * (r / 256) + r % 256) (c % 128))
      (FloatOps.mulf (pS p (c / 128) (260 * (r / 256) + r % 256) (c % 128)) (cin p (c / 128) (c % 128) (r / 256)))) (gS p r c))

end Spec

/-! ## Stores and what is known of a buffer -/

section Stores
variable {sig' : RefSig} {κ : Kind} {sp : Space} {sh : Shape} {e : EltTy} {Val : EltTy → Type}

/-- The elements under `P` hold `G`. -/
def Holds (v : View sig' κ sp sh e) (f : v.ty.Contents Val) (G : sh.Idx → Val e) (P : sh.Idx → Prop) : Prop := ∀ y, P y → v.read Val f y = G y

theorem holds_writes {v : View sig' κ sp sh e} {f : v.ty.Contents Val} {G : sh.Idx → Val e} {P Q : sh.Idx → Prop} {L : List (View.Piece Val sh e)}
    (h : Holds v f G P) (hG : ∀ q ∈ L, ∀ x, q.2 x = G (q.1.emb x)) (hc : ∀ y, Q y → (∃ q ∈ L, y ∈ q.1.set) ∨ P y) : Holds v (v.writes Val f L) G Q := by
  intro y hy
  by_cases hm : ∃ q ∈ L, y ∈ q.1.set
  · exact View.read_writes_apply_of_pieces v f G L hG y hm
  · rw [View.read_writes_apply_of_forall_not_mem v f y L fun q hq hy' => hm ⟨q, hq, hy'⟩]
    exact h y ((hc y hy).resolve_left hm)

theorem holds_other {v : View sig' κ sp sh e} {f : v.ty.Contents Val} {G : sh.Idx → Val e} {P Q : sh.Idx → Prop} {L : List (View.Piece Val sh e)}
    (h : Holds v f G P) (hc : ∀ y, Q y → (∀ q ∈ L, y ∉ q.1.set) ∧ P y) : Holds v (v.writes Val f L) G Q := by
  intro y hy
  rw [View.read_writes_apply_of_forall_not_mem v f y L (hc y hy).1]
  exact h y (hc y hy).2

theorem readAt_holds {v : View sig' κ sp sh e} {f : v.ty.Contents Val} {G : sh.Idx → Val e} {P : sh.Idx → Prop} (h : Holds v f G P) (B : LoadRect sh)
    (x : B.shape.Idx) (hp : P (B.idx x)) : v.readAt Val B f x = G (B.idx x) := by
  rw [View.readAt_apply]; exact h _ hp
end Stores

section Preds
variable (c : Dev nD) (p : Par F)
abbrev W0 : Memref sig .tc .vmem S1024x512 .bf16 := Memref.whole cc0_scratch0
abbrev W1 : Memref sig .tc .vmem S256x512 .bf16 := Memref.whole cc0_scratch1
abbrev W2 : Memref sig .tc .vmem S2x4104x128 .f32 := Memref.whole cc0_scratch2
abbrev W3 : Memref sig .tc .vmem S4096x256 .f32 := Memref.whole cc0_scratch3
abbrev W4 : Memref sig .tc .vmem S2x4160x128 .f32 := Memref.whole cc0_scratch4
abbrev W5 : Memref sig .tc .vmem S2x4160x128 .f32 := Memref.whole cc0_scratch5

def Ok0 (f : Buf (Elt F) (W0.view.loc (c : Thread nD τ))) : Prop := ∀ y, W0.view.read (Elt F) f y = p.ws y
def Ok1 (f : Buf (Elt F) (W1.view.loc (c : Thread nD τ))) : Prop := ∀ y, W1.view.read (Elt F) f y = p.wg y
/-- The first `n` chunks of the stream are there. -/
def Ok2 (n : ℕ) (f : Buf (Elt F) (W2.view.loc (c : Thread nD τ))) : Prop :=
  Holds W2.view f (fun y => uS p (y 0).val (y 1).val (y 2).val) fun y => (y 1).val < 8 + 1024 * n
def Ok3 (n : ℕ) (f : Buf (Elt F) (W3.view.loc (c : Thread nD τ))) : Prop :=
  Holds W3.view f (fun y => gS p (y 0).val (y 1).val) fun y => (y 0).val < 1024 * n
def Ok4 (n : ℕ) (f : Buf (Elt F) (W4.view.loc (c : Thread nD τ))) : Prop :=
  Holds W4.view f (fun y => aS p (y 0).val (y 1).val (y 2).val) fun y => (y 1).val < 1040 * n ∧ (y 1).val % 260 < 256
def Ok5 (n : ℕ) (f : Buf (Elt F) (W5.view.loc (c : Thread nD τ))) : Prop :=
  Holds W5.view f (fun y => iS p (y 0).val (y 1).val (y 2).val) fun y => (y 1).val < 1040 * n ∧ (y 1).val % 260 < 256
end Preds

end Cert.Proof.LruIdeal

end
-- ==== Proof.LruIdealPure.lean ====
/- The buffers after each group of stores. At the idealized program. -/
module

public import proofs.«01_k».proof.Proof.LruPure
public import proofs.«01_k».proof.Proof.LruIdealSpec

@[expose] public section

noncomputable section

namespace Cert.Proof.LruIdeal

open Cert.LruIdeal Cert.LruIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section
variable (c : Dev nD) (XA : Buf (Elt F) (xM.view.loc (c : Thread nD τ)))
/-- A block of x as the kernel loads it from its slot. -/
def slotVal (b : Fin 16) : Vec F S1x1024x1024 .f32 := fun y => payload c XA b (ix2 (y 1) (y 2))

theorem slot_load {off : Fin 3 → ℕ} {s : Fin 3} (e : off = slotOff s) (hb) (b : Fin 16) (f : Buf (Elt F) ((rslot s).view.loc (c : Thread nD τ))) :
    ringM.view.readAt (Elt F) (Rect.unit (s := S3x1024x1024) off S1x1024x1024.size hb).toLoadRect (landed c XA s b f) = slotVal c XA b := by
  subst e
  funext y
  have h0 : (y 0).val < 1 := (y 0).isLt
  refine Eq.trans ?_ (View.read_writes_cons_emb (rslot s).view f (Rect.whole S1024x1024) (payload c XA b) [] (ix2 (y 1) (y 2)))
  have e2 : (Rect.whole S1024x1024).emb (ix2 (y 1) (y 2)) = ix2 (y 1) (y 2) := by funext a; fin_cases a <;> exact Fin.ext (by simp)
  rw [e2]
  have hn : S1024x1024.numel = S1x1024x1024.numel := by decide +kernel
  have e : Shape.reshapeEquiv (s := S1x1024x1024) (s' := S1024x1024) hn (ix2 (y 1) (y 2)) = y := by
    refine (Shape.reshapeEquiv_cons_one _ _).trans ?_
    funext a
    fin_cases a
    · exact Fin.ext (by show 0 = (y 0).val; omega)
    · rfl
    · rfl
  show View.read (Elt F) ringM.view (landed c XA s b f) ((Rect.unit (s := S3x1024x1024) (slotOff s) S1x1024x1024.size hb).emb y)
    = View.read (Elt F) ringM.view (landed c XA s b f) ((Rect.unit (s := S3x1024x1024) (slotOff s) S1x1024x1024.size hb).emb (Shape.reshapeEquiv (s := S1x1024x1024) (s' := S1024x1024) hn (ix2 (y 1) (y 2))))
  rw [e]
end

section
variable {c : Dev nD} {p : Par F}

theorem load0 {f} (h : Ok0 c p f) (hb) : W0.view.readAt (Elt F) (Rect.unit (s := S1024x512) ![0, 0] S1024x512.size hb).toLoadRect f = p.ws := by
  funext y; rw [View.readAt_apply, h]; congr 1; funext a; fin_cases a <;> exact Fin.ext (by simp)
theorem load1 {f} (h : Ok1 c p f) (hb) : W1.view.readAt (Elt F) (Rect.unit (s := S256x512) ![0, 0] S256x512.size hb).toLoadRect f = p.wg := by
  funext y; rw [View.readAt_apply, h]; congr 1; funext a; fin_cases a <;> exact Fin.ext (by simp)
theorem load2 {f} {n k s j : ℕ} (h : Ok2 c p n f) (hk : k < n) (hj : j ≤ 8) {o : Fin 3 → ℕ} (e : o = ![s, 1024 * k + j, 0]) (hb) :
    W2.view.readAt (Elt F) (Rect.unit (s := S2x4104x128) o S1x1024x128.size hb).toLoadRect f = vL p k s j := by
  subst e
  funext y
  have h1 : (y 1).val < 1024 := (y 1).isLt
  have h0 : (y 0).val < 1 := (y 0).isLt
  have e0 : ((Rect.unit (s := S2x4104x128) ![s, 1024 * k + j, 0] S1x1024x128.size hb).toLoadRect.idx y 0).val = s + 1 * (y 0).val := rfl
  have e1 : ((Rect.unit (s := S2x4104x128) ![s, 1024 * k + j, 0] S1x1024x128.size hb).toLoadRect.idx y 1).val = 1024 * k + j + 1 * (y 1).val := rfl
  have e2 : ((Rect.unit (s := S2x4104x128) ![s, 1024 * k + j, 0] S1x1024x128.size hb).toLoadRect.idx y 2).val = 0 + 1 * (y 2).val := rfl
  rw [readAt_holds h _ y (by rw [e1]; omega)]
  show uS p _ _ _ = uS p _ _ _
  rw [e0, e1, e2]; congr 1 <;> omega

theorem ok2_step {f} {n : ℕ} (h : Ok2 c p n f) {o0 o1 : Fin 3 → ℕ} (e0 : o0 = ![0, 1024 * n + 8, 0]) (e1 : o1 = ![1, 1024 * n + 8, 0]) (hb0 hb1)
    {w0 w1 : FVec F S1x1024x128 .f32} (hw0 : w0 = k0_pay29 p.v8 (p.xv n) p.ws) (hw1 : w1 = k0_pay30 p.v8 (p.xv n) p.ws) :
    Ok2 c p (n + 1) (W2.view.writes (Elt F) f [⟨Rect.unit (s := S2x4104x128) o1 S1x1024x128.size hb1, w1⟩,
      ⟨Rect.unit (s := S2x4104x128) o0 S1x1024x128.size hb0, w0⟩]) := by
  subst e0 e1 hw0 hw1
  refine holds_writes h ?_ ?_
  · simp only [List.forall_mem_cons]
    refine ⟨fun x => ?_, fun x => ?_, fun _ hx => absurd hx List.not_mem_nil⟩
    · have h0 : (x 0).val < 1 := (x 0).isLt
      have h1 : (x 1).val < 1024 := (x 1).isLt
      show _ = uS p (1 + 1 * (x 0).val) (1024 * n + 8 + 1 * (x 1).val) (0 + 1 * (x 2).val)
      rw [uS, if_neg (by omega), if_neg (by omega)]
      have ea : (1024 * n + 8 + 1 * (x 1).val - 8) / 1024 = n := by omega
      have eb : (1024 * n + 8 + 1 * (x 1).val - 8) % 1024 = (x 1).val := by omega
      rw [ea, eb]; congr 1
      exact (eq_ix3 x).trans (by congr 1 <;> apply Fin.ext <;> simp [Fin.ofNat] <;> omega)
    · have h0 : (x 0).val < 1 := (x 0).isLt
      have h1 : (x 1).val < 1024 := (x 1).isLt
      show _ = uS p (0 + 1 * (x 0).val) (1024 * n + 8 + 1 * (x 1).val) (0 + 1 * (x 2).val)
      rw [uS, if_neg (by omega), if_pos (by omega)]
      have ea : (1024 * n + 8 + 1 * (x 1).val - 8) / 1024 = n := by omega
      have eb : (1024 * n + 8 + 1 * (x 1).val - 8) % 1024 = (x 1).val := by omega
      rw [ea, eb]; congr 1
      exact (eq_ix3 x).trans (by congr 1 <;> apply Fin.ext <;> simp [Fin.ofNat] <;> omega)
  · intro y hy
    have h2 : (y 2).val < 128 := (y 2).isLt
    have h0 : (y 0).val < 2 := (y 0).isLt
    by_cases hr : (y 1).val < 8 + 1024 * n
    · exact Or.inr hr
    · left
      rcases (by omega : (y 0).val = 0 ∨ (y 0).val = 1) with hs | hs
      · refine ⟨_, List.mem_cons_of_mem _ List.mem_cons_self, ?_⟩
        refine (Rect.mem_set_unit (s := S2x4104x128) (inb := hb0)).2 fun a => ?_
        fin_cases a
        · show 0 ≤ (y 0).val ∧ (y 0).val < 0 + 1; omega
        · show 1024 * n + 8 ≤ (y 1).val ∧ (y 1).val < 1024 * n + 8 + 1024; omega
        · show 0 ≤ (y 2).val ∧ (y 2).val < 0 + 128; omega
      · refine ⟨_, List.mem_cons_self, ?_⟩
        refine (Rect.mem_set_unit (s := S2x4104x128) (inb := hb1)).2 fun a => ?_
        fin_cases a
        · show 1 ≤ (y 0).val ∧ (y 0).val < 1 + 1; omega
        · show 1024 * n + 8 ≤ (y 1).val ∧ (y 1).val < 1024 * n + 8 + 1024; omega
        · show 0 ≤ (y 2).val ∧ (y 2).val < 0 + 128; omega

theorem ok3_step {f} {n : ℕ} (h : Ok3 c p n f) {o : Fin 2 → ℕ} (e : o = ![1024 * n, 0]) (hb)
    {w : FVec F S1024x256 .f32} (hw : w = k0_pay61 p.v13 (k0_pay27 (p.xv n) p.ws)) :
    Ok3 c p (n + 1) (W3.view.writes (Elt F) f [⟨Rect.unit (s := S4096x256) o S1024x256.size hb, w⟩]) := by
  subst e hw
  refine holds_writes h ?_ ?_
  · simp only [List.forall_mem_cons]
    refine ⟨fun x => ?_, fun _ hx => absurd hx List.not_mem_nil⟩
    have h1 : (x 0).val < 1024 := (x 0).isLt
    show _ = gS p (1024 * n + 1 * (x 0).val) (0 + 1 * (x 1).val)
    have ea : (1024 * n + 1 * (x 0).val) / 1024 = n := by omega
    have eb : (1024 * n + 1 * (x 0).val) % 1024 = (x 0).val := by omega
    rw [gS, ea, eb]; congr 1
    exact (eq_ix2 x).trans (by congr 1 <;> apply Fin.ext <;> simp [Fin.ofNat] <;> omega)
  · intro y hy
    have h2 : (y 1).val < 256 := (y 1).isLt
    by_cases hr : (y 0).val < 1024 * n
    · exact Or.inr hr
    · refine Or.inl ⟨_, List.mem_cons_self, ?_⟩
      refine (Rect.mem_set_unit (s := S4096x256) (inb := hb)).2 fun a => ?_
      fin_cases a
      · show 1024 * n ≤ (y 0).val ∧ (y 0).val < 1024 * n + 1024; omega
      · show 0 ≤ (y 1).val ∧ (y 1).val < 0 + 256; omega

/-- One segment's store. -/
theorem seg_val (C : ℕ → FVec F S1024x256 .f32) (n r s : ℕ) (hr : r < 4) (hs : s < 2) (hsl hsc) (x : S1x256x128.Idx) {a b d : ℕ}
    (ea : a = s + 1 * (x 0).val) (eb : b = 1040 * n + 260 * r + 1 * (x 1).val) (ed : d = 0 + 1 * (x 2).val) :
    shapeCast S1x256x128 (extractStridedSlice S256x128 ![256 * r, 128 * s] (C n) hsl) hsc x = gOf C a b d := by
  have h0 : (x 0).val < 1 := (x 0).isLt
  have h1 : (x 1).val < 256 := (x 1).isLt
  have h2 : (x 2).val < 128 := (x 2).isLt
  have e1 : b / 1040 = n := by omega
  have e2 : 256 * (b % 1040 / 260) + b % 260 = 256 * r + (x 1).val := by omega
  rw [gOf, e1, e2]
  pointwise
  congr 1
  funext q
  fin_cases q <;> apply Fin.ext <;> simp [Fin.ofNat] <;> omega

theorem gates_step {w : View sig .tc .vmem S2x4160x128 .f32} {C : ℕ → FVec F S1024x256 .f32} {f : w.ty.Contents (Elt F)} {n : ℕ}
    (h : Holds w f (fun y => gOf C (y 0).val (y 1).val (y 2).val) fun y => (y 1).val < 1040 * n ∧ (y 1).val % 260 < 256)
    {o13 : Fin 3 → ℕ} (e13 : o13 = ![1, 1040 * n + 260 * 3, 0]) (b13) (w13 : Vec F S1x256x128 .f32) (hw13 : ∃ hsl hsc, w13 = shapeCast S1x256x128 (extractStridedSlice S256x128 ![768, 128] (C n) hsl) hsc)
    {o03 : Fin 3 → ℕ} (e03 : o03 = ![0, 1040 * n + 260 * 3, 0]) (b03) (w03 : Vec F S1x256x128 .f32) (hw03 : ∃ hsl hsc, w03 = shapeCast S1x256x128 (extractStridedSlice S256x128 ![768, 0] (C n) hsl) hsc)
    {o12 : Fin 3 → ℕ} (e12 : o12 = ![1, 1040 * n + 260 * 2, 0]) (b12) (w12 : Vec F S1x256x128 .f32) (hw12 : ∃ hsl hsc, w12 = shapeCast S1x256x128 (extractStridedSlice S256x128 ![512, 128] (C n) hsl) hsc)
    {o02 : Fin 3 → ℕ} (e02 : o02 = ![0, 1040 * n + 260 * 2, 0]) (b02) (w02 : Vec F S1x256x128 .f32) (hw02 : ∃ hsl hsc, w02 = shapeCast S1x256x128 (extractStridedSlice S256x128 ![512, 0] (C n) hsl) hsc)
    {o11 : Fin 3 → ℕ} (e11 : o11 = ![1, 1040 * n + 260 * 1, 0]) (b11) (w11 : Vec F S1x256x128 .f32) (hw11 : ∃ hsl hsc, w11 = shapeCast S1x256x128 (extractStridedSlice S256x128 ![256, 128] (C n) hsl) hsc)
    {o01 : Fin 3 → ℕ} (e01 : o01 = ![0, 1040 * n + 260 * 1, 0]) (b01) (w01 : Vec F S1x256x128 .f32) (hw01 : ∃ hsl hsc, w01 = shapeCast S1x256x128 (extractStridedSlice S256x128 ![256, 0] (C n) hsl) hsc)
    {o10 : Fin 3 → ℕ} (e10 : o10 = ![1, 1040 * n + 260 * 0, 0]) (b10) (w10 : Vec F S1x256x128 .f32) (hw10 : ∃ hsl hsc, w10 = shapeCast S1x256x128 (extractStridedSlice S256x128 ![0, 128] (C n) hsl) hsc)
    {o00 : Fin 3 → ℕ} (e00 : o00 = ![0, 1040 * n + 260 * 0, 0]) (b00) (w00 : Vec F S1x256x128 .f32) (hw00 : ∃ hsl hsc, w00 = shapeCast S1x256x128 (extractStridedSlice S256x128 ![0, 0] (C n) hsl) hsc)
    : Holds w (w.writes (Elt F) f [⟨Rect.unit (s := S2x4160x128) o13 S1x256x128.size b13, w13⟩,
      ⟨Rect.unit (s := S2x4160x128) o03 S1x256x128.size b03, w03⟩,
      ⟨Rect.unit (s := S2x4160x128) o12 S1x256x128.size b12, w12⟩,
      ⟨Rect.unit (s := S2x4160x128) o02 S1x256x128.size b02, w02⟩,
      ⟨Rect.unit (s := S2x4160x128) o11 S1x256x128.size b11, w11⟩,
      ⟨Rect.unit (s := S2x4160x128) o01 S1x256x128.size b01, w01⟩,
      ⟨Rect.unit (s := S2x4160x128) o10 S1x256x128.size b10, w10⟩,
      ⟨Rect.unit (s := S2x4160x128) o00 S1x256x128.size b00, w00⟩])
      (fun y => gOf C (y 0).val (y 1).val (y 2).val) fun y => (y 1).val < 1040 * (n + 1) ∧ (y 1).val % 260 < 256 := by
  subst e13 e03 e12 e02 e11 e01 e10 e00
  refine holds_writes h ?_ ?_
  · simp only [List.forall_mem_cons]
    refine ⟨fun x => ?_, fun x => ?_, fun x => ?_, fun x => ?_, fun x => ?_, fun x => ?_, fun x => ?_, fun x => ?_, fun _ hx => absurd hx List.not_mem_nil⟩
    · obtain ⟨hsl, hsc, e⟩ := hw13
      show w13 x = _
      rw [e]; exact seg_val C n 3 1 (by omega) (by omega) hsl hsc x rfl rfl rfl
    · obtain ⟨hsl, hsc, e⟩ := hw03
      show w03 x = _
      rw [e]; exact seg_val C n 3 0 (by omega) (by omega) hsl hsc x rfl rfl rfl
    · obtain ⟨hsl, hsc, e⟩ := hw12
      show w12 x = _
      rw [e]; exact seg_val C n 2 1 (by omega) (by omega) hsl hsc x rfl rfl rfl
    · obtain ⟨hsl, hsc, e⟩ := hw02
      show w02 x = _
      rw [e]; exact seg_val C n 2 0 (by omega) (by omega) hsl hsc x rfl rfl rfl
    · obtain ⟨hsl, hsc, e⟩ := hw11
      show w11 x = _
      rw [e]; exact seg_val C n 1 1 (by omega) (by omega) hsl hsc x rfl rfl rfl
    · obtain ⟨hsl, hsc, e⟩ := hw01
      show w01 x = _
      rw [e]; exact seg_val C n 1 0 (by omega) (by omega) hsl hsc x rfl rfl rfl
    · obtain ⟨hsl, hsc, e⟩ := hw10
      show w10 x = _
      rw [e]; exact seg_val C n 0 1 (by omega) (by omega) hsl hsc x rfl rfl rfl
    · obtain ⟨hsl, hsc, e⟩ := hw00
      show w00 x = _
      rw [e]; exact seg_val C n 0 0 (by omega) (by omega) hsl hsc x rfl rfl rfl
  · intro y hy
    have h2 : (y 2).val < 128 := (y 2).isLt
    have h0 : (y 0).val < 2 := (y 0).isLt
    by_cases hr : (y 1).val < 1040 * n
    · exact Or.inr ⟨hr, hy.2⟩
    · left
      have hm := hy.2
      have hl := hy.1
      rcases (by omega : (y 0).val = 0 ∨ (y 0).val = 1) with hs | hs <;>
        rcases (by omega : (y 1).val - 1040 * n < 256 ∨ (260 ≤ (y 1).val - 1040 * n ∧ (y 1).val - 1040 * n < 516)
          ∨ (520 ≤ (y 1).val - 1040 * n ∧ (y 1).val - 1040 * n < 776) ∨ (780 ≤ (y 1).val - 1040 * n ∧ (y 1).val - 1040 * n < 1036)) with hq | hq | hq | hq
      · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
        refine (Rect.mem_set_unit (s := S2x4160x128) (inb := b00)).2 fun a => ?_
        fin_cases a
        · show 0 ≤ (y 0).val ∧ (y 0).val < 0 + 1; omega
        · show 1040 * n + 260 * 0 ≤ (y 1).val ∧ (y 1).val < 1040 * n + 260 * 0 + 256; omega
        · show 0 ≤ (y 2).val ∧ (y 2).val < 0 + 128; omega
      · refine ⟨_, (List.mem_cons_of_mem _ (List.mem_cons_of_mem _ (List.mem_cons_of_mem _ (List.mem_cons_of_mem _ (List.mem_cons_of_mem _ List.mem_cons_self))))), ?_⟩
        refine (Rect.mem_set_unit (s := S2x4160x128) (inb := b01)).2 fun a => ?_
        fin_cases a
        · show 0 ≤ (y 0).val ∧ (y 0).val < 0 + 1; omega
        · show 1040 * n + 260 * 1 ≤ (y 1).val ∧ (y 1).val < 1040 * n + 260 * 1 + 256; omega
        · show 0 ≤ (y 2).val ∧ (y 2).val < 0 + 128; omega
      · refine ⟨_, (List.mem_cons_of_mem _ (List.mem_cons_of_mem _ (List.mem_cons_of_mem _ List.mem_cons_self))), ?_⟩
        refine (Rect.mem_set_unit (s := S2x4160x128) (inb := b02)).2 fun a => ?_
        fin_cases a
        · show 0 ≤ (y 0).val ∧ (y 0).val < 0 + 1; omega
        · show 1040 * n + 260 * 2 ≤ (y 1).val ∧ (y 1).val < 1040 * n + 260 * 2 + 256; omega
        · show 0 ≤ (y 2).val ∧ (y 2).val < 0 + 128; omega
      · refine ⟨_, (List.mem_cons_of_mem _ List.mem_cons_self), ?_⟩
        refine (Rect.mem_set_unit (s := S2x4160x128) (inb := b03)).2 fun a => ?_
        fin_cases a
        · show 0 ≤ (y 0).val ∧ (y 0).val < 0 + 1; omega
        · show 1040 * n + 260 * 3 ≤ (y 1).val ∧ (y 1).val < 1040 * n + 260 * 3 + 256; omega
        · show 0 ≤ (y 2).val ∧ (y 2).val < 0 + 128; omega
      · refine ⟨_, (List.mem_cons_of_mem _ (List.mem_cons_of_mem _ (List.mem_cons_of_mem _ (List.mem_cons_of_mem _ (List.mem_cons_of_mem _ (List.mem_cons_of_mem _ List.mem_cons_self)))))), ?_⟩
        refine (Rect.mem_set_unit (s := S2x4160x128) (inb := b10)).2 fun a => ?_
        fin_cases a
        · show 1 ≤ (y 0).val ∧ (y 0).val < 1 + 1; omega
        · show 1040 * n + 260 * 0 ≤ (y 1).val ∧ (y 1).val < 1040 * n + 260 * 0 + 256; omega
        · show 0 ≤ (y 2).val ∧ (y 2).val < 0 + 128; omega
      · refine ⟨_, (List.mem_cons_of_mem _ (List.mem_cons_of_mem _ (List.mem_cons_of_mem _ (List.mem_cons_of_mem _ List.mem_cons_self)))), ?_⟩
        refine (Rect.mem_set_unit (s := S2x4160x128) (inb := b11)).2 fun a => ?_
        fin_cases a
        · show 1 ≤ (y 0).val ∧ (y 0).val < 1 + 1; omega
        · show 1040 * n + 260 * 1 ≤ (y 1).val ∧ (y 1).val < 1040 * n + 260 * 1 + 256; omega
        · show 0 ≤ (y 2).val ∧ (y 2).val < 0 + 128; omega
      · refine ⟨_, (List.mem_cons_of_mem _ (List.mem_cons_of_mem _ List.mem_cons_self)), ?_⟩
        refine (Rect.mem_set_unit (s := S2x4160x128) (inb := b12)).2 fun a => ?_
        fin_cases a
        · show 1 ≤ (y 0).val ∧ (y 0).val < 1 + 1; omega
        · show 1040 * n + 260 * 2 ≤ (y 1).val ∧ (y 1).val < 1040 * n + 260 * 2 + 256; omega
        · show 0 ≤ (y 2).val ∧ (y 2).val < 0 + 128; omega
      · refine ⟨_, List.mem_cons_self, ?_⟩
        refine (Rect.mem_set_unit (s := S2x4160x128) (inb := b13)).2 fun a => ?_
        fin_cases a
        · show 1 ≤ (y 0).val ∧ (y 0).val < 1 + 1; omega
        · show 1040 * n + 260 * 3 ≤ (y 1).val ∧ (y 1).val < 1040 * n + 260 * 3 + 256; omega
        · show 0 ≤ (y 2).val ∧ (y 2).val < 0 + 128; omega
end

section
variable {p : Par F}
theorem seg_of {C' C : FVec F S1024x256 .f32} (e : C' = C) (o : Fin 2 → ℕ) (hsl : S1024x256.Slices o S256x128) (hsc : S256x128.ShapeCasts S1x256x128) :
    ∃ hsl hsc, shapeCast S1x256x128 (extractStridedSlice S256x128 o C' hsl) hsc = shapeCast S1x256x128 (extractStridedSlice S256x128 o C hsl) hsc :=
  ⟨hsl, hsc, by rw [e]⟩

theorem aC_of {k : ℕ} {l5 l6 l7 l8 m5 m6 m7 m8 : Vec F S1x1024x128 .f32} {g : Vec F S256x512 .bf16} (h5 : l5 = vL p k 0 5) (h6 : l6 = vL p k 0 6) (h7 : l7 = vL p k 0 7)
    (h8 : l8 = vL p k 0 8) (g5 : m5 = vL p k 1 5) (g6 : m6 = vL p k 1 6) (g7 : m7 = vL p k 1 7) (g8 : m8 = vL p k 1 8) (hg : g = p.wg) :
    k0_pay8 p.v18 p.v28 p.v117 (k0_pay3 p.v18 (k0_pay2 p.v18 p.v23 l5 l6) l7 l8) (k0_pay4 p.v18 p.v23 m5 m6 m7) m8 g = aC p k := by
  subst h5 h6 h7 h8 g5 g6 g7 g8 hg; rfl
theorem iC_of {k : ℕ} {l5 l6 l7 l8 m5 m6 m7 m8 : Vec F S1x1024x128 .f32} {g : Vec F S256x512 .bf16} (h5 : l5 = vL p k 0 5) (h6 : l6 = vL p k 0 6) (h7 : l7 = vL p k 0 7)
    (h8 : l8 = vL p k 0 8) (g5 : m5 = vL p k 1 5) (g6 : m6 = vL p k 1 6) (g7 : m7 = vL p k 1 7) (g8 : m8 = vL p k 1 8) (hg : g = p.wg) :
    k0_pay9 p.v18 p.v28 p.v33 p.v117 (k0_pay3 p.v18 (k0_pay2 p.v18 p.v23 l5 l6) l7 l8) (k0_pay4 p.v18 p.v23 m5 m6 m7) m8 g = iC p k := by
  subst h5 h6 h7 h8 g5 g6 g7 g8 hg; rfl
end

end Cert.Proof.LruIdeal

end
-- ==== Proof.LruIdealTrip.lean ====
/- One trip of the gate loop. At the idealized program. -/
module

public import proofs.«01_k».proof.Proof.LruTrip
public import proofs.«01_k».proof.Proof.LruIdealPure

@[expose] public section

noncomputable section

namespace Cert.Proof.LruIdeal

open Cert.LruIdeal Cert.LruIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section
variable (c : Dev nD)
abbrev scrP0 (f : Buf (Elt F) (W0.view.loc (c : Thread nD τ))) : sProp 𝕄 := W0.view.loc (c : Thread nD τ) ↦[W0.view.set]{fullShare} f
abbrev scrP1 (f : Buf (Elt F) (W1.view.loc (c : Thread nD τ))) : sProp 𝕄 := W1.view.loc (c : Thread nD τ) ↦[W1.view.set]{fullShare} f
abbrev scrP2 (f : Buf (Elt F) (W2.view.loc (c : Thread nD τ))) : sProp 𝕄 := W2.view.loc (c : Thread nD τ) ↦[W2.view.set]{fullShare} f
abbrev scrP3 (f : Buf (Elt F) (W3.view.loc (c : Thread nD τ))) : sProp 𝕄 := W3.view.loc (c : Thread nD τ) ↦[W3.view.set]{fullShare} f
abbrev scrP4 (f : Buf (Elt F) (W4.view.loc (c : Thread nD τ))) : sProp 𝕄 := W4.view.loc (c : Thread nD τ) ↦[W4.view.set]{fullShare} f
abbrev scrP5 (f : Buf (Elt F) (W5.view.loc (c : Thread nD τ))) : sProp 𝕄 := W5.view.loc (c : Thread nD τ) ↦[W5.view.set]{fullShare} f
end

section Trip
variable (c : Dev nD) (i : grid0.Coords) (XA : Buf (Elt F) (xM.view.loc (c : Thread nD τ)))
  (arg3 : Memref sig .tc .vmem S1024x256 .f32) (harg3 : arg3.IsWhole)
  (arg4 : Memref sig .tc .vmem S1024x256 .f32) (harg4 : arg4.IsWhole)
  (arg5 : Memref sig .tc .vmem S4x64x64 .f32) (harg5 : arg5.IsWhole)
  (arg6 : Memref sig .tc .vmem S4x64x64 .f32) (harg6 : arg6.IsWhole)
  (arg7 : Memref sig .tc .vmem S1x9216 .f32) (harg7 : arg7.IsWhole)
  (arg8 : Memref sig .tc .vmem S4x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x4096x256 .bf16) (harg13 : arg13.IsWhole)
  (p : Par F) (v97 : BitVec 32)

abbrev tripG (k : Fin k0_t1_loop.trips) : Prog (TpuEff nD τ sig (Elt F) Λ₀ .tc) Unit :=
  k0_t1_body (F := F) i xM (Memref.isWhole_whole _) arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 p.v8 p.v13 p.v18 p.v23 p.v28 p.v33 v97 p.v117 k ()

/-- What the trips of the gate loop work on, `n` of them done. -/
def gateRes (n : ℕ) : sProp 𝕄 :=
  iprop((∃ f, scrP0 (F := F) c f ∗ ⌜Ok0 c p f⌝) ∗ (∃ f, scrP1 (F := F) c f ∗ ⌜Ok1 c p f⌝) ∗ (∃ f, scrP2 (F := F) c f ∗ ⌜Ok2 c p (n + 1) f⌝)
    ∗ (∃ f, scrP3 (F := F) c f ∗ ⌜Ok3 c p (n + 1) f⌝) ∗ (∃ f, scrP4 (F := F) c f ∗ ⌜Ok4 c p n f⌝) ∗ (∃ f, scrP5 (F := F) c f ∗ ⌜Ok5 c p n f⌝)
    ∗ (∃ W, owes (c : Thread nD τ) 0 W))

theorem trip_issue (k : Fin k0_t1_loop.trips) (hq : qOf i + k.val + 1 + 2 < 64) (hx : p.xv (k.val + 1) = slotVal c XA (bx (qOf i + k.val + 1))) (fs ff) :
    iprop(gateRes c p k.val
      ∗ flightP c XA (Ring.sl 3 (qOf i + k.val + 1)) (bx (qOf i + k.val + 1)) ff
      ∗ slotP (F := F) c (Ring.sl 3 (qOf i + k.val + 1 + 2)) fs ∗ cellP (F := F) c (Ring.sl 3 (qOf i + k.val + 1 + 2)) ∗ homeP c XA (bx (qOf i + k.val + 1 + 2)))
    ⊢ wp frame (wpE (defs₀ (F := F)) 𝒱₀ (c : Thread nD τ) none) Set.univ (tripG i arg3 harg3 arg4 harg4 arg5 harg5 arg6 harg6 arg7 harg7 arg8 harg8 arg9 harg9 arg10 harg10 arg11 harg11 arg12 harg12 arg13 harg13 p v97 k) fun _ =>
      iprop(gateRes c p (k.val + 1)
      ∗ (∃ f, flightP c XA (Ring.sl 3 (qOf i + k.val + 1 + 2)) (bx (qOf i + k.val + 1 + 2)) f)
      ∗ (∃ f, slotP (F := F) c (Ring.sl 3 (qOf i + k.val + 1)) f) ∗ cellP (F := F) c (Ring.sl 3 (qOf i + k.val + 1)) ∗ homeP c XA (bx (qOf i + k.val + 1))) := by
  have h3 : k0_cond3 i k = 1#1 := (cond3_iff i k).2 hq
  unfold gateRes
  iintro ⟨⟨⟨%f0, HS0, %h0⟩, ⟨%f1, HS1, %h1⟩, ⟨%f2, HS2, %h2⟩, ⟨%f3, HS3, %h3'⟩, ⟨%f4, HS4, %h4⟩, ⟨%f5, HS5, %h5⟩, ⟨%W, HW⟩⟩, HF, HSL, HC, HH⟩
  dsimp only [tripG]
  sl_unfold [k0_t1_body]
  sl_exec
  sl_step
  isplitl [HS0 HS1 HS2 HS3 HS4 HS5 HW]
  · isplitl [HS0]
    · iexists f0; isplitl [HS0]; · iexact HS0
      ipureintro; exact h0
    isplitl [HS1]
    · iexists f1; isplitl [HS1]; · iexact HS1
      ipureintro; exact h1
    isplitl [HS2]
    · iexists _; isplitl [HS2]; · iexact HS2
      ipureintro; sl_unfold_run_names
      refine ok2_step h2 (k0_off27_eq k) (k0_off28_eq k) _ _ ?_ ?_
      · rw [hx]; exact congrArg₂ (k0_pay29 p.v8) (slot_load c XA (slotClosed i k).eq _ _ _) (load0 h0 _)
      · rw [hx]; exact congrArg₂ (k0_pay30 p.v8) (slot_load c XA (slotClosed i k).eq _ _ _) (load0 h0 _)
    isplitl [HS3]
    · iexists _; isplitl [HS3]; · iexact HS3
      ipureintro; sl_unfold_run_names
      refine ok3_step h3' (k0_off29_eq k) _ ?_
      rw [hx]; exact congrArg₂ (fun x y => k0_pay61 p.v13 (k0_pay27 x y)) (slot_load c XA (slotClosed i k).eq _ _ _) (load0 h0 _)
    isplitl [HS4]
    · iexists _; isplitl [HS4]; · iexact HS4
      ipureintro; sl_unfold_run_names
      have e := fun b05 b06 b07 b08 b15 b16 b17 b18 b1 => aC_of (load2 h2 (Nat.lt_succ_self _) (by decide : 5 ≤ 8) (k0_off22_eq k 0) b05) (load2 h2 (Nat.lt_succ_self _) (by decide : 6 ≤ 8) (k0_off22_eq k 1) b06)
        (load2 h2 (Nat.lt_succ_self _) (by decide : 7 ≤ 8) (k0_off22_eq k 2) b07) (load2 h2 (Nat.lt_succ_self _) (by decide : 8 ≤ 8) (k0_off22_eq k 3) b08)
        (load2 h2 (Nat.lt_succ_self _) (by decide : 5 ≤ 8) (k0_off23_eq k 0) b15) (load2 h2 (Nat.lt_succ_self _) (by decide : 6 ≤ 8) (k0_off23_eq k 1) b16)
        (load2 h2 (Nat.lt_succ_self _) (by decide : 7 ≤ 8) (k0_off23_eq k 2) b17) (load2 h2 (Nat.lt_succ_self _) (by decide : 8 ≤ 8) (k0_off23_eq k 3) b18) (load1 h1 b1)
      refine gates_step h4 (k0_off25_eq k 3) _ _ ?_ (k0_off24_eq k 3) _ _ ?_ (k0_off25_eq k 2) _ _ ?_ (k0_off24_eq k 2) _ _ ?_ (k0_off25_eq k 1) _ _ ?_ (k0_off24_eq k 1) _ _ ?_ (k0_off25_eq k 0) _ _ ?_ (k0_off24_eq k 0) _ _ ?_
      · exact seg_of (e _ _ _ _ _ _ _ _ _) ![768, 128] (by decide) (by decide)
      · exact seg_of (e _ _ _ _ _ _ _ _ _) ![768, 0] (by decide) (by decide)
      · exact seg_of (e _ _ _ _ _ _ _ _ _) ![512, 128] (by decide) (by decide)
      · exact seg_of (e _ _ _ _ _ _ _ _ _) ![512, 0] (by decide) (by decide)
      · exact seg_of (e _ _ _ _ _ _ _ _ _) ![256, 128] (by decide) (by decide)
      · exact seg_of (e _ _ _ _ _ _ _ _ _) ![256, 0] (by decide) (by decide)
      · exact seg_of (e _ _ _ _ _ _ _ _ _) ![0, 128] (by decide) (by decide)
      · exact seg_of (e _ _ _ _ _ _ _ _ _) ![0, 0] (by decide) (by decide)
    isplitl [HS5]
    · iexists _; isplitl [HS5]; · iexact HS5
      ipureintro; sl_unfold_run_names
      have e := fun b05 b06 b07 b08 b15 b16 b17 b18 b1 => iC_of (load2 h2 (Nat.lt_succ_self _) (by decide : 5 ≤ 8) (k0_off22_eq k 0) b05) (load2 h2 (Nat.lt_succ_self _) (by decide : 6 ≤ 8) (k0_off22_eq k 1) b06)
        (load2 h2 (Nat.lt_succ_self _) (by decide : 7 ≤ 8) (k0_off22_eq k 2) b07) (load2 h2 (Nat.lt_succ_self _) (by decide : 8 ≤ 8) (k0_off22_eq k 3) b08)
        (load2 h2 (Nat.lt_succ_self _) (by decide : 5 ≤ 8) (k0_off23_eq k 0) b15) (load2 h2 (Nat.lt_succ_self _) (by decide : 6 ≤ 8) (k0_off23_eq k 1) b16)
        (load2 h2 (Nat.lt_succ_self _) (by decide : 7 ≤ 8) (k0_off23_eq k 2) b17) (load2 h2 (Nat.lt_succ_self _) (by decide : 8 ≤ 8) (k0_off23_eq k 3) b18) (load1 h1 b1)
      refine gates_step h5 (k0_off25_eq k 3) _ _ ?_ (k0_off24_eq k 3) _ _ ?_ (k0_off25_eq k 2) _ _ ?_ (k0_off24_eq k 2) _ _ ?_ (k0_off25_eq k 1) _ _ ?_ (k0_off24_eq k 1) _ _ ?_ (k0_off25_eq k 0) _ _ ?_ (k0_off24_eq k 0) _ _ ?_
      · exact seg_of (e _ _ _ _ _ _ _ _ _) ![768, 128] (by decide) (by decide)
      · exact seg_of (e _ _ _ _ _ _ _ _ _) ![768, 0] (by decide) (by decide)
      · exact seg_of (e _ _ _ _ _ _ _ _ _) ![512, 128] (by decide) (by decide)
      · exact seg_of (e _ _ _ _ _ _ _ _ _) ![512, 0] (by decide) (by decide)
      · exact seg_of (e _ _ _ _ _ _ _ _ _) ![256, 128] (by decide) (by decide)
      · exact seg_of (e _ _ _ _ _ _ _ _ _) ![256, 0] (by decide) (by decide)
      · exact seg_of (e _ _ _ _ _ _ _ _ _) ![0, 128] (by decide) (by decide)
      · exact seg_of (e _ _ _ _ _ _ _ _ _) ![0, 0] (by decide) (by decide)
    iexists _; iexact HW
  isplitl [HC]; · iexists fs; iexact HC
  isplitl [HF_dst]; · iexists _; iexact HF_dst
  isplitl [HF]; · iexact HF
  iexact HF_src

theorem trip_noissue (k : Fin k0_t1_loop.trips) (hq : ¬ qOf i + k.val + 1 + 2 < 64) (hx : p.xv (k.val + 1) = slotVal c XA (bx (qOf i + k.val + 1))) (ff) :
    iprop(gateRes c p k.val
      ∗ flightP c XA (Ring.sl 3 (qOf i + k.val + 1)) (bx (qOf i + k.val + 1)) ff)
    ⊢ wp frame (wpE (defs₀ (F := F)) 𝒱₀ (c : Thread nD τ) none) Set.univ (tripG i arg3 harg3 arg4 harg4 arg5 harg5 arg6 harg6 arg7 harg7 arg8 harg8 arg9 harg9 arg10 harg10 arg11 harg11 arg12 harg12 arg13 harg13 p v97 k) fun _ =>
      iprop(gateRes c p (k.val + 1)
      ∗ (∃ f, slotP (F := F) c (Ring.sl 3 (qOf i + k.val + 1)) f) ∗ cellP (F := F) c (Ring.sl 3 (qOf i + k.val + 1)) ∗ homeP c XA (bx (qOf i + k.val + 1))) := by
  have h3 : ¬ k0_cond3 i k = 1#1 := fun h => hq ((cond3_iff i k).1 h)
  unfold gateRes
  iintro ⟨⟨⟨%f0, HS0, %h0⟩, ⟨%f1, HS1, %h1⟩, ⟨%f2, HS2, %h2⟩, ⟨%f3, HS3, %h3'⟩, ⟨%f4, HS4, %h4⟩, ⟨%f5, HS5, %h5⟩, ⟨%W, HW⟩⟩, HF⟩
  dsimp only [tripG]
  sl_unfold [k0_t1_body]
  sl_exec
  sl_step
  isplitl [HS0 HS1 HS2 HS3 HS4 HS5 HW]
  · isplitl [HS0]
    · iexists f0; isplitl [HS0]; · iexact HS0
      ipureintro; exact h0
    isplitl [HS1]
    · iexists f1; isplitl [HS1]; · iexact HS1
      ipureintro; exact h1
    isplitl [HS2]
    · iexists _; isplitl [HS2]; · iexact HS2
      ipureintro; sl_unfold_run_names
      refine ok2_step h2 (k0_off27_eq k) (k0_off28_eq k) _ _ ?_ ?_
      · rw [hx]; exact congrArg₂ (k0_pay29 p.v8) (slot_load c XA (slotClosed i k).eq _ _ _) (load0 h0 _)
      · rw [hx]; exact congrArg₂ (k0_pay30 p.v8) (slot_load c XA (slotClosed i k).eq _ _ _) (load0 h0 _)
    isplitl [HS3]
    · iexists _; isplitl [HS3]; · iexact HS3
      ipureintro; sl_unfold_run_names
      refine ok3_step h3' (k0_off29_eq k) _ ?_
      rw [hx]; exact congrArg₂ (fun x y => k0_pay61 p.v13 (k0_pay27 x y)) (slot_load c XA (slotClosed i k).eq _ _ _) (load0 h0 _)
    isplitl [HS4]
    · iexists _; isplitl [HS4]; · iexact HS4
      ipureintro; sl_unfold_run_names
      have e := fun b05 b06 b07 b08 b15 b16 b17 b18 b1 => aC_of (load2 h2 (Nat.lt_succ_self _) (by decide : 5 ≤ 8) (k0_off22_eq k 0) b05) (load2 h2 (Nat.lt_succ_self _) (by decide : 6 ≤ 8) (k0_off22_eq k 1) b06)
        (load2 h2 (Nat.lt_succ_self _) (by decide : 7 ≤ 8) (k0_off22_eq k 2) b07) (load2 h2 (Nat.lt_succ_self _) (by decide : 8 ≤ 8) (k0_off22_eq k 3) b08)
        (load2 h2 (Nat.lt_succ_self _) (by decide : 5 ≤ 8) (k0_off23_eq k 0) b15) (load2 h2 (Nat.lt_succ_self _) (by decide : 6 ≤ 8) (k0_off23_eq k 1) b16)
        (load2 h2 (Nat.lt_succ_self _) (by decide : 7 ≤ 8) (k0_off23_eq k 2) b17) (load2 h2 (Nat.lt_succ_self _) (by decide : 8 ≤ 8) (k0_off23_eq k 3) b18) (load1 h1 b1)
      refine gates_step h4 (k0_off25_eq k 3) _ _ ?_ (k0_off24_eq k 3) _ _ ?_ (k0_off25_eq k 2) _ _ ?_ (k0_off24_eq k 2) _ _ ?_ (k0_off25_eq k 1) _ _ ?_ (k0_off24_eq k 1) _ _ ?_ (k0_off25_eq k 0) _ _ ?_ (k0_off24_eq k 0) _ _ ?_
      · exact seg_of (e _ _ _ _ _ _ _ _ _) ![768, 128] (by decide) (by decide)
      · exact seg_of (e _ _ _ _ _ _ _ _ _) ![768, 0] (by decide) (by decide)
      · exact seg_of (e _ _ _ _ _ _ _ _ _) ![512, 128] (by decide) (by decide)
      · exact seg_of (e _ _ _ _ _ _ _ _ _) ![512, 0] (by decide) (by decide)
      · exact seg_of (e _ _ _ _ _ _ _ _ _) ![256, 128] (by decide) (by decide)
      · exact seg_of (e _ _ _ _ _ _ _ _ _) ![256, 0] (by decide) (by decide)
      · exact seg_of (e _ _ _ _ _ _ _ _ _) ![0, 128] (by decide) (by decide)
      · exact seg_of (e _ _ _ _ _ _ _ _ _) ![0, 0] (by decide) (by decide)
    isplitl [HS5]
    · iexists _; isplitl [HS5]; · iexact HS5
      ipureintro; sl_unfold_run_names
      have e := fun b05 b06 b07 b08 b15 b16 b17 b18 b1 => iC_of (load2 h2 (Nat.lt_succ_self _) (by decide : 5 ≤ 8) (k0_off22_eq k 0) b05) (load2 h2 (Nat.lt_succ_self _) (by decide : 6 ≤ 8) (k0_off22_eq k 1) b06)
        (load2 h2 (Nat.lt_succ_self _) (by decide : 7 ≤ 8) (k0_off22_eq k 2) b07) (load2 h2 (Nat.lt_succ_self _) (by decide : 8 ≤ 8) (k0_off22_eq k 3) b08)
        (load2 h2 (Nat.lt_succ_self _) (by decide : 5 ≤ 8) (k0_off23_eq k 0) b15) (load2 h2 (Nat.lt_succ_self _) (by decide : 6 ≤ 8) (k0_off23_eq k 1) b16)
        (load2 h2 (Nat.lt_succ_self _) (by decide : 7 ≤ 8) (k0_off23_eq k 2) b17) (load2 h2 (Nat.lt_succ_self _) (by decide : 8 ≤ 8) (k0_off23_eq k 3) b18) (load1 h1 b1)
      refine gates_step h5 (k0_off25_eq k 3) _ _ ?_ (k0_off24_eq k 3) _ _ ?_ (k0_off25_eq k 2) _ _ ?_ (k0_off24_eq k 2) _ _ ?_ (k0_off25_eq k 1) _ _ ?_ (k0_off24_eq k 1) _ _ ?_ (k0_off25_eq k 0) _ _ ?_ (k0_off24_eq k 0) _ _ ?_
      · exact seg_of (e _ _ _ _ _ _ _ _ _) ![768, 128] (by decide) (by decide)
      · exact seg_of (e _ _ _ _ _ _ _ _ _) ![768, 0] (by decide) (by decide)
      · exact seg_of (e _ _ _ _ _ _ _ _ _) ![512, 128] (by decide) (by decide)
      · exact seg_of (e _ _ _ _ _ _ _ _ _) ![512, 0] (by decide) (by decide)
      · exact seg_of (e _ _ _ _ _ _ _ _ _) ![256, 128] (by decide) (by decide)
      · exact seg_of (e _ _ _ _ _ _ _ _ _) ![256, 0] (by decide) (by decide)
      · exact seg_of (e _ _ _ _ _ _ _ _ _) ![0, 128] (by decide) (by decide)
      · exact seg_of (e _ _ _ _ _ _ _ _ _) ![0, 0] (by decide) (by decide)
    iexists _; iexact HW
  isplitl [HF_dst]; · iexists _; iexact HF_dst
  isplitl [HF]; · iexact HF
  iexact HF_src

/-- A trip at whatever step of the walk. -/
theorem gate_step (k : Fin k0_t1_loop.trips) (hQ : qOf i + 4 ≤ 64) (hx : p.xv (k.val + 1) = slotVal c XA (bx (qOf i + k.val + 1))) :
    iprop(gateRes c p k.val ∗ ringP c XA (qOf i + k.val + 1))
    ⊢ wp frame (wpE (defs₀ (F := F)) 𝒱₀ (c : Thread nD τ) none) Set.univ (tripG i arg3 harg3 arg4 harg4 arg5 harg5 arg6 harg6 arg7 harg7 arg8 harg8 arg9 harg9 arg10 harg10 arg11 harg11 arg12 harg12 arg13 harg13 p v97 k) fun _ => iprop(gateRes c p (k.val + 1) ∗ ringP c XA (qOf i + k.val + 1 + 1)) := by
  have hk := lt_of_lt_of_eq k.isLt trips1
  unfold ringP
  rw [partP_lt c XA (show qOf i + k.val + 1 < 64 by omega), sl_add3 (qOf i + k.val + 1)]
  by_cases hq : qOf i + k.val + 1 + 2 < 64
  · rw [homes_out c XA hq, homes_next c XA hq, partP_lt c XA (show qOf i + k.val + 1 + 1 + 1 < 64 by omega)]
    iintro ⟨HG, ⟨%ff, HF⟩, HP, ⟨⟨%fs, HS⟩, HC⟩, HH, HR⟩
    iapply (wp_wand_r Idealize.ShloMosaic.frame (wpE (defs₀ (F := F)) 𝒱₀ (c : Thread nD τ) none) Set.univ)
    isplitl [HG HF HS HC HH]
    · iapply (trip_issue c i XA arg3 harg3 arg4 harg4 arg5 harg5 arg6 harg6 arg7 harg7 arg8 harg8 arg9 harg9 arg10 harg10 arg11 harg11 arg12 harg12 arg13 harg13 p v97 k hq hx fs ff)
      isplitl [HG]; · iexact HG
      isplitl [HF]; · iexact HF
      isplitl [HS]; · iexact HS
      isplitl [HC]; · iexact HC
      iexact HH
    · iintro %_ ⟨HG, HF, HS, HC, HH⟩
      isplitl [HG]; · iexact HG
      isplitl [HP]; · iexact HP
      isplitl [HF]; · iexact HF
      isplitl [HS HC]
      · isplitl [HS]; · iexact HS
        iexact HC
      isplitl [HH]; · iexact HH
      iexact HR
  · rw [homes_last c XA (show qOf i + k.val + 1 < 64 by omega) hq, partP_ge c XA (show ¬ qOf i + k.val + 1 + 1 + 1 < 64 by omega)]
    iintro ⟨HG, ⟨%ff, HF⟩, HP, HS2, HR⟩
    iapply (wp_wand_r Idealize.ShloMosaic.frame (wpE (defs₀ (F := F)) 𝒱₀ (c : Thread nD τ) none) Set.univ)
    isplitl [HG HF]
    · iapply (trip_noissue c i XA arg3 harg3 arg4 harg4 arg5 harg5 arg6 harg6 arg7 harg7 arg8 harg8 arg9 harg9 arg10 harg10 arg11 harg11 arg12 harg12 arg13 harg13 p v97 k hq hx ff)
      isplitl [HG]; · iexact HG
      iexact HF
    · iintro %_ ⟨HG, HS, HC, HH⟩
      isplitl [HG]; · iexact HG
      isplitl [HP]; · iexact HP
      isplitl [HS2]; · iexact HS2
      isplitl [HS HC]
      · isplitl [HS]; · iexact HS
        iexact HC
      isplitl [HH]; · iexact HH
      iexact HR

end Trip

end Cert.Proof.LruIdeal

end
-- ==== Proof.LruIdealScan.lean ====
/- One trip of the scan loop. At the idealized program. -/
module

public import proofs.«01_k».proof.Proof.LruScan
public import proofs.«01_k».proof.Proof.LruIdealTrip

@[expose] public section

noncomputable section

namespace Cert.Proof.LruIdeal

open Cert.LruIdeal Cert.LruIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

theorem trips2 : k0_t2_loop.trips = 256 := by decide +kernel

section Pure
variable {w : View sig .tc .vmem S2x4160x128 .f32} {f : w.ty.Contents (Elt F)} {n : ℕ}

theorem scan_load {G : ℕ → ℕ → ℕ → F .f32} (h : Holds w f (fun y => G (y 0).val (y 1).val (y 2).val) (fun y => n ≤ (y 1).val % 260 ∧ (y 1).val % 260 < 256)) (hn : n < 256)
    {s b : ℕ} {o : Fin 3 → ℕ} (e : o = ![s, 2080 * b + n, 0]) (hb) :
    w.readAt (Elt F) (⟨o, S1x8x128.size, ![1, 260, 1], hb⟩ : LoadRect S2x4160x128) f = fun y => G s (2080 * b + 260 * (y 1).val + n) (y 2).val := by
  subst e
  funext y
  have h1 : (y 1).val < 8 := (y 1).isLt
  have h0 : (y 0).val < 1 := (y 0).isLt
  have e0 : ((⟨![s, 2080 * b + n, 0], S1x8x128.size, ![1, 260, 1], hb⟩ : LoadRect S2x4160x128).idx y 0).val = s + 1 * (y 0).val := rfl
  have e1 : ((⟨![s, 2080 * b + n, 0], S1x8x128.size, ![1, 260, 1], hb⟩ : LoadRect S2x4160x128).idx y 1).val = 2080 * b + n + 260 * (y 1).val := rfl
  have e2 : ((⟨![s, 2080 * b + n, 0], S1x8x128.size, ![1, 260, 1], hb⟩ : LoadRect S2x4160x128).idx y 2).val = 0 + 1 * (y 2).val := rfl
  rw [readAt_holds h _ y (by rw [e1]; omega)]
  show G _ _ _ = G _ _ _
  rw [e0, e1, e2]; congr 1 <;> omega

theorem scan_val (V : ℕ → ℕ → ℕ → FVec F S8x128 .f32) {s b : ℕ} (hn : n < 256) (hs : s < 2) (hb : b < 2) (hsc) (x : S1x8x128.Idx) {a d e : ℕ}
    (ea : a = s + 1 * (x 0).val) (ed : d = 2080 * b + n + 260 * (x 1).val) (ee : e = 0 + 1 * (x 2).val) :
    shapeCast S1x8x128 (V s b (n + 1)) hsc x = V a (d / 2080) (d % 260 + 1) (i2 8 128 (d % 2080 / 260) e) := by
  have h0 : (x 0).val < 1 := (x 0).isLt
  have h1 : (x 1).val < 8 := (x 1).isLt
  have h2 : (x 2).val < 128 := (x 2).isLt
  have e1 : d / 2080 = b := by omega
  have e2 : d % 260 = n := by omega
  have e3 : d % 2080 / 260 = (x 1).val := by omega
  have e4 : a = s := by omega
  rw [e1, e2, e3, e4]
  pointwise
  congr 1
  funext q
  fin_cases q <;> apply Fin.ext <;> simp [Fin.ofNat] <;> omega

theorem scan_writes {A : ℕ → ℕ → ℕ → F .f32} (V : ℕ → ℕ → ℕ → FVec F S8x128 .f32) (hn : n < 256)
    (h : Holds w f (fun y => A (y 0).val (y 1).val (y 2).val) (fun y => n ≤ (y 1).val % 260 ∧ (y 1).val % 260 < 256)
      ∧ Holds w f (fun y => V (y 0).val ((y 1).val / 2080) ((y 1).val % 260 + 1) (i2 8 128 ((y 1).val % 2080 / 260) (y 2).val)) (fun y => (y 1).val % 260 < n))
    {o11 : Fin 3 → ℕ} (e11 : o11 = ![1, 2080 * 1 + n, 0]) (b11) {w11 : Vec F S1x8x128 .f32} (hw11 : ∃ hsc, w11 = shapeCast S1x8x128 (V 1 1 (n + 1)) hsc)
    {o10 : Fin 3 → ℕ} (e10 : o10 = ![1, 2080 * 0 + n, 0]) (b10) {w10 : Vec F S1x8x128 .f32} (hw10 : ∃ hsc, w10 = shapeCast S1x8x128 (V 1 0 (n + 1)) hsc)
    {o01 : Fin 3 → ℕ} (e01 : o01 = ![0, 2080 * 1 + n, 0]) (b01) {w01 : Vec F S1x8x128 .f32} (hw01 : ∃ hsc, w01 = shapeCast S1x8x128 (V 0 1 (n + 1)) hsc)
    {o00 : Fin 3 → ℕ} (e00 : o00 = ![0, 2080 * 0 + n, 0]) (b00) {w00 : Vec F S1x8x128 .f32} (hw00 : ∃ hsc, w00 = shapeCast S1x8x128 (V 0 0 (n + 1)) hsc)
    : Holds w (w.writes (Elt F) f [⟨⟨(⟨o11, S1x8x128.size, ![1, 260, 1], b11⟩ : LoadRect S2x4160x128), spos_1_260_1⟩, w11⟩,
      ⟨⟨(⟨o10, S1x8x128.size, ![1, 260, 1], b10⟩ : LoadRect S2x4160x128), spos_1_260_1⟩, w10⟩,
      ⟨⟨(⟨o01, S1x8x128.size, ![1, 260, 1], b01⟩ : LoadRect S2x4160x128), spos_1_260_1⟩, w01⟩,
      ⟨⟨(⟨o00, S1x8x128.size, ![1, 260, 1], b00⟩ : LoadRect S2x4160x128), spos_1_260_1⟩, w00⟩]) (fun y => A (y 0).val (y 1).val (y 2).val) (fun y => n + 1 ≤ (y 1).val % 260 ∧ (y 1).val % 260 < 256)
      ∧ Holds w (w.writes (Elt F) f [⟨⟨(⟨o11, S1x8x128.size, ![1, 260, 1], b11⟩ : LoadRect S2x4160x128), spos_1_260_1⟩, w11⟩,
      ⟨⟨(⟨o10, S1x8x128.size, ![1, 260, 1], b10⟩ : LoadRect S2x4160x128), spos_1_260_1⟩, w10⟩,
      ⟨⟨(⟨o01, S1x8x128.size, ![1, 260, 1], b01⟩ : LoadRect S2x4160x128), spos_1_260_1⟩, w01⟩,
      ⟨⟨(⟨o00, S1x8x128.size, ![1, 260, 1], b00⟩ : LoadRect S2x4160x128), spos_1_260_1⟩, w00⟩]) (fun y => V (y 0).val ((y 1).val / 2080) ((y 1).val % 260 + 1) (i2 8 128 ((y 1).val % 2080 / 260) (y 2).val)) (fun y => (y 1).val % 260 < n + 1) := by
  subst e11 e10 e01 e00
  constructor
  · refine holds_other h.1 fun y hy => ⟨?_, by omega, hy.2⟩
    simp only [List.forall_mem_cons]
    refine ⟨fun hm => ?_, fun hm => ?_, fun hm => ?_, fun hm => ?_, fun _ hx => absurd hx List.not_mem_nil⟩
    · obtain ⟨j, hj, ej⟩ := (LoadRect.mem_set _).1 hm 1
      have ej' : (y 1).val = 2080 * 1 + n + 260 * j := ej
      omega
    · obtain ⟨j, hj, ej⟩ := (LoadRect.mem_set _).1 hm 1
      have ej' : (y 1).val = 2080 * 0 + n + 260 * j := ej
      omega
    · obtain ⟨j, hj, ej⟩ := (LoadRect.mem_set _).1 hm 1
      have ej' : (y 1).val = 2080 * 1 + n + 260 * j := ej
      omega
    · obtain ⟨j, hj, ej⟩ := (LoadRect.mem_set _).1 hm 1
      have ej' : (y 1).val = 2080 * 0 + n + 260 * j := ej
      omega
  · refine holds_writes h.2 ?_ ?_
    · simp only [List.forall_mem_cons]
      refine ⟨fun x => ?_, fun x => ?_, fun x => ?_, fun x => ?_, fun _ hx => absurd hx List.not_mem_nil⟩
      · obtain ⟨hsc, e⟩ := hw11
        show w11 x = _
        rw [e]; exact scan_val V hn (by omega) (by omega) hsc x rfl rfl rfl
      · obtain ⟨hsc, e⟩ := hw10
        show w10 x = _
        rw [e]; exact scan_val V hn (by omega) (by omega) hsc x rfl rfl rfl
      · obtain ⟨hsc, e⟩ := hw01
        show w01 x = _
        rw [e]; exact scan_val V hn (by omega) (by omega) hsc x rfl rfl rfl
      · obtain ⟨hsc, e⟩ := hw00
        show w00 x = _
        rw [e]; exact scan_val V hn (by omega) (by omega) hsc x rfl rfl rfl
    · intro y hy
      have h0 : (y 0).val < 2 := (y 0).isLt
      have h1 : (y 1).val < 4160 := (y 1).isLt
      have h2 : (y 2).val < 128 := (y 2).isLt
      by_cases hr : (y 1).val % 260 < n
      · exact Or.inr hr
      · left
        rcases (by omega : (y 0).val = 0 ∨ (y 0).val = 1) with hs | hs <;> rcases (by omega : (y 1).val < 2080 ∨ 2080 ≤ (y 1).val) with hq | hq
        · refine ⟨_, (List.mem_cons_of_mem _ (List.mem_cons_of_mem _ (List.mem_cons_of_mem _ List.mem_cons_self))), ?_⟩
          refine (LoadRect.mem_set _).2 fun a => ?_
          fin_cases a
          · exact ⟨0, Nat.zero_lt_one, by show (y 0).val = 0 + 1 * 0; omega⟩
          · exact ⟨(y 1).val % 2080 / 260, by show _ < 8; omega, by show (y 1).val = 2080 * 0 + n + 260 * ((y 1).val % 2080 / 260); omega⟩
          · exact ⟨(y 2).val, h2, by show (y 2).val = 0 + 1 * (y 2).val; omega⟩
        · refine ⟨_, (List.mem_cons_of_mem _ (List.mem_cons_of_mem _ List.mem_cons_self)), ?_⟩
          refine (LoadRect.mem_set _).2 fun a => ?_
          fin_cases a
          · exact ⟨0, Nat.zero_lt_one, by show (y 0).val = 0 + 1 * 0; omega⟩
          · exact ⟨(y 1).val % 2080 / 260, by show _ < 8; omega, by show (y 1).val = 2080 * 1 + n + 260 * ((y 1).val % 2080 / 260); omega⟩
          · exact ⟨(y 2).val, h2, by show (y 2).val = 0 + 1 * (y 2).val; omega⟩
        · refine ⟨_, (List.mem_cons_of_mem _ List.mem_cons_self), ?_⟩
          refine (LoadRect.mem_set _).2 fun a => ?_
          fin_cases a
          · exact ⟨0, Nat.zero_lt_one, by show (y 0).val = 1 + 1 * 0; omega⟩
          · exact ⟨(y 1).val % 2080 / 260, by show _ < 8; omega, by show (y 1).val = 2080 * 0 + n + 260 * ((y 1).val % 2080 / 260); omega⟩
          · exact ⟨(y 2).val, h2, by show (y 2).val = 0 + 1 * (y 2).val; omega⟩
        · refine ⟨_, List.mem_cons_self, ?_⟩
          refine (LoadRect.mem_set _).2 fun a => ?_
          fin_cases a
          · exact ⟨0, Nat.zero_lt_one, by show (y 0).val = 1 + 1 * 0; omega⟩
          · exact ⟨(y 1).val % 2080 / 260, by show _ < 8; omega, by show (y 1).val = 2080 * 1 + n + 260 * ((y 1).val % 2080 / 260); omega⟩
          · exact ⟨(y 2).val, h2, by show (y 2).val = 0 + 1 * (y 2).val; omega⟩

theorem cast_of {X Y : FVec F S8x128 .f32} (e : X = Y) (hsc : S8x128.ShapeCasts S1x8x128) : ∃ hsc, shapeCast S1x8x128 X hsc = shapeCast S1x8x128 Y hsc := ⟨hsc, by rw [e]⟩
end Pure

section Trip
variable (c : Dev nD) (i : grid0.Coords)
  (arg3 : Memref sig .tc .vmem S1024x256 .f32) (harg3 : arg3.IsWhole)
  (arg4 : Memref sig .tc .vmem S1024x256 .f32) (harg4 : arg4.IsWhole)
  (arg5 : Memref sig .tc .vmem S4x64x64 .f32) (harg5 : arg5.IsWhole)
  (arg6 : Memref sig .tc .vmem S4x64x64 .f32) (harg6 : arg6.IsWhole)
  (arg7 : Memref sig .tc .vmem S1x9216 .f32) (harg7 : arg7.IsWhole)
  (arg8 : Memref sig .tc .vmem S4x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x4096x256 .bf16) (harg13 : arg13.IsWhole)
  (p : Par F) (v255 v268 : FVec F S1024x256 .f32) (v320 : FVec F S1x256x128 .f32)

abbrev Car (F : FTy → Type) : Type := FVec F S8x128 .f32 × FVec F S8x128 .f32 × FVec F S8x128 .f32 × FVec F S8x128 .f32 × FVec F S8x128 .f32 × FVec F S8x128 .f32 × FVec F S8x128 .f32 × FVec F S8x128 .f32
/-- What the scan carries after `n` steps. -/
def carr (n : ℕ) : Car F := (hV p 0 0 n, pV p 0 0 n, hV p 0 1 n, pV p 0 1 n, hV p 1 0 n, pV p 1 0 n, hV p 1 1 n, pV p 1 1 n)

abbrev tripS (k : Fin k0_t2_loop.trips) : Prog (TpuEff nD τ sig (Elt F) Λ₀ .tc) (Car F) :=
  k0_t2_body (F := F) i xM (Memref.isWhole_whole _) arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 v255 v268 v320 k (carr p k.val)

def Scan4 (n : ℕ) (f : Buf (Elt F) (W4.view.loc (c : Thread nD τ))) : Prop :=
  Holds W4.view f (fun y => aS p (y 0).val (y 1).val (y 2).val) (fun y => n ≤ (y 1).val % 260 ∧ (y 1).val % 260 < 256)
    ∧ Holds W4.view f (fun y => pS p (y 0).val (y 1).val (y 2).val) (fun y => (y 1).val % 260 < n)
def Scan5 (n : ℕ) (f : Buf (Elt F) (W5.view.loc (c : Thread nD τ))) : Prop :=
  Holds W5.view f (fun y => iS p (y 0).val (y 1).val (y 2).val) (fun y => n ≤ (y 1).val % 260 ∧ (y 1).val % 260 < 256)
    ∧ Holds W5.view f (fun y => hS p (y 0).val (y 1).val (y 2).val) (fun y => (y 1).val % 260 < n)

def scanRes (n : ℕ) (r : Car F) : sProp 𝕄 :=
  iprop(⌜r = carr p n⌝ ∗ (∃ f, scrP4 (F := F) c f ∗ ⌜Scan4 c p n f⌝) ∗ (∃ f, scrP5 (F := F) c f ∗ ⌜Scan5 c p n f⌝))

theorem scan_step (k : Fin k0_t2_loop.trips) :
    scanRes c p k.val (carr p k.val) ⊢ wp frame (wpE (defs₀ (F := F)) 𝒱₀ (c : Thread nD τ) none) Set.univ (tripS i arg3 harg3 arg4 harg4 arg5 harg5 arg6 harg6 arg7 harg7 arg8 harg8 arg9 harg9 arg10 harg10 arg11 harg11 arg12 harg12 arg13 harg13 p v255 v268 v320 k) fun r => scanRes c p (k.val + 1) r := by
  have hk := lt_of_lt_of_eq k.isLt trips2
  unfold scanRes
  iintro ⟨-, ⟨%f4, HS4, %h4⟩, ⟨%f5, HS5, %h5⟩⟩
  dsimp only [tripS, carr]
  sl_unfold [k0_t2_body]
  sl_exec
  sl_step
  isplitr
  · ipureintro; sl_unfold_run_names
    refine Prod.ext ?_ (Prod.ext ?_ (Prod.ext ?_ (Prod.ext ?_ (Prod.ext ?_ (Prod.ext ?_ (Prod.ext ?_ ?_))))))
    · exact congrArg₂ (k0_pay32 (hV p 0 0 k.val)) (scan_load h4.1 hk (k0_off30_eq k 0) _) (scan_load h5.1 hk (k0_off30_eq k 0) _)
    · exact congrArg (k0_pay33 (pV p 0 0 k.val)) (scan_load h4.1 hk (k0_off30_eq k 0) _)
    · exact congrArg₂ (k0_pay32 (hV p 0 1 k.val)) (scan_load h4.1 hk (k0_off30_eq k 1) _) (scan_load h5.1 hk (k0_off30_eq k 1) _)
    · exact congrArg (k0_pay33 (pV p 0 1 k.val)) (scan_load h4.1 hk (k0_off30_eq k 1) _)
    · exact congrArg₂ (k0_pay32 (hV p 1 0 k.val)) (scan_load h4.1 hk (k0_off31_eq k 0) _) (scan_load h5.1 hk (k0_off31_eq k 0) _)
    · exact congrArg (k0_pay33 (pV p 1 0 k.val)) (scan_load h4.1 hk (k0_off31_eq k 0) _)
    · exact congrArg₂ (k0_pay32 (hV p 1 1 k.val)) (scan_load h4.1 hk (k0_off31_eq k 1) _) (scan_load h5.1 hk (k0_off31_eq k 1) _)
    · exact congrArg (k0_pay33 (pV p 1 1 k.val)) (scan_load h4.1 hk (k0_off31_eq k 1) _)
  isplitl [HS4]
  · iexists _; isplitl [HS4]; · iexact HS4
    ipureintro; sl_unfold_run_names
    refine scan_writes (A := aS p) (pV p) hk h4 (k0_off31_eq k 1) _ ?_ (k0_off31_eq k 0) _ ?_ (k0_off30_eq k 1) _ ?_ (k0_off30_eq k 0) _ ?_
    · exact cast_of (congrArg (k0_pay33 (pV p 1 1 k.val)) (scan_load h4.1 hk (k0_off31_eq k 1) _)) (by decide)
    · exact cast_of (congrArg (k0_pay33 (pV p 1 0 k.val)) (scan_load h4.1 hk (k0_off31_eq k 0) _)) (by decide)
    · exact cast_of (congrArg (k0_pay33 (pV p 0 1 k.val)) (scan_load h4.1 hk (k0_off30_eq k 1) _)) (by decide)
    · exact cast_of (congrArg (k0_pay33 (pV p 0 0 k.val)) (scan_load h4.1 hk (k0_off30_eq k 0) _)) (by decide)
  · iexists _; isplitl [HS5]; · iexact HS5
    ipureintro; sl_unfold_run_names
    refine scan_writes (A := iS p) (hV p) hk h5 (k0_off31_eq k 1) _ ?_ (k0_off31_eq k 0) _ ?_ (k0_off30_eq k 1) _ ?_ (k0_off30_eq k 0) _ ?_
    · exact cast_of (congrArg₂ (k0_pay32 (hV p 1 1 k.val)) (scan_load h4.1 hk (k0_off31_eq k 1) _) (scan_load h5.1 hk (k0_off31_eq k 1) _)) (by decide)
    · exact cast_of (congrArg₂ (k0_pay32 (hV p 1 0 k.val)) (scan_load h4.1 hk (k0_off31_eq k 0) _) (scan_load h5.1 hk (k0_off31_eq k 0) _)) (by decide)
    · exact cast_of (congrArg₂ (k0_pay32 (hV p 0 1 k.val)) (scan_load h4.1 hk (k0_off30_eq k 1) _) (scan_load h5.1 hk (k0_off30_eq k 1) _)) (by decide)
    · exact cast_of (congrArg₂ (k0_pay32 (hV p 0 0 k.val)) (scan_load h4.1 hk (k0_off30_eq k 0) _) (scan_load h5.1 hk (k0_off30_eq k 0) _)) (by decide)
end Trip

end Cert.Proof.LruIdeal

end
-- ==== Proof.LruIdealOut.lean ====
/- The output of a point from what the scan leaves. At the idealized program. -/
module

public import proofs.«01_k».proof.Proof.LruOut
public import proofs.«01_k».proof.Proof.LruIdealScan

@[expose] public section

noncomputable section

namespace Cert.Proof.LruIdeal

open Cert.LruIdeal Cert.LruIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Out
variable (c : Dev nD) (p : Par F)

theorem sl8 (n : ℕ) : S8x128.Slices ![n % 8, 0] S1x128 := by
  have h : n % 8 < 8 := Nat.mod_lt _ (by omega)
  refine ⟨rfl, fun a => ?_⟩
  fin_cases a
  · show n % 8 + 1 ≤ 8; omega
  · show 0 + 128 ≤ 128; omega

/-- The state ahead of segment `n`, as a row. -/
def cinV (s : ℕ) : ℕ → FVec F S1x128 .f32
  | 0 => k0_pay100
  | n + 1 => addf (extractStridedSlice S1x128 ![n % 8, 0] (hV p s (n / 8) 256) (sl8 n)) (mulf (extractStridedSlice S1x128 ![n % 8, 0] (pV p s (n / 8) 256) (sl8 n)) (cinV s n))

theorem cinV_apply (s n : ℕ) (z : S1x128.Idx) : cinV p s n z = cin p s (z 1).val n := by
  have h0 : (z 0).val < 1 := (z 0).isLt
  have h1 : (z 1).val < 128 := (z 1).isLt
  induction n with
  | zero => pointwise [cinV, cin, k0_pay100]
  | succ n ih =>
    have e : ∀ V : FVec F S8x128 .f32, extractStridedSlice S1x128 ![n % 8, 0] V (sl8 n) z = V (i2 8 128 (n % 8) (z 1).val) := by
      intro V
      pointwise
      congr 1
      funext q
      fin_cases q <;> apply Fin.ext <;> simp [Fin.ofNat] <;> omega
    show FloatOps.addf (extractStridedSlice S1x128 ![n % 8, 0] (hV p s (n / 8) 256) (sl8 n) z) (FloatOps.mulf (extractStridedSlice S1x128 ![n % 8, 0] (pV p s (n / 8) 256) (sl8 n) z) (cinV p s n z)) = _
    rw [e, e, ih]; rfl

variable (l3 : ℕ → ℕ → Vec F S256x128 .f32) (l4 l5 : ℕ → ℕ → Vec F S1x256x128 .f32)

theorem inbO (s : Fin 2) (n : Fin 16) : ∀ a, ![0, 256 * n.val, 128 * s.val] a + S1x256x128.size a ≤ S1x4096x256.size a := by
  have hs := s.isLt
  have hn := n.isLt
  intro a
  fin_cases a
  · show 0 + 1 ≤ 1; omega
  · show 256 * n.val + 256 ≤ 4096; omega
  · show 128 * s.val + 128 ≤ 256; omega

/-- The store of segment `n` of half `s`. -/
def outPc (s : Fin 2) (n : Fin 16) : View.Piece (Elt F) S1x4096x256 .bf16 :=
  ⟨Rect.unit (s := S1x4096x256) ![0, 256 * n.val, 128 * s.val] S1x256x128.size (inbO s n), k0_pay1 (cinV p s.val n.val) (l5 s.val n.val) (l4 s.val n.val) (l3 s.val n.val)⟩

theorem out_val (h5 : ∀ s n, s < 2 → n < 16 → ∀ y, l5 s n y = hS p s (260 * n + (y 1).val) (y 2).val) (h4 : ∀ s n, s < 2 → n < 16 → ∀ y, l4 s n y = pS p s (260 * n + (y 1).val) (y 2).val)
    (h3 : ∀ s n, s < 2 → n < 16 → ∀ y, l3 s n y = gS p (256 * n + (y 0).val) (128 * s + (y 1).val)) (s : Fin 2) (n : Fin 16) (x : S1x256x128.Idx) :
    (outPc p l3 l4 l5 s n).2 x = oS p ((outPc p l3 l4 l5 s n).1.emb x 1).val ((outPc p l3 l4 l5 s n).1.emb x 2).val := by
  have hs := s.isLt
  have hn := n.isLt
  have x0 : (x 0).val < 1 := (x 0).isLt
  have x1 : (x 1).val < 256 := (x 1).isLt
  have x2 : (x 2).val < 128 := (x 2).isLt
  show k0_pay1 (cinV p s.val n.val) (l5 s.val n.val) (l4 s.val n.val) (l3 s.val n.val) x = oS p (256 * n.val + 1 * (x 1).val) (128 * s.val + 1 * (x 2).val)
  have e1 : (128 * s.val + 1 * (x 2).val) / 128 = s.val := by omega
  have e2 : (128 * s.val + 1 * (x 2).val) % 128 = (x 2).val := by omega
  have e3 : (256 * n.val + 1 * (x 1).val) / 256 = n.val := by omega
  have e4 : (256 * n.val + 1 * (x 1).val) % 256 = (x 1).val := by omega
  rw [oS, e1, e2, e3, e4]
  pointwise [k0_pay1]
  simp only [h5 _ _ hs hn, h4 _ _ hs hn, h3 _ _ hs hn, cinV_apply]
  rfl

theorem out_of (h5 : ∀ s n, s < 2 → n < 16 → ∀ y, l5 s n y = hS p s (260 * n + (y 1).val) (y 2).val) (h4 : ∀ s n, s < 2 → n < 16 → ∀ y, l4 s n y = pS p s (260 * n + (y 1).val) (y 2).val)
    (h3 : ∀ s n, s < 2 → n < 16 → ∀ y, l3 s n y = gS p (256 * n + (y 0).val) (128 * s + (y 1).val)) (v : View sig .tc .vmem S1x4096x256 .bf16) (f : v.ty.Contents (Elt F)) :
    ∀ y, v.read (Elt F) (v.writes (Elt F) f [outPc p l3 l4 l5 1 15, outPc p l3 l4 l5 1 14, outPc p l3 l4 l5 1 13, outPc p l3 l4 l5 1 12, outPc p l3 l4 l5 1 11, outPc p l3 l4 l5 1 10, outPc p l3 l4 l5 1 9, outPc p l3 l4 l5 1 8, outPc p l3 l4 l5 1 7, outPc p l3 l4 l5 1 6, outPc p l3 l4 l5 1 5, outPc p l3 l4 l5 1 4, outPc p l3 l4 l5 1 3, outPc p l3 l4 l5 1 2, outPc p l3 l4 l5 1 1, outPc p l3 l4 l5 1 0, outPc p l3 l4 l5 0 15, outPc p l3 l4 l5 0 14, outPc p l3 l4 l5 0 13, outPc p l3 l4 l5 0 12, outPc p l3 l4 l5 0 11, outPc p l3 l4 l5 0 10, outPc p l3 l4 l5 0 9, outPc p l3 l4 l5 0 8, outPc p l3 l4 l5 0 7, outPc p l3 l4 l5 0 6, outPc p l3 l4 l5 0 5, outPc p l3 l4 l5 0 4, outPc p l3 l4 l5 0 3, outPc p l3 l4 l5 0 2, outPc p l3 l4 l5 0 1, outPc p l3 l4 l5 0 0]) y = oS p (y 1).val (y 2).val := by
  have hv := out_val p l3 l4 l5 h5 h4 h3
  have hm : ∀ (s : Fin 2) (n : Fin 16), outPc p l3 l4 l5 s n ∈ [outPc p l3 l4 l5 1 15, outPc p l3 l4 l5 1 14, outPc p l3 l4 l5 1 13, outPc p l3 l4 l5 1 12, outPc p l3 l4 l5 1 11, outPc p l3 l4 l5 1 10, outPc p l3 l4 l5 1 9, outPc p l3 l4 l5 1 8, outPc p l3 l4 l5 1 7, outPc p l3 l4 l5 1 6, outPc p l3 l4 l5 1 5, outPc p l3 l4 l5 1 4, outPc p l3 l4 l5 1 3, outPc p l3 l4 l5 1 2, outPc p l3 l4 l5 1 1, outPc p l3 l4 l5 1 0, outPc p l3 l4 l5 0 15, outPc p l3 l4 l5 0 14, outPc p l3 l4 l5 0 13, outPc p l3 l4 l5 0 12, outPc p l3 l4 l5 0 11, outPc p l3 l4 l5 0 10, outPc p l3 l4 l5 0 9, outPc p l3 l4 l5 0 8, outPc p l3 l4 l5 0 7, outPc p l3 l4 l5 0 6, outPc p l3 l4 l5 0 5, outPc p l3 l4 l5 0 4, outPc p l3 l4 l5 0 3, outPc p l3 l4 l5 0 2, outPc p l3 l4 l5 0 1, outPc p l3 l4 l5 0 0] := by
    intro s n
    fin_cases s <;> fin_cases n
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))
    · exact (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))
    · exact (List.mem_cons_of_mem _ (List.mem_cons_of_mem _ (List.mem_cons_of_mem _ (List.mem_cons_of_mem _ (List.mem_cons_of_mem _ (List.mem_cons_of_mem _ (List.mem_cons_of_mem _ List.mem_cons_self)))))))
    · exact (List.mem_cons_of_mem _ (List.mem_cons_of_mem _ (List.mem_cons_of_mem _ (List.mem_cons_of_mem _ (List.mem_cons_of_mem _ (List.mem_cons_of_mem _ List.mem_cons_self))))))
    · exact (List.mem_cons_of_mem _ (List.mem_cons_of_mem _ (List.mem_cons_of_mem _ (List.mem_cons_of_mem _ (List.mem_cons_of_mem _ List.mem_cons_self)))))
    · exact (List.mem_cons_of_mem _ (List.mem_cons_of_mem _ (List.mem_cons_of_mem _ (List.mem_cons_of_mem _ List.mem_cons_self))))
    · exact (List.mem_cons_of_mem _ (List.mem_cons_of_mem _ (List.mem_cons_of_mem _ List.mem_cons_self)))
    · exact (List.mem_cons_of_mem _ (List.mem_cons_of_mem _ List.mem_cons_self))
    · exact (List.mem_cons_of_mem _ List.mem_cons_self)
    · exact List.mem_cons_self
  have hg : ∀ q ∈ [outPc p l3 l4 l5 1 15, outPc p l3 l4 l5 1 14, outPc p l3 l4 l5 1 13, outPc p l3 l4 l5 1 12, outPc p l3 l4 l5 1 11, outPc p l3 l4 l5 1 10, outPc p l3 l4 l5 1 9, outPc p l3 l4 l5 1 8, outPc p l3 l4 l5 1 7, outPc p l3 l4 l5 1 6, outPc p l3 l4 l5 1 5, outPc p l3 l4 l5 1 4, outPc p l3 l4 l5 1 3, outPc p l3 l4 l5 1 2, outPc p l3 l4 l5 1 1, outPc p l3 l4 l5 1 0, outPc p l3 l4 l5 0 15, outPc p l3 l4 l5 0 14, outPc p l3 l4 l5 0 13, outPc p l3 l4 l5 0 12, outPc p l3 l4 l5 0 11, outPc p l3 l4 l5 0 10, outPc p l3 l4 l5 0 9, outPc p l3 l4 l5 0 8, outPc p l3 l4 l5 0 7, outPc p l3 l4 l5 0 6, outPc p l3 l4 l5 0 5, outPc p l3 l4 l5 0 4, outPc p l3 l4 l5 0 3, outPc p l3 l4 l5 0 2, outPc p l3 l4 l5 0 1, outPc p l3 l4 l5 0 0], ∀ x, q.2 x = oS p (q.1.emb x 1).val (q.1.emb x 2).val := by
    simp only [List.forall_mem_cons]
    exact ⟨hv 1 15, hv 1 14, hv 1 13, hv 1 12, hv 1 11, hv 1 10, hv 1 9, hv 1 8, hv 1 7, hv 1 6, hv 1 5, hv 1 4, hv 1 3, hv 1 2, hv 1 1, hv 1 0, hv 0 15, hv 0 14, hv 0 13, hv 0 12, hv 0 11, hv 0 10, hv 0 9, hv 0 8, hv 0 7, hv 0 6, hv 0 5, hv 0 4, hv 0 3, hv 0 2, hv 0 1, hv 0 0, fun _ hx => absurd hx List.not_mem_nil⟩
  intro y
  refine View.read_writes_apply_of_pieces v f (fun y => oS p (y 1).val (y 2).val) _ hg y ?_
  have y0 : (y 0).val < 1 := (y 0).isLt
  have y1 : (y 1).val < 4096 := (y 1).isLt
  have y2 : (y 2).val < 256 := (y 2).isLt
  refine ⟨_, hm ⟨(y 2).val / 128, by omega⟩ ⟨(y 1).val / 256, by omega⟩, (Rect.mem_set_unit (s := S1x4096x256) (inb := inbO ⟨(y 2).val / 128, by omega⟩ ⟨(y 1).val / 256, by omega⟩)).2 fun a => ?_⟩
  fin_cases a
  · exact ⟨Nat.zero_le _, by show (y 0).val < 0 + 1; omega⟩
  · exact ⟨by show 256 * ((y 1).val / 256) ≤ (y 1).val; omega, by show (y 1).val < 256 * ((y 1).val / 256) + 256; omega⟩
  · exact ⟨by show 128 * ((y 2).val / 128) ≤ (y 2).val; omega, by show (y 2).val < 128 * ((y 2).val / 128) + 128; omega⟩

/-- What the loads of the last part read. -/
theorem out5_of {f} (h : Scan5 c p 256 f) {s n : ℕ} (hn : n < 16) {o : Fin 3 → ℕ} (e : o = ![s, 260 * n, 0]) (hb) (y : S1x256x128.Idx) :
    W5.view.readAt (Elt F) (Rect.unit (s := S2x4160x128) o S1x256x128.size hb).toLoadRect f y = hS p s (260 * n + (y 1).val) (y 2).val := by
  subst e
  have h1 : (y 1).val < 256 := (y 1).isLt
  have h0 : (y 0).val < 1 := (y 0).isLt
  have e0 : ((Rect.unit (s := S2x4160x128) ![s, 260 * n, 0] S1x256x128.size hb).toLoadRect.idx y 0).val = s + 1 * (y 0).val := rfl
  have e1 : ((Rect.unit (s := S2x4160x128) ![s, 260 * n, 0] S1x256x128.size hb).toLoadRect.idx y 1).val = 260 * n + 1 * (y 1).val := rfl
  have e2 : ((Rect.unit (s := S2x4160x128) ![s, 260 * n, 0] S1x256x128.size hb).toLoadRect.idx y 2).val = 0 + 1 * (y 2).val := rfl
  refine (readAt_holds h.2 (Rect.unit (s := S2x4160x128) ![s, 260 * n, 0] S1x256x128.size hb).toLoadRect y (by show (260 * n + 1 * (y 1).val) % 260 < 256; omega)).trans ?_
  show hS p _ _ _ = hS p _ _ _
  rw [e0, e1, e2]; congr 1 <;> omega
theorem out4_of {f} (h : Scan4 c p 256 f) {s n : ℕ} (hn : n < 16) {o : Fin 3 → ℕ} (e : o = ![s, 260 * n, 0]) (hb) (y : S1x256x128.Idx) :
    W4.view.readAt (Elt F) (Rect.unit (s := S2x4160x128) o S1x256x128.size hb).toLoadRect f y = pS p s (260 * n + (y 1).val) (y 2).val := by
  subst e
  have h1 : (y 1).val < 256 := (y 1).isLt
  have h0 : (y 0).val < 1 := (y 0).isLt
  have e0 : ((Rect.unit (s := S2x4160x128) ![s, 260 * n, 0] S1x256x128.size hb).toLoadRect.idx y 0).val = s + 1 * (y 0).val := rfl
  have e1 : ((Rect.unit (s := S2x4160x128) ![s, 260 * n, 0] S1x256x128.size hb).toLoadRect.idx y 1).val = 260 * n + 1 * (y 1).val := rfl
  have e2 : ((Rect.unit (s := S2x4160x128) ![s, 260 * n, 0] S1x256x128.size hb).toLoadRect.idx y 2).val = 0 + 1 * (y 2).val := rfl
  refine (readAt_holds h.2 (Rect.unit (s := S2x4160x128) ![s, 260 * n, 0] S1x256x128.size hb).toLoadRect y (by show (260 * n + 1 * (y 1).val) % 260 < 256; omega)).trans ?_
  show pS p _ _ _ = pS p _ _ _
  rw [e0, e1, e2]; congr 1 <;> omega
theorem out3_of {f} (h : Ok3 c p 4 f) {s n : ℕ} (hn : n < 16) {o : Fin 2 → ℕ} (e : o = ![256 * n, 128 * s]) (hb) (y : S256x128.Idx) :
    W3.view.readAt (Elt F) (Rect.unit (s := S4096x256) o S256x128.size hb).toLoadRect f y = gS p (256 * n + (y 0).val) (128 * s + (y 1).val) := by
  subst e
  have h1 : (y 0).val < 256 := (y 0).isLt
  have e0 : ((Rect.unit (s := S4096x256) ![256 * n, 128 * s] S256x128.size hb).toLoadRect.idx y 0).val = 256 * n + 1 * (y 0).val := rfl
  have e1 : ((Rect.unit (s := S4096x256) ![256 * n, 128 * s] S256x128.size hb).toLoadRect.idx y 1).val = 128 * s + 1 * (y 1).val := rfl
  refine (readAt_holds h (Rect.unit (s := S4096x256) ![256 * n, 128 * s] S256x128.size hb).toLoadRect y (by show 256 * n + 1 * (y 0).val < 1024 * 4; omega)).trans ?_
  show gS p _ _ = gS p _ _
  rw [e0, e1]; congr 1 <;> omega

theorem inb45 (s n : ℕ) : ∀ a, ![s % 2, 260 * (n % 16), 0] a + S1x256x128.size a ≤ S2x4160x128.size a := by
  intro a
  fin_cases a
  · show s % 2 + 1 ≤ 2; omega
  · show 260 * (n % 16) + 256 ≤ 4160; omega
  · show 0 + 128 ≤ 128; omega
theorem inb3 (s n : ℕ) : ∀ a, ![256 * (n % 16), 128 * (s % 2)] a + S256x128.size a ≤ S4096x256.size a := by
  intro a
  fin_cases a
  · show 256 * (n % 16) + 256 ≤ 4096; omega
  · show 128 * (s % 2) + 128 ≤ 256; omega

def ld5 (f : Buf (Elt F) (W5.view.loc (c : Thread nD τ))) (s n : ℕ) : Vec F S1x256x128 .f32 :=
  W5.view.readAt (Elt F) (Rect.unit (s := S2x4160x128) ![s % 2, 260 * (n % 16), 0] S1x256x128.size (inb45 s n)).toLoadRect f
def ld4 (f : Buf (Elt F) (W4.view.loc (c : Thread nD τ))) (s n : ℕ) : Vec F S1x256x128 .f32 :=
  W4.view.readAt (Elt F) (Rect.unit (s := S2x4160x128) ![s % 2, 260 * (n % 16), 0] S1x256x128.size (inb45 s n)).toLoadRect f
def ld3 (f : Buf (Elt F) (W3.view.loc (c : Thread nD τ))) (s n : ℕ) : Vec F S256x128 .f32 :=
  W3.view.readAt (Elt F) (Rect.unit (s := S4096x256) ![256 * (n % 16), 128 * (s % 2)] S256x128.size (inb3 s n)).toLoadRect f

theorem out_all {f3 f4 f5} (h3 : Ok3 c p 4 f3) (h4 : Scan4 c p 256 f4) (h5 : Scan5 c p 256 f5) (v : View sig .tc .vmem S1x4096x256 .bf16) (f : v.ty.Contents (Elt F)) :
    ∀ y, v.read (Elt F) (v.writes (Elt F) f [outPc p (ld3 c f3) (ld4 c f4) (ld5 c f5) 1 15, outPc p (ld3 c f3) (ld4 c f4) (ld5 c f5) 1 14, outPc p (ld3 c f3) (ld4 c f4) (ld5 c f5) 1 13, outPc p (ld3 c f3) (ld4 c f4) (ld5 c f5) 1 12, outPc p (ld3 c f3) (ld4 c f4) (ld5 c f5) 1 11, outPc p (ld3 c f3) (ld4 c f4) (ld5 c f5) 1 10, outPc p (ld3 c f3) (ld4 c f4) (ld5 c f5) 1 9, outPc p (ld3 c f3) (ld4 c f4) (ld5 c f5) 1 8, outPc p (ld3 c f3) (ld4 c f4) (ld5 c f5) 1 7, outPc p (ld3 c f3) (ld4 c f4) (ld5 c f5) 1 6, outPc p (ld3 c f3) (ld4 c f4) (ld5 c f5) 1 5, outPc p (ld3 c f3) (ld4 c f4) (ld5 c f5) 1 4, outPc p (ld3 c f3) (ld4 c f4) (ld5 c f5) 1 3, outPc p (ld3 c f3) (ld4 c f4) (ld5 c f5) 1 2, outPc p (ld3 c f3) (ld4 c f4) (ld5 c f5) 1 1, outPc p (ld3 c f3) (ld4 c f4) (ld5 c f5) 1 0, outPc p (ld3 c f3) (ld4 c f4) (ld5 c f5) 0 15, outPc p (ld3 c f3) (ld4 c f4) (ld5 c f5) 0 14, outPc p (ld3 c f3) (ld4 c f4) (ld5 c f5) 0 13, outPc p (ld3 c f3) (ld4 c f4) (ld5 c f5) 0 12, outPc p (ld3 c f3) (ld4 c f4) (ld5 c f5) 0 11, outPc p (ld3 c f3) (ld4 c f4) (ld5 c f5) 0 10, outPc p (ld3 c f3) (ld4 c f4) (ld5 c f5) 0 9, outPc p (ld3 c f3) (ld4 c f4) (ld5 c f5) 0 8, outPc p (ld3 c f3) (ld4 c f4) (ld5 c f5) 0 7, outPc p (ld3 c f3) (ld4 c f4) (ld5 c f5) 0 6, outPc p (ld3 c f3) (ld4 c f4) (ld5 c f5) 0 5, outPc p (ld3 c f3) (ld4 c f4) (ld5 c f5) 0 4, outPc p (ld3 c f3) (ld4 c f4) (ld5 c f5) 0 3, outPc p (ld3 c f3) (ld4 c f4) (ld5 c f5) 0 2, outPc p (ld3 c f3) (ld4 c f4) (ld5 c f5) 0 1, outPc p (ld3 c f3) (ld4 c f4) (ld5 c f5) 0 0]) y = oS p (y 1).val (y 2).val :=
  out_of p (ld3 c f3) (ld4 c f4) (ld5 c f5)
    (fun s n hs hn y => out5_of c p h5 hn (by rw [Nat.mod_eq_of_lt hs, Nat.mod_eq_of_lt hn]) _ y)
    (fun s n hs hn y => out4_of c p h4 hn (by rw [Nat.mod_eq_of_lt hs, Nat.mod_eq_of_lt hn]) _ y)
    (fun s n hs hn y => out3_of c p h3 hn (by rw [Nat.mod_eq_of_lt hs, Nat.mod_eq_of_lt hn]) _ y) v f

theorem scan4_zero {f} (h : Ok4 c p 4 f) : Scan4 c p 0 f :=
  ⟨fun y hy => h y ⟨by have : (y 1).val < 4160 := (y 1).isLt; omega, hy.2⟩, fun y hy => absurd hy (Nat.not_lt_zero _)⟩
theorem scan5_zero {f} (h : Ok5 c p 4 f) : Scan5 c p 0 f :=
  ⟨fun y hy => h y ⟨by have : (y 1).val < 4160 := (y 1).isLt; omega, hy.2⟩, fun y hy => absurd hy (Nat.not_lt_zero _)⟩
end Out

end Cert.Proof.LruIdeal

end
-- ==== Proof.LruIdealInit.lean ====
/- What the first stores of a point leave. At the idealized program. -/
module

public import proofs.«01_k».proof.Proof.LruInit
public import proofs.«01_k».proof.Proof.LruIdealScan

@[expose] public section

noncomputable section

namespace Cert.Proof.LruIdeal

open Cert.LruIdeal Cert.LruIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Point
variable (c : Dev nD) (i : grid0.Coords) (XA : Buf (Elt F) (xM.view.loc (c : Thread nD τ)))
  (arg3 : Memref sig .tc .vmem S1024x256 .f32) (harg3 : arg3.IsWhole)
  (arg4 : Memref sig .tc .vmem S1024x256 .f32) (harg4 : arg4.IsWhole)
  (arg5 : Memref sig .tc .vmem S4x64x64 .f32) (harg5 : arg5.IsWhole)
  (arg6 : Memref sig .tc .vmem S4x64x64 .f32) (harg6 : arg6.IsWhole)
  (arg7 : Memref sig .tc .vmem S1x9216 .f32) (harg7 : arg7.IsWhole)
  (arg8 : Memref sig .tc .vmem S4x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x4096x256 .bf16) (harg13 : arg13.IsWhole)
  (g3 : Buf (Elt F) (arg3.view.loc (c : Thread nD τ)))
  (g4 : Buf (Elt F) (arg4.view.loc (c : Thread nD τ)))
  (g5 : Buf (Elt F) (arg5.view.loc (c : Thread nD τ)))
  (g6 : Buf (Elt F) (arg6.view.loc (c : Thread nD τ)))
  (g7 : Buf (Elt F) (arg7.view.loc (c : Thread nD τ)))
  (g8 : Buf (Elt F) (arg8.view.loc (c : Thread nD τ)))
  (g9 : Buf (Elt F) (arg9.view.loc (c : Thread nD τ)))
  (g10 : Buf (Elt F) (arg10.view.loc (c : Thread nD τ)))
  (g11 : Buf (Elt F) (arg11.view.loc (c : Thread nD τ)))
  (g12 : Buf (Elt F) (arg12.view.loc (c : Thread nD τ)))

abbrev ownP {sp : Space} {s : Shape} {e : EltTy} (m : Memref sig .tc sp s e) (f : Buf (Elt F) (m.view.loc (c : Thread nD τ))) : sProp 𝕄 :=
  m.view.loc (c : Thread nD τ) ↦[m.view.set]{fullShare} f

/-- One block of the gates' weights. -/
def blkW (arg : Memref sig .tc .vmem S4x64x64 .f32) (g : Buf (Elt F) (arg.view.loc (c : Thread nD τ))) (b : ℕ) : Vec F S1x64x64 .f32 :=
  fun z => arg.view.read (Elt F) g (i3 4 64 64 b (z 1).val (z 2).val)

/-- What the point reads. -/
def parOf : Par F where
  xv m := slotVal c XA (bx (qOf i + m))
  ws y := if (y 1).val < 256 then k0_pay42 (fun z => arg3.view.read (Elt F) g3 z) (i2 1024 256 (y 0).val (y 1).val)
    else k0_pay42 (fun z => arg4.view.read (Elt F) g4 z) (i2 1024 256 (y 0).val ((y 1).val - 256))
  wg y := if (y 0).val / 64 = (y 1).val % 256 / 64 then
      (if (y 1).val < 256 then k0_pay45 (blkW c arg5 g5 ((y 0).val / 64)) (i2 64 64 ((y 0).val % 64) ((y 1).val % 64))
        else k0_pay45 (blkW c arg6 g6 ((y 0).val / 64)) (i2 64 64 ((y 0).val % 64) ((y 1).val % 64)))
    else Scalar.ofBits .bf16 0x0000#16
  v8 := arg7.view.readAt (Elt F) (Rect.unit (s := S1x9216) (k0_off1 i 5120#32) S1x256.size (k0_off1_inb i 0)).toLoadRect g7
  v13 := arg7.view.readAt (Elt F) (Rect.unit (s := S1x9216) (k0_off1 i 6144#32) S1x256.size (k0_off1_inb i 1)).toLoadRect g7
  v18 := arg8.view.readAt (Elt F) (Rect.unit (s := S4x1024) (k0_off2 i) S4x256.size (k0_off2_inb i)).toLoadRect g8
  v23 := arg9.view.readAt (Elt F) (Rect.unit (s := S1x1024) (k0_off3 i) S1x256.size (k0_off3_inb i)).toLoadRect g9
  v28 := arg10.view.readAt (Elt F) (Rect.unit (s := S1x1024) (k0_off3 i) S1x256.size (k0_off3_inb i)).toLoadRect g10
  v33 := arg11.view.readAt (Elt F) (Rect.unit (s := S1x1024) (k0_off3 i) S1x256.size (k0_off3_inb i)).toLoadRect g11
  v117 := k0_pay55 (arg12.view.readAt (Elt F) (Rect.unit (s := S1x1024) (k0_off3 i) S1x256.size (k0_off3_inb i)).toLoadRect g12)

theorem ok0_of {f : W0.view.ty.Contents (Elt F)} {w0 w1 : Vec F S1024x256 .bf16} (b1) (hw1 : w1 = k0_pay42 (fun z => arg4.view.read (Elt F) g4 z)) (b0) (hw0 : w0 = k0_pay42 (fun z => arg3.view.read (Elt F) g3 z)) :
    Ok0 c (parOf c i XA arg3 arg4 arg5 arg6 arg7 arg8 arg9 arg10 arg11 arg12 g3 g4 g5 g6 g7 g8 g9 g10 g11 g12) (W0.view.writes (Elt F) f [⟨Rect.unit (s := S1024x512) ![0, 256] S1024x256.size b1, w1⟩, ⟨Rect.unit (s := S1024x512) ![0, 0] S1024x256.size b0, w0⟩]) := by
  have h : Holds W0.view f (fun y => ((parOf c i XA arg3 arg4 arg5 arg6 arg7 arg8 arg9 arg10 arg11 arg12 g3 g4 g5 g6 g7 g8 g9 g10 g11 g12)).ws y) (fun _ => False) := fun _ hy => hy.elim
  have h' : Holds W0.view (W0.view.writes (Elt F) f [⟨Rect.unit (s := S1024x512) ![0, 256] S1024x256.size b1, w1⟩, ⟨Rect.unit (s := S1024x512) ![0, 0] S1024x256.size b0, w0⟩]) (fun y => ((parOf c i XA arg3 arg4 arg5 arg6 arg7 arg8 arg9 arg10 arg11 arg12 g3 g4 g5 g6 g7 g8 g9 g10 g11 g12)).ws y) (fun _ => True) := by
    refine holds_writes h ?_ ?_
    · simp only [List.forall_mem_cons]
      refine ⟨fun x => ?_, fun x => ?_, fun _ hx => absurd hx List.not_mem_nil⟩
      · show w1 x = if 256 + 1 * (x 1).val < 256 then k0_pay42 (fun z => arg3.view.read (Elt F) g3 z) (i2 1024 256 (0 + 1 * (x 0).val) (256 + 1 * (x 1).val)) else k0_pay42 (fun z => arg4.view.read (Elt F) g4 z) (i2 1024 256 (0 + 1 * (x 0).val) (256 + 1 * (x 1).val - 256))
        have h0 : (x 0).val < 1024 := (x 0).isLt
        have h1 : (x 1).val < 256 := (x 1).isLt
        rw [if_neg (by omega), hw1]; congr 1
        exact (eq_ix2 x).trans (by congr 1 <;> apply Fin.ext <;> simp [Fin.ofNat] <;> omega)
      · show w0 x = if 0 + 1 * (x 1).val < 256 then k0_pay42 (fun z => arg3.view.read (Elt F) g3 z) (i2 1024 256 (0 + 1 * (x 0).val) (0 + 1 * (x 1).val)) else _
        have h0 : (x 0).val < 1024 := (x 0).isLt
        have h1 : (x 1).val < 256 := (x 1).isLt
        rw [if_pos (by omega), hw0]; congr 1
        exact (eq_ix2 x).trans (by congr 1 <;> apply Fin.ext <;> simp [Fin.ofNat] <;> omega)
    · intro y _
      left
      have h0 : (y 0).val < 1024 := (y 0).isLt
      have h1 : (y 1).val < 512 := (y 1).isLt
      by_cases hc : (y 1).val < 256
      · refine ⟨_, List.mem_cons_of_mem _ List.mem_cons_self, (Rect.mem_set_unit (s := S1024x512) (inb := b0)).2 fun a => ?_⟩
        fin_cases a
        · exact ⟨Nat.zero_le _, by show (y 0).val < 0 + 1024; omega⟩
        · exact ⟨Nat.zero_le _, by show (y 1).val < 0 + 256; omega⟩
      · refine ⟨_, List.mem_cons_self, (Rect.mem_set_unit (s := S1024x512) (inb := b1)).2 fun a => ?_⟩
        fin_cases a
        · exact ⟨Nat.zero_le _, by show (y 0).val < 0 + 1024; omega⟩
        · exact ⟨by show 256 ≤ (y 1).val; omega, by show (y 1).val < 256 + 256; omega⟩
  exact fun y => h' y trivial

set_option maxHeartbeats 4000000 in
theorem ok1_of {f : W1.view.ty.Contents (Elt F)}
    (b31) {w31 : Vec F S64x64 .bf16} (hw31 : w31 = k0_pay45 (blkW c arg6 g6 3))
    (b30) {w30 : Vec F S64x64 .bf16} (hw30 : w30 = k0_pay45 (blkW c arg5 g5 3))
    (b21) {w21 : Vec F S64x64 .bf16} (hw21 : w21 = k0_pay45 (blkW c arg6 g6 2))
    (b20) {w20 : Vec F S64x64 .bf16} (hw20 : w20 = k0_pay45 (blkW c arg5 g5 2))
    (b11) {w11 : Vec F S64x64 .bf16} (hw11 : w11 = k0_pay45 (blkW c arg6 g6 1))
    (b10) {w10 : Vec F S64x64 .bf16} (hw10 : w10 = k0_pay45 (blkW c arg5 g5 1))
    (b01) {w01 : Vec F S64x64 .bf16} (hw01 : w01 = k0_pay45 (blkW c arg6 g6 0))
    (b00) {w00 : Vec F S64x64 .bf16} (hw00 : w00 = k0_pay45 (blkW c arg5 g5 0))
    (bz) {z : Vec F S256x512 .bf16} (hz : z = k0_pay44 (F := F)) :
    Ok1 c (parOf c i XA arg3 arg4 arg5 arg6 arg7 arg8 arg9 arg10 arg11 arg12 g3 g4 g5 g6 g7 g8 g9 g10 g11 g12) (W1.view.writes (Elt F) f [⟨Rect.unit (s := S256x512) ![192, 448] S64x64.size b31, w31⟩,
      ⟨Rect.unit (s := S256x512) ![192, 192] S64x64.size b30, w30⟩,
      ⟨Rect.unit (s := S256x512) ![128, 384] S64x64.size b21, w21⟩,
      ⟨Rect.unit (s := S256x512) ![128, 128] S64x64.size b20, w20⟩,
      ⟨Rect.unit (s := S256x512) ![64, 320] S64x64.size b11, w11⟩,
      ⟨Rect.unit (s := S256x512) ![64, 64] S64x64.size b10, w10⟩,
      ⟨Rect.unit (s := S256x512) ![0, 256] S64x64.size b01, w01⟩,
      ⟨Rect.unit (s := S256x512) ![0, 0] S64x64.size b00, w00⟩, ⟨Rect.unit (s := S256x512) ![0, 0] S256x512.size bz, z⟩]) := by
  have h : Holds W1.view (W1.view.writes (Elt F) f [⟨Rect.unit (s := S256x512) ![0, 0] S256x512.size bz, z⟩]) (fun y => ((parOf c i XA arg3 arg4 arg5 arg6 arg7 arg8 arg9 arg10 arg11 arg12 g3 g4 g5 g6 g7 g8 g9 g10 g11 g12)).wg y) (fun y => (y 0).val / 64 ≠ (y 1).val % 256 / 64) := by
    intro y hy
    have e := View.read_writes_cons_emb W1.view f (Rect.unit (s := S256x512) ![0, 0] S256x512.size bz) z [] y
    have ey : (Rect.unit (s := S256x512) ![0, 0] S256x512.size bz).emb y = y := by funext a; fin_cases a <;> exact Fin.ext (by simp)
    rw [ey] at e
    refine e.trans ?_
    show z y = if (y 0).val / 64 = (y 1).val % 256 / 64 then _ else _
    rw [if_neg hy, hz]
    pointwise [k0_pay44]
  have h' : Holds W1.view (W1.view.writes (Elt F) (W1.view.writes (Elt F) f [⟨Rect.unit (s := S256x512) ![0, 0] S256x512.size bz, z⟩]) [⟨Rect.unit (s := S256x512) ![192, 448] S64x64.size b31, w31⟩,
      ⟨Rect.unit (s := S256x512) ![192, 192] S64x64.size b30, w30⟩,
      ⟨Rect.unit (s := S256x512) ![128, 384] S64x64.size b21, w21⟩,
      ⟨Rect.unit (s := S256x512) ![128, 128] S64x64.size b20, w20⟩,
      ⟨Rect.unit (s := S256x512) ![64, 320] S64x64.size b11, w11⟩,
      ⟨Rect.unit (s := S256x512) ![64, 64] S64x64.size b10, w10⟩,
      ⟨Rect.unit (s := S256x512) ![0, 256] S64x64.size b01, w01⟩,
      ⟨Rect.unit (s := S256x512) ![0, 0] S64x64.size b00, w00⟩]) (fun y => ((parOf c i XA arg3 arg4 arg5 arg6 arg7 arg8 arg9 arg10 arg11 arg12 g3 g4 g5 g6 g7 g8 g9 g10 g11 g12)).wg y) (fun _ => True) := by
    refine holds_writes h ?_ ?_
    · simp only [List.forall_mem_cons]
      refine ⟨fun x => ?_, fun x => ?_, fun x => ?_, fun x => ?_, fun x => ?_, fun x => ?_, fun x => ?_, fun x => ?_, fun _ hx => absurd hx List.not_mem_nil⟩
      · have h0 : (x 0).val < 64 := (x 0).isLt
        have h1 : (x 1).val < 64 := (x 1).isLt
        show w31 x = if (192 + 1 * (x 0).val) / 64 = (448 + 1 * (x 1).val) % 256 / 64 then
          (if 448 + 1 * (x 1).val < 256 then k0_pay45 (blkW c arg5 g5 ((192 + 1 * (x 0).val) / 64)) (i2 64 64 ((192 + 1 * (x 0).val) % 64) ((448 + 1 * (x 1).val) % 64))
            else k0_pay45 (blkW c arg6 g6 ((192 + 1 * (x 0).val) / 64)) (i2 64 64 ((192 + 1 * (x 0).val) % 64) ((448 + 1 * (x 1).val) % 64))) else _
        rw [if_pos (by omega), if_neg (by omega), hw31, show (192 + 1 * (x 0).val) / 64 = 3 by omega]; congr 1
        exact (eq_ix2 x).trans (by congr 1 <;> apply Fin.ext <;> simp [Fin.ofNat] <;> omega)
      · have h0 : (x 0).val < 64 := (x 0).isLt
        have h1 : (x 1).val < 64 := (x 1).isLt
        show w30 x = if (192 + 1 * (x 0).val) / 64 = (192 + 1 * (x 1).val) % 256 / 64 then
          (if 192 + 1 * (x 1).val < 256 then k0_pay45 (blkW c arg5 g5 ((192 + 1 * (x 0).val) / 64)) (i2 64 64 ((192 + 1 * (x 0).val) % 64) ((192 + 1 * (x 1).val) % 64))
            else k0_pay45 (blkW c arg6 g6 ((192 + 1 * (x 0).val) / 64)) (i2 64 64 ((192 + 1 * (x 0).val) % 64) ((192 + 1 * (x 1).val) % 64))) else _
        rw [if_pos (by omega), if_pos (by omega), hw30, show (192 + 1 * (x 0).val) / 64 = 3 by omega]; congr 1
        exact (eq_ix2 x).trans (by congr 1 <;> apply Fin.ext <;> simp [Fin.ofNat] <;> omega)
      · have h0 : (x 0).val < 64 := (x 0).isLt
        have h1 : (x 1).val < 64 := (x 1).isLt
        show w21 x = if (128 + 1 * (x 0).val) / 64 = (384 + 1 * (x 1).val) % 256 / 64 then
          (if 384 + 1 * (x 1).val < 256 then k0_pay45 (blkW c arg5 g5 ((128 + 1 * (x 0).val) / 64)) (i2 64 64 ((128 + 1 * (x 0).val) % 64) ((384 + 1 * (x 1).val) % 64))
            else k0_pay45 (blkW c arg6 g6 ((128 + 1 * (x 0).val) / 64)) (i2 64 64 ((128 + 1 * (x 0).val) % 64) ((384 + 1 * (x 1).val) % 64))) else _
        rw [if_pos (by omega), if_neg (by omega), hw21, show (128 + 1 * (x 0).val) / 64 = 2 by omega]; congr 1
        exact (eq_ix2 x).trans (by congr 1 <;> apply Fin.ext <;> simp [Fin.ofNat] <;> omega)
      · have h0 : (x 0).val < 64 := (x 0).isLt
        have h1 : (x 1).val < 64 := (x 1).isLt
        show w20 x = if (128 + 1 * (x 0).val) / 64 = (128 + 1 * (x 1).val) % 256 / 64 then
          (if 128 + 1 * (x 1).val < 256 then k0_pay45 (blkW c arg5 g5 ((128 + 1 * (x 0).val) / 64)) (i2 64 64 ((128 + 1 * (x 0).val) % 64) ((128 + 1 * (x 1).val) % 64))
            else k0_pay45 (blkW c arg6 g6 ((128 + 1 * (x 0).val) / 64)) (i2 64 64 ((128 + 1 * (x 0).val) % 64) ((128 + 1 * (x 1).val) % 64))) else _
        rw [if_pos (by omega), if_pos (by omega), hw20, show (128 + 1 * (x 0).val) / 64 = 2 by omega]; congr 1
        exact (eq_ix2 x).trans (by congr 1 <;> apply Fin.ext <;> simp [Fin.ofNat] <;> omega)
      · have h0 : (x 0).val < 64 := (x 0).isLt
        have h1 : (x 1).val < 64 := (x 1).isLt
        show w11 x = if (64 + 1 * (x 0).val) / 64 = (320 + 1 * (x 1).val) % 256 / 64 then
          (if 320 + 1 * (x 1).val < 256 then k0_pay45 (blkW c arg5 g5 ((64 + 1 * (x 0).val) / 64)) (i2 64 64 ((64 + 1 * (x 0).val) % 64) ((320 + 1 * (x 1).val) % 64))
            else k0_pay45 (blkW c arg6 g6 ((64 + 1 * (x 0).val) / 64)) (i2 64 64 ((64 + 1 * (x 0).val) % 64) ((320 + 1 * (x 1).val) % 64))) else _
        rw [if_pos (by omega), if_neg (by omega), hw11, show (64 + 1 * (x 0).val) / 64 = 1 by omega]; congr 1
        exact (eq_ix2 x).trans (by congr 1 <;> apply Fin.ext <;> simp [Fin.ofNat] <;> omega)
      · have h0 : (x 0).val < 64 := (x 0).isLt
        have h1 : (x 1).val < 64 := (x 1).isLt
        show w10 x = if (64 + 1 * (x 0).val) / 64 = (64 + 1 * (x 1).val) % 256 / 64 then
          (if 64 + 1 * (x 1).val < 256 then k0_pay45 (blkW c arg5 g5 ((64 + 1 * (x 0).val) / 64)) (i2 64 64 ((64 + 1 * (x 0).val) % 64) ((64 + 1 * (x 1).val) % 64))
            else k0_pay45 (blkW c arg6 g6 ((64 + 1 * (x 0).val) / 64)) (i2 64 64 ((64 + 1 * (x 0).val) % 64) ((64 + 1 * (x 1).val) % 64))) else _
        rw [if_pos (by omega), if_pos (by omega), hw10, show (64 + 1 * (x 0).val) / 64 = 1 by omega]; congr 1
        exact (eq_ix2 x).trans (by congr 1 <;> apply Fin.ext <;> simp [Fin.ofNat] <;> omega)
      · have h0 : (x 0).val < 64 := (x 0).isLt
        have h1 : (x 1).val < 64 := (x 1).isLt
        show w01 x = if (0 + 1 * (x 0).val) / 64 = (256 + 1 * (x 1).val) % 256 / 64 then
          (if 256 + 1 * (x 1).val < 256 then k0_pay45 (blkW c arg5 g5 ((0 + 1 * (x 0).val) / 64)) (i2 64 64 ((0 + 1 * (x 0).val) % 64) ((256 + 1 * (x 1).val) % 64))
            else k0_pay45 (blkW c arg6 g6 ((0 + 1 * (x 0).val) / 64)) (i2 64 64 ((0 + 1 * (x 0).val) % 64) ((256 + 1 * (x 1).val) % 64))) else _
        rw [if_pos (by omega), if_neg (by omega), hw01, show (0 + 1 * (x 0).val) / 64 = 0 by omega]; congr 1
        exact (eq_ix2 x).trans (by congr 1 <;> apply Fin.ext <;> simp [Fin.ofNat] <;> omega)
      · have h0 : (x 0).val < 64 := (x 0).isLt
        have h1 : (x 1).val < 64 := (x 1).isLt
        show w00 x = if (0 + 1 * (x 0).val) / 64 = (0 + 1 * (x 1).val) % 256 / 64 then
          (if 0 + 1 * (x 1).val < 256 then k0_pay45 (blkW c arg5 g5 ((0 + 1 * (x 0).val) / 64)) (i2 64 64 ((0 + 1 * (x 0).val) % 64) ((0 + 1 * (x 1).val) % 64))
            else k0_pay45 (blkW c arg6 g6 ((0 + 1 * (x 0).val) / 64)) (i2 64 64 ((0 + 1 * (x 0).val) % 64) ((0 + 1 * (x 1).val) % 64))) else _
        rw [if_pos (by omega), if_pos (by omega), hw00, show (0 + 1 * (x 0).val) / 64 = 0 by omega]; congr 1
        exact (eq_ix2 x).trans (by congr 1 <;> apply Fin.ext <;> simp [Fin.ofNat] <;> omega)
    · intro y _
      by_cases hd : (y 0).val / 64 = (y 1).val % 256 / 64
      · left
        have h0 : (y 0).val < 256 := (y 0).isLt
        have h1 : (y 1).val < 512 := (y 1).isLt
        rcases (by omega : (y 0).val / 64 = 0 ∨ (y 0).val / 64 = 1 ∨ (y 0).val / 64 = 2 ∨ (y 0).val / 64 = 3) with hb | hb | hb | hb <;> rcases (by omega : (y 1).val < 256 ∨ 256 ≤ (y 1).val) with hc | hc
        · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), (Rect.mem_set_unit (s := S256x512) (inb := b00)).2 fun a => ?_⟩
          fin_cases a
          · exact ⟨by show 0 ≤ (y 0).val; omega, by show (y 0).val < 0 + 64; omega⟩
          · exact ⟨by show 0 ≤ (y 1).val; omega, by show (y 1).val < 0 + 64; omega⟩
        · refine ⟨_, (List.mem_cons_of_mem _ (List.mem_cons_of_mem _ (List.mem_cons_of_mem _ (List.mem_cons_of_mem _ (List.mem_cons_of_mem _ (List.mem_cons_of_mem _ List.mem_cons_self)))))), (Rect.mem_set_unit (s := S256x512) (inb := b01)).2 fun a => ?_⟩
          fin_cases a
          · exact ⟨by show 0 ≤ (y 0).val; omega, by show (y 0).val < 0 + 64; omega⟩
          · exact ⟨by show 256 ≤ (y 1).val; omega, by show (y 1).val < 256 + 64; omega⟩
        · refine ⟨_, (List.mem_cons_of_mem _ (List.mem_cons_of_mem _ (List.mem_cons_of_mem _ (List.mem_cons_of_mem _ (List.mem_cons_of_mem _ List.mem_cons_self))))), (Rect.mem_set_unit (s := S256x512) (inb := b10)).2 fun a => ?_⟩
          fin_cases a
          · exact ⟨by show 64 ≤ (y 0).val; omega, by show (y 0).val < 64 + 64; omega⟩
          · exact ⟨by show 64 ≤ (y 1).val; omega, by show (y 1).val < 64 + 64; omega⟩
        · refine ⟨_, (List.mem_cons_of_mem _ (List.mem_cons_of_mem _ (List.mem_cons_of_mem _ (List.mem_cons_of_mem _ List.mem_cons_self)))), (Rect.mem_set_unit (s := S256x512) (inb := b11)).2 fun a => ?_⟩
          fin_cases a
          · exact ⟨by show 64 ≤ (y 0).val; omega, by show (y 0).val < 64 + 64; omega⟩
          · exact ⟨by show 320 ≤ (y 1).val; omega, by show (y 1).val < 320 + 64; omega⟩
        · refine ⟨_, (List.mem_cons_of_mem _ (List.mem_cons_of_mem _ (List.mem_cons_of_mem _ List.mem_cons_self))), (Rect.mem_set_unit (s := S256x512) (inb := b20)).2 fun a => ?_⟩
          fin_cases a
          · exact ⟨by show 128 ≤ (y 0).val; omega, by show (y 0).val < 128 + 64; omega⟩
          · exact ⟨by show 128 ≤ (y 1).val; omega, by show (y 1).val < 128 + 64; omega⟩
        · refine ⟨_, (List.mem_cons_of_mem _ (List.mem_cons_of_mem _ List.mem_cons_self)), (Rect.mem_set_unit (s := S256x512) (inb := b21)).2 fun a => ?_⟩
          fin_cases a
          · exact ⟨by show 128 ≤ (y 0).val; omega, by show (y 0).val < 128 + 64; omega⟩
          · exact ⟨by show 384 ≤ (y 1).val; omega, by show (y 1).val < 384 + 64; omega⟩
        · refine ⟨_, (List.mem_cons_of_mem _ List.mem_cons_self), (Rect.mem_set_unit (s := S256x512) (inb := b30)).2 fun a => ?_⟩
          fin_cases a
          · exact ⟨by show 192 ≤ (y 0).val; omega, by show (y 0).val < 192 + 64; omega⟩
          · exact ⟨by show 192 ≤ (y 1).val; omega, by show (y 1).val < 192 + 64; omega⟩
        · refine ⟨_, List.mem_cons_self, (Rect.mem_set_unit (s := S256x512) (inb := b31)).2 fun a => ?_⟩
          fin_cases a
          · exact ⟨by show 192 ≤ (y 0).val; omega, by show (y 0).val < 192 + 64; omega⟩
          · exact ⟨by show 448 ≤ (y 1).val; omega, by show (y 1).val < 448 + 64; omega⟩
      · exact Or.inr hd
  exact fun y => h' y trivial

theorem ok2_zero {f : W2.view.ty.Contents (Elt F)} (bz) {z : Vec F S2x8x128 .f32} (hz : z = k0_pay41 (F := F)) (p : Par F) :
    Ok2 c p 0 (W2.view.writes (Elt F) f [⟨Rect.unit (s := S2x4104x128) ![0, 0, 0] S2x8x128.size bz, z⟩]) := by
  refine holds_writes (P := fun _ => False) (fun _ hy => hy.elim) ?_ ?_
  · simp only [List.forall_mem_cons]
    refine ⟨fun x => ?_, fun _ hx => absurd hx List.not_mem_nil⟩
    have h1 : (x 1).val < 8 := (x 1).isLt
    show z x = uS p (0 + 1 * (x 0).val) (0 + 1 * (x 1).val) (0 + 1 * (x 2).val)
    rw [uS, if_pos (by omega), hz]
    pointwise [k0_pay41]
  · intro y hy
    have h0 : (y 0).val < 2 := (y 0).isLt
    have h2 : (y 2).val < 128 := (y 2).isLt
    refine Or.inl ⟨_, List.mem_cons_self, (Rect.mem_set_unit (s := S2x4104x128) (inb := bz)).2 fun a => ?_⟩
    fin_cases a
    · exact ⟨Nat.zero_le _, by show (y 0).val < 0 + 2; omega⟩
    · exact ⟨Nat.zero_le _, by show (y 1).val < 0 + 8; omega⟩
    · exact ⟨Nat.zero_le _, by show (y 2).val < 0 + 128; omega⟩

theorem ok3_zero (p : Par F) (f) : Ok3 c p 0 f := fun y hy => by simp at hy
theorem ok4_zero (p : Par F) (f) : Ok4 c p 0 f := fun y hy => by simp at hy
theorem ok5_zero (p : Par F) (f) : Ok5 c p 0 f := fun y hy => by simp at hy

end Point

end Cert.Proof.LruIdeal

end
-- ==== Proof.LruIdealBody.lean ====
/- The kernel body. At the idealized program. -/
module

public import proofs.«01_k».proof.Proof.LruBody
public import proofs.«01_k».proof.Proof.LruIdealOut
public import proofs.«01_k».proof.Proof.LruIdealInit

@[expose] public section

noncomputable section

namespace Cert.Proof.LruIdeal

open Cert.LruIdeal Cert.LruIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Point
variable (c : Dev nD) (i : grid0.Coords) (XA : Buf (Elt F) (xM.view.loc (c : Thread nD τ)))
  (arg3 : Memref sig .tc .vmem S1024x256 .f32) (harg3 : arg3.IsWhole)
  (arg4 : Memref sig .tc .vmem S1024x256 .f32) (harg4 : arg4.IsWhole)
  (arg5 : Memref sig .tc .vmem S4x64x64 .f32) (harg5 : arg5.IsWhole)
  (arg6 : Memref sig .tc .vmem S4x64x64 .f32) (harg6 : arg6.IsWhole)
  (arg7 : Memref sig .tc .vmem S1x9216 .f32) (harg7 : arg7.IsWhole)
  (arg8 : Memref sig .tc .vmem S4x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S1x4096x256 .bf16) (harg13 : arg13.IsWhole)
  (g3 : Buf (Elt F) (arg3.view.loc (c : Thread nD τ)))
  (g4 : Buf (Elt F) (arg4.view.loc (c : Thread nD τ)))
  (g5 : Buf (Elt F) (arg5.view.loc (c : Thread nD τ)))
  (g6 : Buf (Elt F) (arg6.view.loc (c : Thread nD τ)))
  (g7 : Buf (Elt F) (arg7.view.loc (c : Thread nD τ)))
  (g8 : Buf (Elt F) (arg8.view.loc (c : Thread nD τ)))
  (g9 : Buf (Elt F) (arg9.view.loc (c : Thread nD τ)))
  (g10 : Buf (Elt F) (arg10.view.loc (c : Thread nD τ)))
  (g11 : Buf (Elt F) (arg11.view.loc (c : Thread nD τ)))
  (g12 : Buf (Elt F) (arg12.view.loc (c : Thread nD τ)))

/-- The ring ahead of a point: nothing in flight ahead of the first. -/
def ringPre : sProp 𝕄 :=
  if qOf i = 0 then iprop(bigSep Finset.univ (fun s : Fin 3 => iprop((∃ f, slotP (F := F) c s f) ∗ cellP (F := F) c s)) ∗ bigSep Finset.univ (homeP c XA))
  else ringP c XA (qOf i)

/-- What is held once the point's first copy has landed. -/
def joinP (r : (Σ' (_ : BitVec 32) (_ : FVec F S1x256 .f32) (_ : BitVec 32), BitVec 32)) : sProp 𝕄 :=
  iprop(⌜∃ a b d, r = ⟨a, k0_pay55 (arg12.view.readAt (Elt F) (Rect.unit (s := S1x1024) (k0_off3 i) S1x256.size (k0_off3_inb i)).toLoadRect g12), b, d⟩⌝ ∗ ownP c arg12 g12
    ∗ (∃ f, slotP c (Ring.sl 3 (qOf i)) (landed c XA (Ring.sl 3 (qOf i)) (bx (qOf i)) f)) ∗ cellP (F := F) c (Ring.sl 3 (qOf i)) ∗ homeP c XA (bx (qOf i))
    ∗ partP c XA (qOf i + 1) ∗ ((∃ f, slotP (F := F) c (Ring.sl 3 (qOf i + 2)) f) ∗ cellP (F := F) c (Ring.sl 3 (qOf i + 2)))
    ∗ homeP c XA (bx (qOf i + 2)) ∗ bigSep ((homeSet (qOf i)).erase (bx (qOf i + 2))) (homeP c XA) ∗ (∃ W, owes (c : Thread nD τ) 0 W))

omit [FloatOps F] [Named F] in
theorem homes_zero : bigSep Finset.univ (homeP c XA) = iprop(homeP c XA (bx 0) ∗ homeP c XA (bx 1) ∗ bigSep (homeSet 0) (homeP c XA)) := by
  rw [homeSet_zero]
  conv_lhs => rw [← Finset.insert_erase (Finset.mem_univ (bx 0)), bigSep_insert (Finset.notMem_erase _ _), ← Finset.insert_erase (show bx 1 ∈ Finset.univ.erase (bx 0) by decide), bigSep_insert (Finset.notMem_erase _ _)]
  rfl

theorem ringPre_zero (hz : qOf i = 0) : ringPre (F := F) c i XA ⊢ iprop((∃ f, slotP (F := F) c (Ring.sl 3 0) f) ∗ cellP (F := F) c (Ring.sl 3 0) ∗ (∃ f, slotP (F := F) c (Ring.sl 3 1) f) ∗ cellP (F := F) c (Ring.sl 3 1)
    ∗ (∃ f, slotP (F := F) c (Ring.sl 3 (qOf i + 2)) f) ∗ cellP (F := F) c (Ring.sl 3 (qOf i + 2)) ∗ homeP c XA (bx 0) ∗ homeP c XA (bx 1)
    ∗ homeP c XA (bx (qOf i + 2)) ∗ bigSep ((homeSet (qOf i)).erase (bx (qOf i + 2))) (homeP c XA)) := by
  unfold ringPre
  rw [if_pos hz, Ring.bigSep_fin3, homes_zero c XA, homes_out c XA (show 0 + 2 < 64 by omega), hz]
  iintro ⟨⟨⟨HL0, HC0⟩, ⟨HL1, HC1⟩, HL2, HC2⟩, HH0, HH1, HH2, HH⟩
  isplitl [HL0]; · iexact HL0
  isplitl [HC0]; · iexact HC0
  isplitl [HL1]; · iexact HL1
  isplitl [HC1]; · iexact HC1
  isplitl [HL2]; · iexact HL2
  isplitl [HC2]; · iexact HC2
  isplitl [HH0]; · iexact HH0
  isplitl [HH1]; · iexact HH1
  isplitl [HH2]; · iexact HH2
  iexact HH

theorem ringPre_pos (hz : ¬ qOf i = 0) (h4 : qOf i + 4 ≤ 64) : ringPre (F := F) c i XA ⊢ iprop((∃ f, flightP c XA (Ring.sl 3 (qOf i)) (bx (qOf i)) f) ∗ partP c XA (qOf i + 1)
    ∗ ((∃ f, slotP (F := F) c (Ring.sl 3 (qOf i + 2)) f) ∗ cellP (F := F) c (Ring.sl 3 (qOf i + 2)))
    ∗ homeP c XA (bx (qOf i + 2)) ∗ bigSep ((homeSet (qOf i)).erase (bx (qOf i + 2))) (homeP c XA)) := by
  unfold ringPre ringP
  rw [if_neg hz, partP_lt c XA (show qOf i < 64 by omega), homes_out c XA (show qOf i + 2 < 64 by omega)]

theorem flight_zero {q : ℕ} (hz : q = 0) (f) : flightP c XA (Ring.sl 3 0) (bx 0) f ⊢ iprop(∃ f, flightP c XA (Ring.sl 3 q) (bx q) f) := by
  subst hz
  iintro H; iexists f; iexact H

theorem flight_one {q : ℕ} (hz : q = 0) (f) : flightP c XA (Ring.sl 3 1) (bx 1) f ⊢ partP c XA (q + 1) := by
  subst hz
  rw [partP_lt c XA (show 0 + 1 < 64 by omega)]
  iintro H; iexists f; iexact H

theorem ring_next (h4 : qOf i + 4 ≤ 64) : iprop(partP c XA (qOf i + 1) ∗ (∃ f, flightP c XA (Ring.sl 3 (qOf i + 2)) (bx (qOf i + 2)) f) ∗ (∃ f, slotP (F := F) c (Ring.sl 3 (qOf i)) f) ∗ cellP (F := F) c (Ring.sl 3 (qOf i))
    ∗ homeP c XA (bx (qOf i)) ∗ bigSep ((homeSet (qOf i)).erase (bx (qOf i + 2))) (homeP c XA)) ⊢ ringP (F := F) c XA (qOf i + 0 + 1) := by
  unfold ringP
  rw [Nat.add_zero, homes_next c XA (show qOf i + 2 < 64 by omega), partP_lt c XA (show qOf i + 1 + 1 < 64 by omega), sl_add3 (qOf i)]
  iintro ⟨HP, HF, HS, HC, HH, HR⟩
  isplitl [HP]; · iexact HP
  isplitl [HF]; · iexact HF
  isplitl [HS HC]
  · isplitl [HS]; · iexact HS
    iexact HC
  isplitl [HH]; · iexact HH
  iexact HR

omit [FloatOps F] [Named F] in
theorem read_all (arg : Memref sig .tc .vmem S1024x256 .f32) (g : Buf (Elt F) (arg.view.loc (c : Thread nD τ))) (hb) :
    arg.view.readAt (Elt F) (Rect.unit (s := S1024x256) ![0, 0] S1024x256.size hb).toLoadRect g = fun z => arg.view.read (Elt F) g z := by
  funext z; rw [View.readAt_apply]; congr 1; funext a; fin_cases a <;> exact Fin.ext (by simp)
omit [FloatOps F] [Named F] in
theorem read_blk (arg : Memref sig .tc .vmem S4x64x64 .f32) (g : Buf (Elt F) (arg.view.loc (c : Thread nD τ))) (b : ℕ) (h : b < 4) (hb) :
    arg.view.readAt (Elt F) (Rect.unit (s := S4x64x64) ![b, 0, 0] S1x64x64.size hb).toLoadRect g = blkW c arg g b := by
  funext z
  have h0 : (z 0).val < 1 := (z 0).isLt
  have h1 : (z 1).val < 64 := (z 1).isLt
  have h2 : (z 2).val < 64 := (z 2).isLt
  rw [View.readAt_apply]; unfold blkW; congr 1; funext a; fin_cases a <;> apply Fin.ext <;> simp [Fin.ofNat] <;> omega

theorem ok0_at (f) (b1 b0 hb3 hb4) : Ok0 c (parOf c i XA arg3 arg4 arg5 arg6 arg7 arg8 arg9 arg10 arg11 arg12 g3 g4 g5 g6 g7 g8 g9 g10 g11 g12) (W0.view.writes (Elt F) f
    [⟨Rect.unit (s := S1024x512) ![0, 256] S1024x256.size b1, k0_pay43 (arg4.view.readAt (Elt F) (Rect.unit (s := S1024x256) ![0, 0] S1024x256.size hb4).toLoadRect g4)⟩,
      ⟨Rect.unit (s := S1024x512) ![0, 0] S1024x256.size b0, k0_pay42 (arg3.view.readAt (Elt F) (Rect.unit (s := S1024x256) ![0, 0] S1024x256.size hb3).toLoadRect g3)⟩]) :=
  ok0_of c i XA arg3 arg4 arg5 arg6 arg7 arg8 arg9 arg10 arg11 arg12 g3 g4 g5 g6 g7 g8 g9 g10 g11 g12 b1 (congrArg k0_pay42 (read_all c arg4 g4 _)) b0 (congrArg k0_pay42 (read_all c arg3 g3 _))

theorem scan_region (p : Par F) (v255 v268 : FVec F S1024x256 .f32) (v320 : FVec F S1x256x128 .f32) (k : Fin k0_t2_loop.trips) (acc : Car F) :
    scanRes c p k.val acc ⊢ wp frame (wpE (defs₀ (F := F)) 𝒱₀ (c : Thread nD τ) none) Set.univ (k0_t2_body (F := F) i xM (Memref.isWhole_whole _) arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 v255 v268 v320 k acc) fun r => scanRes c p (k.val + 1) r := by
  by_cases h : acc = carr p k.val
  · subst h
    exact scan_step c i arg3 harg3 arg4 harg4 arg5 harg5 arg6 harg6 arg7 harg7 arg8 harg8 arg9 harg9 arg10 harg10 arg11 harg11 arg12 harg12 arg13 harg13 p v255 v268 v320 k
  · unfold scanRes
    iintro ⟨%h', -⟩
    exact absurd h' h

set_option pp.maxSteps 250 in
set_option maxHeartbeats 8000000 in
theorem body (g13 : Buf (Elt F) (arg13.view.loc (c : Thread nD τ))) :
    iprop(ownP c arg3 g3 ∗ ownP c arg4 g4 ∗ ownP c arg5 g5 ∗ ownP c arg6 g6 ∗ ownP c arg7 g7 ∗ ownP c arg8 g8 ∗ ownP c arg9 g9 ∗ ownP c arg10 g10 ∗ ownP c arg11 g11 ∗ ownP c arg12 g12 ∗ ownP c arg13 g13
      ∗ (∃ f, scrP0 (F := F) c f) ∗ (∃ f, scrP1 (F := F) c f) ∗ (∃ f, scrP2 (F := F) c f) ∗ (∃ f, scrP3 (F := F) c f) ∗ (∃ f, scrP4 (F := F) c f) ∗ (∃ f, scrP5 (F := F) c f)
      ∗ ringPre c i XA ∗ (∃ W, owes (c : Thread nD τ) 0 W))
    ⊢ wp frame (wpE (defs₀ (F := F)) 𝒱₀ (c : Thread nD τ) none) Set.univ (cc0_rglru (F := F) i xM (Memref.isWhole_whole _) arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7) fun _ =>
      iprop(ownP c arg3 g3 ∗ ownP c arg4 g4 ∗ ownP c arg5 g5 ∗ ownP c arg6 g6 ∗ ownP c arg7 g7 ∗ ownP c arg8 g8 ∗ ownP c arg9 g9 ∗ ownP c arg10 g10 ∗ ownP c arg11 g11 ∗ ownP c arg12 g12
      ∗ (∃ f, scrP0 (F := F) c f) ∗ (∃ f, scrP1 (F := F) c f) ∗ (∃ f, scrP2 (F := F) c f) ∗ (∃ f, scrP3 (F := F) c f) ∗ (∃ f, scrP4 (F := F) c f) ∗ (∃ f, scrP5 (F := F) c f)
      ∗ ringP c XA (qOf i + 4) ∗ (∃ W, owes (c : Thread nD τ) 0 W)
      ∗ (∃ f, ownP c arg13 f ∗ ⌜∀ y, arg13.view.read (Elt F) f y = oS (parOf c i XA arg3 arg4 arg5 arg6 arg7 arg8 arg9 arg10 arg11 arg12 g3 g4 g5 g6 g7 g8 g9 g10 g11 g12) (y 1).val (y 2).val⌝)) := by
  iintro ⟨HA3, HA4, HA5, HA6, HA7, HA8, HA9, HA10, HA11, HA12, HA13, ⟨%f0, HS0⟩, ⟨%f1, HS1⟩, ⟨%f2, HS2⟩, ⟨%f3, HS3⟩, ⟨%f4, HS4⟩, ⟨%f5, HS5⟩, HR, ⟨%W, HW⟩⟩
  sl_unfold [cc0_rglru]
  sl_exec
  have hq4 : qOf i + 4 ≤ 64 := by have := i0_lt i; have := i1_lt i; unfold qOf; omega
  have h2 : k0_cond2 i = 1#1 := cond2_true i
  iapply (wp_wand_r (Q := fun r : (Σ' (_ : BitVec 32) (_ : FVec F S1x256 .f32) (_ : BitVec 32), BitVec 32) => joinP c i XA arg12 g12 r) Idealize.ShloMosaic.frame (wpE (defs₀ (F := F)) 𝒱₀ (c : Thread nD τ) none) Set.univ)
  isplitl [HA12 HR HW]
  · by_cases hz : qOf i = 0
    · have h1 : k0_cond1 i = 1#1 := (cond1_iff i).2 hz
      unfold joinP
      ihave HR' := (ringPre_zero c i XA hz) $$ HR
      icases HR' with ⟨⟨%s0, HL0⟩, HC0, ⟨%s1, HL1⟩, HC1, ⟨%s2, HL2⟩, HC2, HH0, HH1, HH2, HH⟩
      sl_exec
      ihave HF' := (flight_zero c XA hz s0) $$ [HC0]; · iexact HC0
      icases HF' with ⟨%ff, HF⟩
      ihave HP := (flight_one c XA hz s1) $$ [HC1]; · iexact HC1
      sl_exec
      sl_step
      isplitr
      · ipureintro; exact ⟨_, _, _, rfl⟩
      isplitl [HA12]; · iexact HA12
      isplitl [HF_dst]; · iexists _; iexact HF_dst
      isplitl [HF]; · iexact HF
      isplitl [HF_src]; · iexact HF_src
      isplitl [HP]; · iexact HP
      isplitl [HL2 HC2]
      · isplitl [HL2]; · iexists _; iexact HL2
        iexact HC2
      isplitl [HH2]; · iexact HH2
      isplitl [HH]; · iexact HH
      iexists _; iexact HW
    · have h1 : ¬ k0_cond1 i = 1#1 := fun h => hz ((cond1_iff i).1 h)
      unfold joinP
      ihave HR' := (ringPre_pos c i XA hz (by omega)) $$ HR
      icases HR' with ⟨⟨%ff, HF⟩, HP, HS2, HH2, HH⟩
      sl_exec
      sl_step
      isplitr
      · ipureintro; exact ⟨_, _, _, rfl⟩
      isplitl [HA12]; · iexact HA12
      isplitl [HF_dst]; · iexists _; iexact HF_dst
      isplitl [HF]; · iexact HF
      isplitl [HF_src]; · iexact HF_src
      isplitl [HP]; · iexact HP
      isplitl [HS2]; · iexact HS2
      isplitl [HH2]; · iexact HH2
      isplitl [HH]; · iexact HH
      iexists _; iexact HW
  iintro %r HJ
  unfold joinP
  icases HJ with ⟨%hr, HA12, ⟨%ff, HLq⟩, HCq, HHq, HP, ⟨⟨%fs, HS⟩, HC⟩, HH2, HH, ⟨%W', HW⟩⟩
  obtain ⟨ra, rb, rc, rfl⟩ := hr
  sl_exec
  sl_for (fun n _ => iprop(gateRes c (parOf c i XA arg3 arg4 arg5 arg6 arg7 arg8 arg9 arg10 arg11 arg12 g3 g4 g5 g6 g7 g8 g9 g10 g11 g12) n ∗ ringP c XA (qOf i + n + 1))) $$ [HS0 HS1 HS2 HS3 HS4 HS5 HW HC HP HH HCq HLq HHq]
  case region =>
    intro k _
    exact gate_step c i XA arg3 harg3 arg4 harg4 arg5 harg5 arg6 harg6 arg7 harg7 arg8 harg8 arg9 harg9 arg10 harg10 arg11 harg11 arg12 harg12 arg13 harg13 (parOf c i XA arg3 arg4 arg5 arg6 arg7 arg8 arg9 arg10 arg11 arg12 g3 g4 g5 g6 g7 g8 g9 g10 g11 g12) _ k hq4 rfl
  · isplitr [HC HP HH HCq HLq HHq]
    · unfold gateRes
      isplitl [HS0]
      · iexists _; isplitl [HS0]; · iexact HS0
        ipureintro; sl_unfold_run_names
        exact ok0_at c i XA arg3 arg4 arg5 arg6 arg7 arg8 arg9 arg10 arg11 arg12 g3 g4 g5 g6 g7 g8 g9 g10 g11 g12 _ _ _ _ _
      isplitl [HS1]
      · iexists _; isplitl [HS1]; · iexact HS1
        ipureintro; sl_unfold_run_names
        exact ok1_of c i XA arg3 arg4 arg5 arg6 arg7 arg8 arg9 arg10 arg11 arg12 g3 g4 g5 g6 g7 g8 g9 g10 g11 g12 _ (congrArg k0_pay45 (read_blk c arg6 g6 3 (by decide) _)) _ (congrArg k0_pay45 (read_blk c arg5 g5 3 (by decide) _)) _ (congrArg k0_pay45 (read_blk c arg6 g6 2 (by decide) _)) _ (congrArg k0_pay45 (read_blk c arg5 g5 2 (by decide) _)) _ (congrArg k0_pay45 (read_blk c arg6 g6 1 (by decide) _)) _ (congrArg k0_pay45 (read_blk c arg5 g5 1 (by decide) _)) _ (congrArg k0_pay45 (read_blk c arg6 g6 0 (by decide) _)) _ (congrArg k0_pay45 (read_blk c arg5 g5 0 (by decide) _)) _ rfl
      isplitl [HS2]
      · iexists _; isplitl [HS2]; · iexact HS2
        ipureintro; sl_unfold_run_names
        refine ok2_step (ok2_zero c _ rfl (parOf c i XA arg3 arg4 arg5 arg6 arg7 arg8 arg9 arg10 arg11 arg12 g3 g4 g5 g6 g7 g8 g9 g10 g11 g12)) rfl rfl _ _ ?_ ?_
        · exact congrArg₂ (k0_pay29 ((parOf c i XA arg3 arg4 arg5 arg6 arg7 arg8 arg9 arg10 arg11 arg12 g3 g4 g5 g6 g7 g8 g9 g10 g11 g12)).v8) (slot_load c XA (slotClosed0 i).eq _ _ _) (load0 (ok0_at c i XA arg3 arg4 arg5 arg6 arg7 arg8 arg9 arg10 arg11 arg12 g3 g4 g5 g6 g7 g8 g9 g10 g11 g12 _ _ _ _ _) _)
        · exact congrArg₂ (k0_pay30 ((parOf c i XA arg3 arg4 arg5 arg6 arg7 arg8 arg9 arg10 arg11 arg12 g3 g4 g5 g6 g7 g8 g9 g10 g11 g12)).v8) (slot_load c XA (slotClosed0 i).eq _ _ _) (load0 (ok0_at c i XA arg3 arg4 arg5 arg6 arg7 arg8 arg9 arg10 arg11 arg12 g3 g4 g5 g6 g7 g8 g9 g10 g11 g12 _ _ _ _ _) _)
      isplitl [HS3]
      · iexists _; isplitl [HS3]; · iexact HS3
        ipureintro; sl_unfold_run_names
        refine ok3_step (ok3_zero c (parOf c i XA arg3 arg4 arg5 arg6 arg7 arg8 arg9 arg10 arg11 arg12 g3 g4 g5 g6 g7 g8 g9 g10 g11 g12) _) rfl _ ?_
        exact congrArg₂ (fun x y => k0_pay61 ((parOf c i XA arg3 arg4 arg5 arg6 arg7 arg8 arg9 arg10 arg11 arg12 g3 g4 g5 g6 g7 g8 g9 g10 g11 g12)).v13 (k0_pay27 x y)) (slot_load c XA (slotClosed0 i).eq _ _ _) (load0 (ok0_at c i XA arg3 arg4 arg5 arg6 arg7 arg8 arg9 arg10 arg11 arg12 g3 g4 g5 g6 g7 g8 g9 g10 g11 g12 _ _ _ _ _) _)
      isplitl [HS4]
      · iexists _; isplitl [HS4]; · iexact HS4
        ipureintro; exact ok4_zero c (parOf c i XA arg3 arg4 arg5 arg6 arg7 arg8 arg9 arg10 arg11 arg12 g3 g4 g5 g6 g7 g8 g9 g10 g11 g12) _
      isplitl [HS5]
      · iexists _; isplitl [HS5]; · iexact HS5
        ipureintro; exact ok5_zero c (parOf c i XA arg3 arg4 arg5 arg6 arg7 arg8 arg9 arg10 arg11 arg12 g3 g4 g5 g6 g7 g8 g9 g10 g11 g12) _
      iexists _; iexact HW
    · iapply (ring_next c i XA hq4)
      isplitl [HP]; · iexact HP
      isplitl [HC]; · iexists _; iexact HC
      isplitl [HLq]; · iexists _; iexact HLq
      isplitl [HCq]; · iexact HCq
      isplitl [HHq]; · iexact HHq
      iexact HH
  iintro %_ ⟨HG, HR⟩
  ihave HG' : iprop(gateRes c (parOf c i XA arg3 arg4 arg5 arg6 arg7 arg8 arg9 arg10 arg11 arg12 g3 g4 g5 g6 g7 g8 g9 g10 g11 g12) 3) $$ [HG]; · iexact HG
  ihave HR' : iprop(ringP c XA (qOf i + 4)) $$ [HR]; · iexact HR
  unfold gateRes
  icases HG' with ⟨⟨%f0', HS0, %k0⟩, ⟨%f1', HS1, %k1⟩, ⟨%f2', HS2, %k2⟩, ⟨%f3', HS3, %k3⟩, ⟨%f4', HS4, %k4⟩, ⟨%f5', HS5, %k5⟩, ⟨%W'', HW⟩⟩
  sl_exec
  sl_for (fun n r => scanRes c (parOf c i XA arg3 arg4 arg5 arg6 arg7 arg8 arg9 arg10 arg11 arg12 g3 g4 g5 g6 g7 g8 g9 g10 g11 g12) n r) $$ [HS4 HS5]
  case region =>
    intro k acc
    first
      | exact scan_region c i arg3 harg3 arg4 harg4 arg5 harg5 arg6 harg6 arg7 harg7 arg8 harg8 arg9 harg9 arg10 harg10 arg11 harg11 arg12 harg12 arg13 harg13 (parOf c i XA arg3 arg4 arg5 arg6 arg7 arg8 arg9 arg10 arg11 arg12 g3 g4 g5 g6 g7 g8 g9 g10 g11 g12) (fun _ => Scalar.ofBits .f32 0x00000000#32) (fun _ => Scalar.ofBits .f32 0x00000000#32) (fun _ => Scalar.ofBits .f32 0x00000000#32) k acc
      | exact scan_region c i arg3 harg3 arg4 harg4 arg5 harg5 arg6 harg6 arg7 harg7 arg8 harg8 arg9 harg9 arg10 harg10 arg11 harg11 arg12 harg12 arg13 harg13 (parOf c i XA arg3 arg4 arg5 arg6 arg7 arg8 arg9 arg10 arg11 arg12 g3 g4 g5 g6 g7 g8 g9 g10 g11 g12) _ _ _ k acc
  · unfold scanRes
    isplitr
    · ipureintro; rfl
    isplitl [HS4]
    · iexists _; isplitl [HS4]; · iexact HS4
      ipureintro; sl_unfold_run_names
      have e := fun b05 b06 b07 b08 b15 b16 b17 b18 b1 => aC_of (load2 k2 (by decide : 3 < 3 + 1) (by decide : 5 ≤ 8) (rfl : (![0, 3077, 0] : Fin 3 → ℕ) = ![0, 1024 * 3 + 5, 0]) b05) (load2 k2 (by decide : 3 < 3 + 1) (by decide : 6 ≤ 8) (rfl : (![0, 3078, 0] : Fin 3 → ℕ) = ![0, 1024 * 3 + 6, 0]) b06) (load2 k2 (by decide : 3 < 3 + 1) (by decide : 7 ≤ 8) (rfl : (![0, 3079, 0] : Fin 3 → ℕ) = ![0, 1024 * 3 + 7, 0]) b07) (load2 k2 (by decide : 3 < 3 + 1) (by decide : 8 ≤ 8) (rfl : (![0, 3080, 0] : Fin 3 → ℕ) = ![0, 1024 * 3 + 8, 0]) b08) (load2 k2 (by decide : 3 < 3 + 1) (by decide : 5 ≤ 8) (rfl : (![1, 3077, 0] : Fin 3 → ℕ) = ![1, 1024 * 3 + 5, 0]) b15) (load2 k2 (by decide : 3 < 3 + 1) (by decide : 6 ≤ 8) (rfl : (![1, 3078, 0] : Fin 3 → ℕ) = ![1, 1024 * 3 + 6, 0]) b16) (load2 k2 (by decide : 3 < 3 + 1) (by decide : 7 ≤ 8) (rfl : (![1, 3079, 0] : Fin 3 → ℕ) = ![1, 1024 * 3 + 7, 0]) b17) (load2 k2 (by decide : 3 < 3 + 1) (by decide : 8 ≤ 8) (rfl : (![1, 3080, 0] : Fin 3 → ℕ) = ![1, 1024 * 3 + 8, 0]) b18) (load1 k1 b1)
      refine scan4_zero c (parOf c i XA arg3 arg4 arg5 arg6 arg7 arg8 arg9 arg10 arg11 arg12 g3 g4 g5 g6 g7 g8 g9 g10 g11 g12) (gates_step k4 rfl _ _ ?_ rfl _ _ ?_ rfl _ _ ?_ rfl _ _ ?_ rfl _ _ ?_ rfl _ _ ?_ rfl _ _ ?_ rfl _ _ ?_)
      · exact seg_of (e _ _ _ _ _ _ _ _ _) ![768, 128] (by decide) (by decide)
      · exact seg_of (e _ _ _ _ _ _ _ _ _) ![768, 0] (by decide) (by decide)
      · exact seg_of (e _ _ _ _ _ _ _ _ _) ![512, 128] (by decide) (by decide)
      · exact seg_of (e _ _ _ _ _ _ _ _ _) ![512, 0] (by decide) (by decide)
      · exact seg_of (e _ _ _ _ _ _ _ _ _) ![256, 128] (by decide) (by decide)
      · exact seg_of (e _ _ _ _ _ _ _ _ _) ![256, 0] (by decide) (by decide)
      · exact seg_of (e _ _ _ _ _ _ _ _ _) ![0, 128] (by decide) (by decide)
      · exact seg_of (e _ _ _ _ _ _ _ _ _) ![0, 0] (by decide) (by decide)
    · iexists _; isplitl [HS5]; · iexact HS5
      ipureintro; sl_unfold_run_names
      have e := fun b05 b06 b07 b08 b15 b16 b17 b18 b1 => iC_of (load2 k2 (by decide : 3 < 3 + 1) (by decide : 5 ≤ 8) (rfl : (![0, 3077, 0] : Fin 3 → ℕ) = ![0, 1024 * 3 + 5, 0]) b05) (load2 k2 (by decide : 3 < 3 + 1) (by decide : 6 ≤ 8) (rfl : (![0, 3078, 0] : Fin 3 → ℕ) = ![0, 1024 * 3 + 6, 0]) b06) (load2 k2 (by decide : 3 < 3 + 1) (by decide : 7 ≤ 8) (rfl : (![0, 3079, 0] : Fin 3 → ℕ) = ![0, 1024 * 3 + 7, 0]) b07) (load2 k2 (by decide : 3 < 3 + 1) (by decide : 8 ≤ 8) (rfl : (![0, 3080, 0] : Fin 3 → ℕ) = ![0, 1024 * 3 + 8, 0]) b08) (load2 k2 (by decide : 3 < 3 + 1) (by decide : 5 ≤ 8) (rfl : (![1, 3077, 0] : Fin 3 → ℕ) = ![1, 1024 * 3 + 5, 0]) b15) (load2 k2 (by decide : 3 < 3 + 1) (by decide : 6 ≤ 8) (rfl : (![1, 3078, 0] : Fin 3 → ℕ) = ![1, 1024 * 3 + 6, 0]) b16) (load2 k2 (by decide : 3 < 3 + 1) (by decide : 7 ≤ 8) (rfl : (![1, 3079, 0] : Fin 3 → ℕ) = ![1, 1024 * 3 + 7, 0]) b17) (load2 k2 (by decide : 3 < 3 + 1) (by decide : 8 ≤ 8) (rfl : (![1, 3080, 0] : Fin 3 → ℕ) = ![1, 1024 * 3 + 8, 0]) b18) (load1 k1 b1)
      refine scan5_zero c (parOf c i XA arg3 arg4 arg5 arg6 arg7 arg8 arg9 arg10 arg11 arg12 g3 g4 g5 g6 g7 g8 g9 g10 g11 g12) (gates_step k5 rfl _ _ ?_ rfl _ _ ?_ rfl _ _ ?_ rfl _ _ ?_ rfl _ _ ?_ rfl _ _ ?_ rfl _ _ ?_ rfl _ _ ?_)
      · exact seg_of (e _ _ _ _ _ _ _ _ _) ![768, 128] (by decide) (by decide)
      · exact seg_of (e _ _ _ _ _ _ _ _ _) ![768, 0] (by decide) (by decide)
      · exact seg_of (e _ _ _ _ _ _ _ _ _) ![512, 128] (by decide) (by decide)
      · exact seg_of (e _ _ _ _ _ _ _ _ _) ![512, 0] (by decide) (by decide)
      · exact seg_of (e _ _ _ _ _ _ _ _ _) ![256, 128] (by decide) (by decide)
      · exact seg_of (e _ _ _ _ _ _ _ _ _) ![256, 0] (by decide) (by decide)
      · exact seg_of (e _ _ _ _ _ _ _ _ _) ![0, 128] (by decide) (by decide)
      · exact seg_of (e _ _ _ _ _ _ _ _ _) ![0, 0] (by decide) (by decide)
  iintro %acc HSC
  ihave HSC' : iprop(scanRes c (parOf c i XA arg3 arg4 arg5 arg6 arg7 arg8 arg9 arg10 arg11 arg12 g3 g4 g5 g6 g7 g8 g9 g10 g11 g12) 256 acc) $$ [HSC]; · iexact HSC
  unfold scanRes
  icases HSC' with ⟨%hacc, ⟨%f4', HS4, %k4'⟩, ⟨%f5', HS5, %k5'⟩⟩
  subst hacc
  sl_exec
  sl_step
  isplitl [HA3]; · iexact HA3
  isplitl [HA4]; · iexact HA4
  isplitl [HA5]; · iexact HA5
  isplitl [HA6]; · iexact HA6
  isplitl [HA7]; · iexact HA7
  isplitl [HA8]; · iexact HA8
  isplitl [HA9]; · iexact HA9
  isplitl [HA10]; · iexact HA10
  isplitl [HA11]; · iexact HA11
  isplitl [HA12]; · iexact HA12
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexists _; iexact HS5
  isplitl [HR']; · iexact HR'
  isplitl [HW]; · iexists _; iexact HW
  iexists _
  isplitl [HA13]; · iexact HA13
  ipureintro; sl_unfold_run_names
  exact out_all c (parOf c i XA arg3 arg4 arg5 arg6 arg7 arg8 arg9 arg10 arg11 arg12 g3 g4 g5 g6 g7 g8 g9 g10 g11 g12) k3 k4' k5' arg13.view _

end Point

end Cert.Proof.LruIdeal

end
-- ==== Proof.LruIdealRun.lean ====
/- The run of the gated recurrence: the ring between the points, the launch, and what memory holds at the end. At the idealized program. -/
module

public import proofs.«01_k».proof.Proof.LruRun
public import proofs.«01_k».proof.Proof.LruIdealBody
public import proofs.«01_k».proof.Proof.Gen.LruIdeal.Frame

@[expose] public section

noncomputable section

namespace Cert.Proof.LruIdeal

open Cert.LruIdeal Cert.LruIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-! ## Whole buffers as their blocks -/

section Blocks

abbrev G16 (b : Fin 16) : Finset S4x4096x1024.Idx := (Rect.unit (s := S4x4096x1024) (xOff b) S1x1024x1024.size (xOff_inb b)).set
abbrev G3 (s : Fin 3) : Finset S3x1024x1024.Idx := (Rect.unit (s := S3x1024x1024) (slotOff s) S1x1024x1024.size (slotOff_inb s)).set

omit [FloatOps F] [Named F] in
theorem xb_set (b : Fin 16) : (xb b : Memref sig .tc .hbm _ _).view.set = G16 b := (View.set_reshape _ _).trans (View.set_slice_whole _ _)
omit [FloatOps F] [Named F] in
theorem rslot_set (s : Fin 3) : (rslot s : Memref sig .tc .vmem _ _).view.set = G3 s := (View.set_reshape _ _).trans (View.set_slice_whole _ _)

theorem mem_G16 (b : Fin 16) (y : S4x4096x1024.Idx) : y ∈ G16 b ↔ (y 0).val = b.val / 4 ∧ (y 1).val / 1024 = b.val % 4 := by
  rw [Rect.mem_set_unit]
  have h0 : (y 0).val < 4 := (y 0).isLt
  have h1 : (y 1).val < 4096 := (y 1).isLt
  have h2 : (y 2).val < 1024 := (y 2).isLt
  constructor
  · intro H
    have a0 : b.val / 4 ≤ (y 0).val ∧ (y 0).val < b.val / 4 + 1 := H 0
    have a1 : 1024 * (b.val % 4) ≤ (y 1).val ∧ (y 1).val < 1024 * (b.val % 4) + 1024 := H 1
    omega
  · intro H i; fin_cases i
    · show b.val / 4 ≤ (y 0).val ∧ (y 0).val < b.val / 4 + 1; omega
    · show 1024 * (b.val % 4) ≤ (y 1).val ∧ (y 1).val < 1024 * (b.val % 4) + 1024; omega
    · show 0 ≤ (y 2).val ∧ (y 2).val < 0 + 1024; omega
theorem mem_G3 (s : Fin 3) (y : S3x1024x1024.Idx) : y ∈ G3 s ↔ (y 0).val = s.val := by
  rw [Rect.mem_set_unit]
  have h1 : (y 1).val < 1024 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 1024; omega
theorem G16_disjoint : ∀ b b' : Fin 16, b ≠ b' → Disjoint (G16 b) (G16 b') := by
  intro b b' hne; rw [Finset.disjoint_left]; intro y hy hy'; rw [mem_G16] at hy hy'; exact hne (Fin.ext (by omega))
theorem G16_cover : (Finset.univ : Finset (Fin 16)).biUnion G16 = Finset.univ := by
  ext y; simp only [Finset.mem_biUnion, Finset.mem_univ, true_and, iff_true]
  have h0 : (y 0).val < 4 := (y 0).isLt
  have h1 : (y 1).val < 4096 := (y 1).isLt
  exact ⟨⟨4 * (y 0).val + (y 1).val / 1024, by omega⟩, by rw [mem_G16]; constructor <;> (dsimp only; omega)⟩
theorem G3_disjoint : ∀ s s' : Fin 3, s ≠ s' → Disjoint (G3 s) (G3 s') := by
  intro s s' hne; rw [Finset.disjoint_left]; intro y hy hy'; rw [mem_G3] at hy hy'; exact hne (Fin.ext (hy.symm.trans hy'))
theorem G3_cover : (Finset.univ : Finset (Fin 3)).biUnion G3 = Finset.univ := by
  ext y; simp only [Finset.mem_biUnion, Finset.mem_univ, true_and, iff_true]; exact ⟨(y 0).cast (by decide), by rw [mem_G3]; rfl⟩

/-- x as the copies read it. -/
abbrev XA (c : Dev nD) : Buf (Elt F) (xM.view.loc (c : Thread nD τ)) := m ((c : Thread nD τ).loc main_arg0)

omit [FloatOps F] [Named F] in
theorem x_blocks (c : Dev nD) :
    (((c : Thread nD τ).loc main_arg0) ↦{fullShare} m ((c : Thread nD τ).loc main_arg0) : sProp 𝕄) = bigSep Finset.univ (homeP c (XA m c)) := by
  rw [Ring.pointsTo_blocks (ℓ := (c : Thread nD τ).loc main_arg0) G16 G16_disjoint G16_cover]
  exact bigSep_congr fun b _ => by rw [← xb_set]; rfl

omit [FloatOps F] [Named F] in
theorem slotP_eq (c : Dev nD) (s : Fin 3) (f) : slotP c s f = (((c : Thread nD τ).loc cc0_scratch6) ↦[G3 s]{fullShare} f : sProp 𝕄) :=
  congrArg (fun S => (_ ↦[S]{fullShare} f : sProp 𝕄)) (rslot_set s)
omit [FloatOps F] [Named F] in
theorem ring_split (c : Dev nD) :
    iprop(∃ f : Buf (Elt F) ((c : Thread nD τ).loc cc0_scratch6), ((c : Thread nD τ).loc cc0_scratch6) ↦{fullShare} f)
      ⊢ (iprop((∃ f, slotP c 0 f) ∗ (∃ f, slotP c 1 f) ∗ ∃ f, slotP c 2 f) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scratch6) G3 G3_disjoint G3_cover f).trans (Ring.bigSep_fin3 _))) $$ H
  icases H2 with ⟨H0, H1, H2⟩
  isplitl [H0]
  · iexists f; iapply (ent_of_eq (slotP_eq c 0 f).symm); iexact H0
  isplitl [H1]
  · iexists f; iapply (ent_of_eq (slotP_eq c 1 f).symm); iexact H1
  · iexists f; iapply (ent_of_eq (slotP_eq c 2 f).symm); iexact H2
omit [FloatOps F] [Named F] in
theorem ring_join (c : Dev nD) :
    iprop((∃ f, slotP c 0 f) ∗ (∃ f, slotP c 1 f) ∗ ∃ f, slotP c 2 f)
      ⊢ (iprop(∃ f : Buf (Elt F) ((c : Thread nD τ).loc cc0_scratch6), ((c : Thread nD τ).loc cc0_scratch6) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch6) G3 G3_disjoint G3_cover f0)
  irw [Ring.bigSep_fin3]
  isplitl [H0]
  · iexists f0; iapply (ent_of_eq (slotP_eq c 0 f0)); iexact H0
  isplitl [H1]
  · iexists f1; iapply (ent_of_eq (slotP_eq c 1 f1)); iexact H1
  · iexists f2; iapply (ent_of_eq (slotP_eq c 2 f2)); iexact H2

abbrev osem : Fin 3 → SemLoc sig := fun s => .dma (csm s).sem
theorem ownSemFacts : Pipeline.OwnSemFacts spec0 osem := by decide
omit [FloatOps F] [Named F] in
theorem ownSems0_eq (c : Dev nD) : (Pipeline.ownSems0 (Ix := Unit) (Name := ℕ) (U := UU nD τ) (Lvl := ℕ) (Val := Elt F) (τ := τ) osem c : sProp 𝕄)
    = iprop(cellP c 0 ∗ cellP c 1 ∗ cellP c 2) := by
  unfold Pipeline.ownSems0; rw [Ring.bigSep_fin3]

end Blocks

/-! ## Between the points -/

/-- The ring ahead of copy `q`: nothing in flight ahead of the first. -/
def ringAt (c : Dev nD) (X : Buf (Elt F) (xM.view.loc (c : Thread nD τ))) (q : ℕ) : sProp 𝕄 :=
  if q = 0 then iprop(bigSep Finset.univ (fun s : Fin 3 => iprop((∃ f, slotP (F := F) c s f) ∗ cellP (F := F) c s)) ∗ bigSep Finset.univ (homeP c X))
  else ringP c X q

omit [FloatOps F] [Named F] in
theorem ringAt_zero (c : Dev nD) (X) : (ringAt (F := F) c X 0)
    = iprop(bigSep Finset.univ (fun s : Fin 3 => iprop((∃ f, slotP (F := F) c s f) ∗ cellP (F := F) c s)) ∗ bigSep Finset.univ (homeP c X)) := if_pos rfl
omit [FloatOps F] [Named F] in
theorem ringAt_pos (c : Dev nD) (X) {q : ℕ} (h : q ≠ 0) : ringAt (F := F) c X q = ringP c X q := if_neg h

def scr (c : Dev nD) : sProp 𝕄 :=
  iprop((∃ f, scrP0 (F := F) c f) ∗ (∃ f, scrP1 (F := F) c f) ∗ (∃ f, scrP2 (F := F) c f) ∗ (∃ f, scrP3 (F := F) c f) ∗ (∃ f, scrP4 (F := F) c f) ∗ (∃ f, scrP5 (F := F) c f))

def Φ (c : Dev nD) (q : ℕ) : sProp 𝕄 := iprop(scr (F := F) c ∗ (∃ r, prngReg c r) ∗ ringAt c (XA m c) q)

/-- What point `t` reads, and what it leaves in the result's block. -/
abbrev parT (c : Dev nD) (t : Fin cfg0.N) : Par F :=
  parOf c (grid0.coords t) (XA m c) (st0_0 t) (st0_1 t) (st0_2 t) (st0_3 t) (st0_4 t) (st0_5 t) (st0_6 t) (st0_7 t) (st0_8 t) (st0_9 t) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t)) ((st0_6 t).view.rep (iblk m c 6 t)) ((st0_7 t).view.rep (iblk m c 7 t)) ((st0_8 t).view.rep (iblk m c 8 t)) ((st0_9 t).view.rep (iblk m c 9 t))
abbrev outAt (c : Dev nD) (t : Fin cfg0.N) : (cfg0.win 10).block.Idx → Elt F (cfg0.win 10).elt :=
  fun y => oS (parT m c t) (y 1).val (y 2).val

def dats (_ : Fin 1) (c : Dev nD) : Dat τ (Elt F) Unit ℕ (UU nD τ) ℕ cfg0 c where
  A w := V m c (Pipeline.arrRef spec0 w)
  after w t := match w with
    | ⟨10, _⟩ => outAt m c t
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ t := Φ m c (4 * t.val)
  q w := Pipeline.shareOf spec0 w
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

theorem q_of (t : Fin cfg0.N) : qOf (grid0.coords t) = 4 * t.val := (by decide +kernel : ∀ t : Fin grid0.N, qOf (grid0.coords t) = 4 * t.val) t

/-! ## The body at a point -/

theorem defs₀_row (t : Fin cfg0.N) :
    defs₀ (F := F) .tc cfg0.body (cfg0.bodyArgs t (cfg0.slots t)) = bodyAt0 t := by
  unfold defs₀; rw [Defs.onTc_tc]

theorem body_at (c : Dev nD) (t : Fin cfg0.N) (g : Buf (Elt F) ((st0_10 t).view.loc (c : Thread nD τ))) :
    iprop(ownP c (st0_0 t) ((st0_0 t).view.rep (iblk m c 0 t)) ∗ ownP c (st0_1 t) ((st0_1 t).view.rep (iblk m c 1 t)) ∗ ownP c (st0_2 t) ((st0_2 t).view.rep (iblk m c 2 t)) ∗ ownP c (st0_3 t) ((st0_3 t).view.rep (iblk m c 3 t)) ∗ ownP c (st0_4 t) ((st0_4 t).view.rep (iblk m c 4 t)) ∗ ownP c (st0_5 t) ((st0_5 t).view.rep (iblk m c 5 t)) ∗ ownP c (st0_6 t) ((st0_6 t).view.rep (iblk m c 6 t)) ∗ ownP c (st0_7 t) ((st0_7 t).view.rep (iblk m c 7 t)) ∗ ownP c (st0_8 t) ((st0_8 t).view.rep (iblk m c 8 t)) ∗ ownP c (st0_9 t) ((st0_9 t).view.rep (iblk m c 9 t)) ∗ ownP c (st0_10 t) g
      ∗ (∃ f, scrP0 (F := F) c f) ∗ (∃ f, scrP1 (F := F) c f) ∗ (∃ f, scrP2 (F := F) c f) ∗ (∃ f, scrP3 (F := F) c f) ∗ (∃ f, scrP4 (F := F) c f) ∗ (∃ f, scrP5 (F := F) c f)
      ∗ ringAt c (XA m c) (4 * t.val) ∗ (∃ W, owes (c : Thread nD τ) 0 W))
    ⊢ wp frame (wpE (defs₀ (F := F)) 𝒱₀ (c : Thread nD τ) none) Set.univ (bodyAt0 (F := F) t) fun _ =>
      iprop(ownP c (st0_0 t) ((st0_0 t).view.rep (iblk m c 0 t)) ∗ ownP c (st0_1 t) ((st0_1 t).view.rep (iblk m c 1 t)) ∗ ownP c (st0_2 t) ((st0_2 t).view.rep (iblk m c 2 t)) ∗ ownP c (st0_3 t) ((st0_3 t).view.rep (iblk m c 3 t)) ∗ ownP c (st0_4 t) ((st0_4 t).view.rep (iblk m c 4 t)) ∗ ownP c (st0_5 t) ((st0_5 t).view.rep (iblk m c 5 t)) ∗ ownP c (st0_6 t) ((st0_6 t).view.rep (iblk m c 6 t)) ∗ ownP c (st0_7 t) ((st0_7 t).view.rep (iblk m c 7 t)) ∗ ownP c (st0_8 t) ((st0_8 t).view.rep (iblk m c 8 t)) ∗ ownP c (st0_9 t) ((st0_9 t).view.rep (iblk m c 9 t))
      ∗ (∃ f, scrP0 (F := F) c f) ∗ (∃ f, scrP1 (F := F) c f) ∗ (∃ f, scrP2 (F := F) c f) ∗ (∃ f, scrP3 (F := F) c f) ∗ (∃ f, scrP4 (F := F) c f) ∗ (∃ f, scrP5 (F := F) c f)
      ∗ ringAt c (XA m c) (4 * (t.val + 1)) ∗ (∃ W, owes (c : Thread nD τ) 0 W)
      ∗ (∃ f, ownP c (st0_10 t) f ∗ ⌜(st0_10 t).view.read (Elt F) f = outAt m c t⌝)) := by
  have h := body c (grid0.coords t) (XA m c) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) ((st0_0 t).view.rep (iblk m c 0 t)) ((st0_1 t).view.rep (iblk m c 1 t)) ((st0_2 t).view.rep (iblk m c 2 t)) ((st0_3 t).view.rep (iblk m c 3 t)) ((st0_4 t).view.rep (iblk m c 4 t)) ((st0_5 t).view.rep (iblk m c 5 t)) ((st0_6 t).view.rep (iblk m c 6 t)) ((st0_7 t).view.rep (iblk m c 7 t)) ((st0_8 t).view.rep (iblk m c 8 t)) ((st0_9 t).view.rep (iblk m c 9 t)) g
  have e : ringPre c (grid0.coords t) (XA m c) = ringAt c (XA m c) (4 * t.val) := by unfold ringPre ringAt; rw [q_of t]
  have e' : ringP c (XA m c) (qOf (grid0.coords t) + 4) = ringAt c (XA m c) (4 * (t.val + 1)) := by
    rw [ringAt_pos _ _ (by omega), q_of t]; rfl
  rw [e, e'] at h
  refine triple_restated h rfl .rfl fun _ => ?_
  iintro ⟨HA0, HA1, HA2, HA3, HA4, HA5, HA6, HA7, HA8, HA9, H10, H11, H12, H13, H14, H15, HR, HW, ⟨%f, Hf, %hf⟩⟩
  isplitl [HA0]; · iexact HA0
  isplitl [HA1]; · iexact HA1
  isplitl [HA2]; · iexact HA2
  isplitl [HA3]; · iexact HA3
  isplitl [HA4]; · iexact HA4
  isplitl [HA5]; · iexact HA5
  isplitl [HA6]; · iexact HA6
  isplitl [HA7]; · iexact HA7
  isplitl [HA8]; · iexact HA8
  isplitl [HA9]; · iexact HA9
  isplitl [H10]; · iexact H10
  isplitl [H11]; · iexact H11
  isplitl [H12]; · iexact H12
  isplitl [H13]; · iexact H13
  isplitl [H14]; · iexact H14
  isplitl [H15]; · iexact H15
  isplitl [HR]; · iexact HR
  isplitl [HW]; · iexact HW
  iexists f
  isplitl [Hf]; · iexact Hf
  ipureintro; exact funext hf

set_option backward.isDefEq.respectTransparency.types false in
theorem body_obligation (c : Dev nD) : BodyObligation (dats (F := F) m 0 c) (defs₀ (F := F)) 𝒱₀ () Set.univ := fun t => by
  rw [bigSep_W0, bigSep_W0, defs₀_row]
  dsimp only
  simp only [before_0, before_1, before_2, before_3, before_4, before_5, before_6, before_7, before_8, before_9, after_0, after_1, after_2, after_3, after_4, after_5, after_6, after_7, after_8, after_9, after_10]
  rw [show (dats m 0 c).Φ t.castSucc = Φ m c (4 * t.val) from rfl, show (dats m 0 c).Φ t.succ = Φ m c (4 * (t.val + 1)) from rfl]
  unfold Dat.owesAt Pipeline.owesWithin
  rw [show (dats m 0 c).owed t.castSucc = 0 from rfl, show (dats m 0 c).owed t.succ = 0 from rfl]
  unfold owns Φ scr
  iintro ⟨⟨⟨HS0, HS1, HS2, HS3, HS4, HS5⟩, HP, HR⟩, ⟨%W, -, HW⟩, ⟨%d0, %g0, %hg0, HA0⟩, ⟨%d1, %g1, %hg1, HA1⟩, ⟨%d2, %g2, %hg2, HA2⟩, ⟨%d3, %g3, %hg3, HA3⟩, ⟨%d4, %g4, %hg4, HA4⟩, ⟨%d5, %g5, %hg5, HA5⟩, ⟨%d6, %g6, %hg6, HA6⟩, ⟨%d7, %g7, %hg7, HA7⟩, ⟨%d8, %g8, %hg8, HA8⟩, ⟨%d9, %g9, %hg9, HA9⟩, ⟨%d10, %g10, -, H10⟩⟩
  ihave HA0 := (ent_of_eq (congrArg (fun x => ownP (F := F) c (st0_0 t) ((st0_0 t).view.rep x)) hg0)) $$ [HA0]; · iapply (pointsTo_rep_entails (c : Thread nD τ) (st0_0 t) g0 fullShare); iexact HA0
  ihave HA1 := (ent_of_eq (congrArg (fun x => ownP (F := F) c (st0_1 t) ((st0_1 t).view.rep x)) hg1)) $$ [HA1]; · iapply (pointsTo_rep_entails (c : Thread nD τ) (st0_1 t) g1 fullShare); iexact HA1
  ihave HA2 := (ent_of_eq (congrArg (fun x => ownP (F := F) c (st0_2 t) ((st0_2 t).view.rep x)) hg2)) $$ [HA2]; · iapply (pointsTo_rep_entails (c : Thread nD τ) (st0_2 t) g2 fullShare); iexact HA2
  ihave HA3 := (ent_of_eq (congrArg (fun x => ownP (F := F) c (st0_3 t) ((st0_3 t).view.rep x)) hg3)) $$ [HA3]; · iapply (pointsTo_rep_entails (c : Thread nD τ) (st0_3 t) g3 fullShare); iexact HA3
  ihave HA4 := (ent_of_eq (congrArg (fun x => ownP (F := F) c (st0_4 t) ((st0_4 t).view.rep x)) hg4)) $$ [HA4]; · iapply (pointsTo_rep_entails (c : Thread nD τ) (st0_4 t) g4 fullShare); iexact HA4
  ihave HA5 := (ent_of_eq (congrArg (fun x => ownP (F := F) c (st0_5 t) ((st0_5 t).view.rep x)) hg5)) $$ [HA5]; · iapply (pointsTo_rep_entails (c : Thread nD τ) (st0_5 t) g5 fullShare); iexact HA5
  ihave HA6 := (ent_of_eq (congrArg (fun x => ownP (F := F) c (st0_6 t) ((st0_6 t).view.rep x)) hg6)) $$ [HA6]; · iapply (pointsTo_rep_entails (c : Thread nD τ) (st0_6 t) g6 fullShare); iexact HA6
  ihave HA7 := (ent_of_eq (congrArg (fun x => ownP (F := F) c (st0_7 t) ((st0_7 t).view.rep x)) hg7)) $$ [HA7]; · iapply (pointsTo_rep_entails (c : Thread nD τ) (st0_7 t) g7 fullShare); iexact HA7
  ihave HA8 := (ent_of_eq (congrArg (fun x => ownP (F := F) c (st0_8 t) ((st0_8 t).view.rep x)) hg8)) $$ [HA8]; · iapply (pointsTo_rep_entails (c : Thread nD τ) (st0_8 t) g8 fullShare); iexact HA8
  ihave HA9 := (ent_of_eq (congrArg (fun x => ownP (F := F) c (st0_9 t) ((st0_9 t).view.rep x)) hg9)) $$ [HA9]; · iapply (pointsTo_rep_entails (c : Thread nD τ) (st0_9 t) g9 fullShare); iexact HA9
  iapply (wp_wand_r (Q := fun _ => _) frame (wpE (defs₀ (F := F)) 𝒱₀ (c : Thread nD τ) none) Set.univ)
  isplitl [HA0 HA1 HA2 HA3 HA4 HA5 HA6 HA7 HA8 HA9 H10 HS0 HS1 HS2 HS3 HS4 HS5 HR HW]
  · iapply (body_at m c t g10)
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [H10]; · iexact H10
    isplitl [HS0]; · iexact HS0
    isplitl [HS1]; · iexact HS1
    isplitl [HS2]; · iexact HS2
    isplitl [HS3]; · iexact HS3
    isplitl [HS4]; · iexact HS4
    isplitl [HS5]; · iexact HS5
    isplitl [HR]; · iexact HR
    iexists W; iexact HW
  · iintro %_ ⟨HA0, HA1, HA2, HA3, HA4, HA5, HA6, HA7, HA8, HA9, HS0, HS1, HS2, HS3, HS4, HS5, HR, ⟨%W', HW⟩, ⟨%f, Hf, %hf⟩⟩
    isplitl [HP HS0 HS1 HS2 HS3 HS4 HS5 HR]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [HP]; · iexact HP
      iexact HR
    isplitl [HW]
    · iexists W'; isplitr; · ipureintro; exact fun _ _ => Or.inl trivial
      iexact HW
    isplitl [HA0]
    · iexists _; isplitr; · ipureintro; exact View.read_rep _ _
      iexact HA0
    isplitl [HA1]
    · iexists _; isplitr; · ipureintro; exact View.read_rep _ _
      iexact HA1
    isplitl [HA2]
    · iexists _; isplitr; · ipureintro; exact View.read_rep _ _
      iexact HA2
    isplitl [HA3]
    · iexists _; isplitr; · ipureintro; exact View.read_rep _ _
      iexact HA3
    isplitl [HA4]
    · iexists _; isplitr; · ipureintro; exact View.read_rep _ _
      iexact HA4
    isplitl [HA5]
    · iexists _; isplitr; · ipureintro; exact View.read_rep _ _
      iexact HA5
    isplitl [HA6]
    · iexists _; isplitr; · ipureintro; exact View.read_rep _ _
      iexact HA6
    isplitl [HA7]
    · iexists _; isplitr; · ipureintro; exact View.read_rep _ _
      iexact HA7
    isplitl [HA8]
    · iexists _; isplitr; · ipureintro; exact View.read_rep _ _
      iexact HA8
    isplitl [HA9]
    · iexists _; isplitr; · ipureintro; exact View.read_rep _ _
      iexact HA9
    iexists f; isplitr; · ipureintro; exact hf
    iexact Hf

/-! ## The run -/

def H0 : Finset (Ref sig .tc) := {main_arg0}
theorem H0_sub : H0 ⊆ Pipeline.restRefs sig spec0 := by decide

omit [FloatOps F] [Named F] in
theorem whole_0 (c : Dev nD) (f) : (((c : Thread nD τ).loc cc0_scratch0) ↦{fullShare} f : sProp 𝕄) = scrP0 c f :=
  congrArg (fun S => (((c : Thread nD τ).loc cc0_scratch0) ↦[S]{fullShare} f : sProp 𝕄)) (View.set_whole cc0_scratch0).symm
omit [FloatOps F] [Named F] in
theorem whole_1 (c : Dev nD) (f) : (((c : Thread nD τ).loc cc0_scratch1) ↦{fullShare} f : sProp 𝕄) = scrP1 c f :=
  congrArg (fun S => (((c : Thread nD τ).loc cc0_scratch1) ↦[S]{fullShare} f : sProp 𝕄)) (View.set_whole cc0_scratch1).symm
omit [FloatOps F] [Named F] in
theorem whole_2 (c : Dev nD) (f) : (((c : Thread nD τ).loc cc0_scratch2) ↦{fullShare} f : sProp 𝕄) = scrP2 c f :=
  congrArg (fun S => (((c : Thread nD τ).loc cc0_scratch2) ↦[S]{fullShare} f : sProp 𝕄)) (View.set_whole cc0_scratch2).symm
omit [FloatOps F] [Named F] in
theorem whole_3 (c : Dev nD) (f) : (((c : Thread nD τ).loc cc0_scratch3) ↦{fullShare} f : sProp 𝕄) = scrP3 c f :=
  congrArg (fun S => (((c : Thread nD τ).loc cc0_scratch3) ↦[S]{fullShare} f : sProp 𝕄)) (View.set_whole cc0_scratch3).symm
omit [FloatOps F] [Named F] in
theorem whole_4 (c : Dev nD) (f) : (((c : Thread nD τ).loc cc0_scratch4) ↦{fullShare} f : sProp 𝕄) = scrP4 c f :=
  congrArg (fun S => (((c : Thread nD τ).loc cc0_scratch4) ↦[S]{fullShare} f : sProp 𝕄)) (View.set_whole cc0_scratch4).symm
omit [FloatOps F] [Named F] in
theorem whole_5 (c : Dev nD) (f) : (((c : Thread nD τ).loc cc0_scratch5) ↦{fullShare} f : sProp 𝕄) = scrP5 c f :=
  congrArg (fun S => (((c : Thread nD τ).loc cc0_scratch5) ↦[S]{fullShare} f : sProp 𝕄)) (View.set_whole cc0_scratch5).symm

theorem hin (c : Dev nD) : Pipeline.ΦD osem spec0 H0 (V m) c ⊢ (dats m 0 c).Φ 0 := by
  rw [Pipeline.ΦD_eq, show (dats m 0 c).Φ 0 = Φ m c 0 from rfl, scopedRest0_eq, ownSems0_eq]
  unfold Φ scr H0; rw [bigSep_singleton, ringAt_zero, Ring.bigSep_fin3]
  iintro ⟨⟨⟨%f0, H0⟩, ⟨%f1, H1⟩, ⟨%f2, H2⟩, ⟨%f3, H3⟩, ⟨%f4, H4⟩, ⟨%f5, H5⟩, HB⟩, HP, ⟨HC0, HC1, HC2⟩, HX⟩
  ihave HS := (ring_split c) $$ HB
  icases HS with ⟨HS0, HS1, HS2⟩
  isplitl [H0 H1 H2 H3 H4 H5]
  · isplitl [H0]; · iexists f0; iapply (ent_of_eq (whole_0 c f0)); iexact H0
    isplitl [H1]; · iexists f1; iapply (ent_of_eq (whole_1 c f1)); iexact H1
    isplitl [H2]; · iexists f2; iapply (ent_of_eq (whole_2 c f2)); iexact H2
    isplitl [H3]; · iexists f3; iapply (ent_of_eq (whole_3 c f3)); iexact H3
    isplitl [H4]; · iexists f4; iapply (ent_of_eq (whole_4 c f4)); iexact H4
    iexists f5; iapply (ent_of_eq (whole_5 c f5)); iexact H5
  isplitl [HP]; · iexact HP
  isplitl [HS0 HS1 HS2 HC0 HC1 HC2]
  · isplitl [HS0 HC0]
    · isplitl [HS0]; · iexact HS0
      iexact HC0
    isplitl [HS1 HC1]
    · isplitl [HS1]; · iexact HS1
      iexact HC1
    isplitl [HS2]; · iexact HS2
    iexact HC2
  iapply (ent_of_eq (x_blocks m c)); iexact HX

theorem hout (c : Dev nD) : (dats m 0 c).Φ (Fin.last cfg0.N) ⊢ Pipeline.ΦD osem spec0 H0 (V m) c := by
  rw [Pipeline.ΦD_eq, show (dats m 0 c).Φ (Fin.last cfg0.N) = Φ m c 64 from rfl, scopedRest0_eq, ownSems0_eq]
  unfold Φ scr H0; rw [bigSep_singleton, ringAt_pos _ _ (by decide)]
  unfold ringP
  rw [partP_ge _ _ (by decide), partP_ge _ _ (by decide), homeSet_end, show Ring.sl 3 64 = 1 from by decide, show Ring.sl 3 (64 + 1) = 2 from by decide, show Ring.sl 3 (64 + 2) = 0 from by decide]
  iintro ⟨⟨⟨%f0, H0⟩, ⟨%f1, H1⟩, ⟨%f2, H2⟩, ⟨%f3, H3⟩, ⟨%f4, H4⟩, ⟨%f5, H5⟩⟩, HP, ⟨HS1, HC1⟩, ⟨HS2, HC2⟩, ⟨HS0, HC0⟩, HX⟩
  isplitl [H0 H1 H2 H3 H4 H5 HS0 HS1 HS2]
  · isplitl [H0]; · iexists f0; iapply (ent_of_eq (whole_0 c f0).symm); iexact H0
    isplitl [H1]; · iexists f1; iapply (ent_of_eq (whole_1 c f1).symm); iexact H1
    isplitl [H2]; · iexists f2; iapply (ent_of_eq (whole_2 c f2).symm); iexact H2
    isplitl [H3]; · iexists f3; iapply (ent_of_eq (whole_3 c f3).symm); iexact H3
    isplitl [H4]; · iexists f4; iapply (ent_of_eq (whole_4 c f4).symm); iexact H4
    isplitl [H5]; · iexists f5; iapply (ent_of_eq (whole_5 c f5).symm); iexact H5
    iapply (ring_join c)
    isplitl [HS0]; · iexact HS0
    isplitl [HS1]; · iexact HS1
    iexact HS2
  isplitl [HP]; · iexact HP
  isplitl [HC0 HC1 HC2]
  · isplitl [HC0]; · iexact HC0
    isplitl [HC1]; · iexact HC1
    iexact HC2
  iapply (ent_of_eq (x_blocks m c).symm); iexact HX

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem defs₀ 𝒱₀ ownSemFacts H0 H0_sub m ρ main
    (hbody := fun c => (body_obligation m c).loose) (hq := fun _ _ _ => rfl)
    (howed := fun _ _ => rfl) (V := V m) (hmain := Pipeline.hmain_region cfgs 0 defs₀ 𝒱₀ m main fun c => (main_chain c).trans rfl) (hA := A_eq m)
    (hin := hin m) (hout := hout m)

/-- Every run ends, the arguments as they were, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨((h.1 c).2 main_arg0 (Pipeline.mem_restRefs_of main_arg0 (by decide) (by decide))),
      ((h.1 c).1 1).trans (((dats m 0 c).arrAt_in 1 rfl _).trans (A_eq m c 1)),
      ((h.1 c).1 4).trans (((dats m 0 c).arrAt_in 4 rfl _).trans (A_eq m c 4)),
      ((h.1 c).1 5).trans (((dats m 0 c).arrAt_in 5 rfl _).trans (A_eq m c 5)),
      ((h.1 c).1 6).trans (((dats m 0 c).arrAt_in 6 rfl _).trans (A_eq m c 6)),
      ((h.1 c).1 2).trans (((dats m 0 c).arrAt_in 2 rfl _).trans (A_eq m c 2)),
      ((h.1 c).1 7).trans (((dats m 0 c).arrAt_in 7 rfl _).trans (A_eq m c 7)),
      ((h.1 c).1 3).trans (((dats m 0 c).arrAt_in 3 rfl _).trans (A_eq m c 3)),
      ((h.1 c).1 8).trans (((dats m 0 c).arrAt_in 8 rfl _).trans (A_eq m c 8)),
      ((h.1 c).1 9).trans (((dats m 0 c).arrAt_in 9 rfl _).trans (A_eq m c 9))⟩, h.2⟩) (run_main m ρ)

end Cert.Proof.LruIdeal

end
-- ==== Proof.LruMath.lean ====
/- The recurrence's mathematics over the extended reals: the decay's and the input's factors in the two spellings, and a segment
   of the recurrence as its state from zero and the product of its decays. -/
module

public import Idealize.ShloMosaic.PureOps.Ideal
public import Idealize.ShloMosaic.Lib.IdealHost

@[expose] public section

noncomputable section

namespace Cert.Lrued

open Idealize.ShloMosaic

theorem ofBits_two : Ideal.ofBits .f32 0x40000000#32 = 2 := by
  simp [Ideal.ofBits, Ideal.ieee]
  rw [← EReal.coe_mul]
  show _ = ((2 : ℝ) : EReal)
  norm_num
theorem ofBits_eight : Ideal.ofBits .f32 0x41000000#32 = 8 := by
  simp [Ideal.ofBits, Ideal.ieee]
  rw [← EReal.coe_mul]
  show _ = ((8 : ℝ) : EReal)
  norm_num
theorem ofBits_neg_eight : Ideal.ofBits .f32 0xC1000000#32 = -8 := by
  simp [Ideal.ofBits, Ideal.ieee]
  rw [← EReal.coe_mul]
  show _ = ((8 : ℝ) : EReal)
  norm_num

theorem exp_nonneg (z : EReal) : 0 ≤ Ideal.exp z := by
  induction z with
  | bot => simp
  | top => simp
  | coe r => rw [Ideal.exp_coe]; exact_mod_cast (Real.exp_pos r).le

theorem logistic_nonneg (z : EReal) : 0 ≤ Ideal.logistic z := by
  induction z with
  | bot => simp
  | top => simp
  | coe r =>
    rw [Ideal.logistic_coe]
    have : (0 : ℝ) ≤ (1 + Real.exp (-r))⁻¹ := by positivity
    exact_mod_cast this

theorem log1p_exp_nonneg (z : EReal) : 0 ≤ Ideal.log1p (Ideal.exp z) := by
  induction z with
  | bot => rw [Ideal.log1p, Ideal.exp_bot, add_zero, ← EReal.coe_one, Ideal.log_coe, if_neg (by norm_num), Real.log_one, EReal.coe_zero]
  | top => simp [Ideal.log1p, EReal.add_top_of_ne_bot (show (1 : EReal) ≠ ⊥ from EReal.coe_ne_bot 1)]
  | coe r =>
    have h : (1 : EReal) + Ideal.exp (r : EReal) = ((1 + Real.exp r : ℝ) : EReal) := by rw [Ideal.exp_coe, ← EReal.coe_one, ← EReal.coe_add]
    have hp : (0 : ℝ) < 1 + Real.exp r := by positivity
    rw [Ideal.log1p, h, Ideal.log_coe, if_neg (not_le.2 hp)]
    exact_mod_cast Real.log_nonneg (by linarith [Real.exp_pos r])

/-- softplus of the negated parameter. -/
def sp (l : EReal) : EReal := max (-l) 0 + Ideal.log1p (Ideal.exp (-(max (-l) (- -l))))
theorem sp_nonneg (l : EReal) : 0 ≤ sp l := add_nonneg (le_max_right _ _) (log1p_exp_nonneg _)

/-- The exponent of the decay. -/
def ex (r l : EReal) : EReal := Ideal.logistic r * (8 * sp l)
theorem ex_nonneg (r l : EReal) : 0 ≤ ex r l := mul_nonneg (logistic_nonneg r) (mul_nonneg (by norm_num) (sp_nonneg l))
theorem log_decay (r l : EReal) : -8 * Ideal.logistic r * sp l = -ex r l := by
  rw [ex, neg_mul, neg_mul, mul_comm 8 (Ideal.logistic r), mul_assoc]

def decay (r l : EReal) : EReal := Ideal.exp (-ex r l)
theorem decay_nonneg (r l : EReal) : 0 ≤ decay r l := exp_nonneg _
theorem decay_ne_top (r l : EReal) : decay r l ≠ ⊤ := by
  have h := ex_nonneg r l
  unfold decay
  generalize ex r l = n at h
  induction n with
  | bot => simp at h
  | top => simp
  | coe r => rw [← EReal.coe_neg, Ideal.exp_coe]; exact EReal.coe_ne_top _

theorem tanh_id (r : ℝ) : Real.tanh r * (Real.exp (-r) * Real.exp (-r) + 1) = 1 - Real.exp (-(2 * r)) := by
  have h1 : Real.exp r * Real.exp (-r) = 1 := by rw [← Real.exp_add]; simp
  have h2 : Real.exp (-(2 * r)) = Real.exp (-r) * Real.exp (-r) := by rw [← Real.exp_add]; ring_nf
  have hp := Real.exp_pos r
  have hq := Real.exp_pos (-r)
  rw [h2, Real.tanh_eq_sinh_div_cosh, Real.sinh_eq, Real.cosh_eq]
  field_simp
  nlinarith [h1]

theorem root (n : EReal) (hn : 0 ≤ n) :
    Ideal.exp2 (Ideal.log (max (Ideal.tanh n * (Ideal.exp (-n) * Ideal.exp (-n) + 1)) 0) * (((2 * Real.log 2)⁻¹ : ℝ) : EReal))
      = Ideal.sqrt (max (-(Ideal.exp (2 * -n) - 1)) 0) := by
  have key : ∀ y : ℝ, 0 ≤ y → Ideal.exp2 (Ideal.log ((y : ℝ) : EReal) * (((2 * Real.log 2)⁻¹ : ℝ) : EReal)) = Ideal.sqrt ((y : ℝ) : EReal) := by
    intro y hy
    have hl : (0 : ℝ) < Real.log 2 := Real.log_pos (by norm_num)
    rcases hy.eq_or_lt with rfl | hy
    · rw [Ideal.log_coe, if_pos le_rfl, EReal.bot_mul_coe_of_pos (by positivity), Ideal.exp2_bot, Ideal.sqrt_coe, if_neg (lt_irrefl _), Real.sqrt_zero,
        EReal.coe_zero]
    · rw [Ideal.log_coe, if_neg (not_le.2 hy), ← EReal.coe_mul, Ideal.exp2_coe, Ideal.sqrt_coe, if_neg (not_lt.2 hy.le)]
      congr 1
      change (2 : ℝ) ^ (Real.log y * (2 * Real.log 2)⁻¹) = _
      rw [Real.rpow_def_of_pos (by norm_num), Real.sqrt_eq_rpow, Real.rpow_def_of_pos hy]
      congr 1
      field_simp
  induction n with
  | bot => simp at hn
  | top =>
    have h1 := key 1 zero_le_one
    have e2 : (2 : EReal) * ⊥ = ⊥ := EReal.coe_mul_bot_of_pos (x := 2) (by norm_num)
    rw [EReal.neg_top, e2, Ideal.exp_bot, Ideal.tanh_top, zero_mul, zero_add, one_mul, zero_sub, neg_neg, max_eq_left zero_le_one]
    exact_mod_cast h1
  | coe r =>
    have hr : 0 ≤ r := by exact_mod_cast hn
    have hy : 0 ≤ 1 - Real.exp (-(2 * r)) := by
      have : Real.exp (-(2 * r)) ≤ 1 := Real.exp_le_one_iff.2 (by linarith)
      linarith
    have e1 : Ideal.tanh (r : EReal) * (Ideal.exp (-(r : EReal)) * Ideal.exp (-(r : EReal)) + 1) = ((1 - Real.exp (-(2 * r)) : ℝ) : EReal) := by
      rw [← tanh_id, ← EReal.coe_neg, Ideal.exp_coe, Ideal.tanh_coe, ← EReal.coe_one, ← EReal.coe_mul, ← EReal.coe_add, ← EReal.coe_mul]
    have e2 : -(Ideal.exp (2 * -(r : EReal)) - 1) = ((1 - Real.exp (-(2 * r)) : ℝ) : EReal) := by
      have : (2 : EReal) * -(r : EReal) = ((-(2 * r) : ℝ) : EReal) := by
        rw [mul_neg, EReal.coe_neg, EReal.coe_mul]; rfl
      rw [this, Ideal.exp_coe, ← EReal.coe_one, ← EReal.coe_sub, ← EReal.coe_neg, neg_sub]
    have e3 : max ((1 - Real.exp (-(2 * r)) : ℝ) : EReal) 0 = ((1 - Real.exp (-(2 * r)) : ℝ) : EReal) := max_eq_left (by exact_mod_cast hy)
    rw [e1, e2, e3]
    exact key _ hy

/-- What multiplies the gated input. -/
def factor (r l : EReal) : EReal := Ideal.sqrt (max (-(Ideal.exp (2 * -ex r l) - 1)) 0)

/-! ## The recurrence -/

variable (a i : ℕ → EReal)

def state : ℕ → EReal
  | 0 => 0
  | t + 1 => a t * state t + i t
def seg (s : ℕ) : ℕ → EReal
  | 0 => 0
  | j + 1 => a (s + j) * seg s j + i (s + j)
def prod (s : ℕ) : ℕ → EReal
  | 0 => 1
  | j + 1 => a (s + j) * prod s j

theorem seg_state (h0 : ∀ t, 0 ≤ a t) (h1 : ∀ t, a t ≠ ⊤) (s j : ℕ) : seg a i s j + prod a s j * state a i s = state a i (s + j) := by
  induction j with
  | zero => simp [seg, prod]
  | succ j ih =>
    show a (s + j) * seg a i s j + i (s + j) + a (s + j) * prod a s j * state a i s = a (s + j) * state a i (s + j) + i (s + j)
    rw [← ih, EReal.left_distrib_of_nonneg_of_ne_top (h0 _) (h1 _), mul_assoc, add_right_comm]

end Cert.Lrued

end
-- ==== Proof.LruSeq.lean ====
/- The gated linear recurrence as one function of its arrays, index by index. -/
module

public import proofs.«01_k».proof.Proof.LruMath
public import Idealize.ShloMosaic.Lib.Pointwise

@[expose] public section

noncomputable section

namespace Cert.Lrued

open Idealize.ShloMosaic

abbrev at2 (a b : ℕ) [NeZero a] [NeZero b] (X : (⟨2, ![a, b]⟩ : Shape).Idx → EReal) (x y : ℕ) : EReal := X (ix2 (Fin.ofNat a x) (Fin.ofNat b y))
abbrev at3 (a b c : ℕ) [NeZero a] [NeZero b] [NeZero c] (X : (⟨3, ![a, b, c]⟩ : Shape).Idx → EReal) (x y z : ℕ) : EReal :=
  X (ix3 (Fin.ofNat a x) (Fin.ofNat b y) (Fin.ofNat c z))

/-- The ten arrays. -/
structure Arrays where
  x : FVec Ideal (⟨3, ![4, 4096, 1024]⟩ : Shape) .f32
  w : FVec Ideal (⟨2, ![1024, 9216]⟩ : Shape) .f32
  b : FVec Ideal (⟨2, ![1, 9216]⟩ : Shape) .f32
  cw : FVec Ideal (⟨2, ![4, 1024]⟩ : Shape) .f32
  cb : FVec Ideal (⟨2, ![1, 1024]⟩ : Shape) .f32
  wr : FVec Ideal (⟨3, ![16, 64, 64]⟩ : Shape) .f32
  br : FVec Ideal (⟨2, ![1, 1024]⟩ : Shape) .f32
  wi : FVec Ideal (⟨3, ![16, 64, 64]⟩ : Shape) .f32
  bi : FVec Ideal (⟨2, ![1, 1024]⟩ : Shape) .f32
  lam : FVec Ideal (⟨2, ![1, 1024]⟩ : Shape) .f32

variable (V : Arrays)

def proj (b t k : ℕ) : EReal := (∑ d : Fin 1024, at3 4 4096 1024 V.x b t d.val * at2 1024 9216 V.w d.val k) + at2 1 9216 V.b 0 k
/-- The recurrent branch's stream, three rows of zeros ahead. -/
def stream (b r c : ℕ) : EReal := if r < 3 then 0 else proj V b (r - 3) (5120 + c)
def filtered (b t c : ℕ) : EReal :=
  at2 1 1024 V.cb 0 c + stream V b t c * at2 4 1024 V.cw 0 c + stream V b (t + 1) c * at2 4 1024 V.cw 1 c
    + stream V b (t + 2) c * at2 4 1024 V.cw 2 c + stream V b (t + 3) c * at2 4 1024 V.cw 3 c
def gateOf (W : FVec Ideal (⟨3, ![16, 64, 64]⟩ : Shape) .f32) (B : FVec Ideal (⟨2, ![1, 1024]⟩ : Shape) .f32) (b t c : ℕ) : EReal :=
  (∑ j : Fin 64, filtered V b t (64 * (c / 64) + j.val) * at3 16 64 64 W (c / 64) j.val (c % 64)) + at2 1 1024 B 0 c
def decayAt (b c t : ℕ) : EReal := decay (gateOf V V.wr V.br b t c) (at2 1 1024 V.lam 0 c)
def inputAt (b c t : ℕ) : EReal :=
  factor (gateOf V V.wr V.br b t c) (at2 1 1024 V.lam 0 c) * (Ideal.logistic (gateOf V V.wi V.bi b t c) * filtered V b t c)
def silu (z : EReal) : EReal := z * Ideal.logistic z
def recur (b t c : ℕ) : EReal := state (decayAt V b c) (inputAt V b c) (t + 1) * silu (proj V b t (6144 + c))

end Cert.Lrued

end
-- ==== Proof.LruValue.lean ====
/- The values of one grid point of the recurrence's call, as the function of Proof/LruSeq.lean at the point's batch and columns. -/
module

public import proofs.«01_k».proof.Proof.LruIdealSpec
public import proofs.«01_k».proof.Proof.LruSeq
public import Idealize.ShloMosaic.Lib.Pointwise
public import Idealize.ShloMosaic.Lib.Tactic.CleanTypes
public import Idealize.ShloMosaic.PureOps.IdealRules

@[expose] public section

set_option maxRecDepth 16384

noncomputable section

namespace Cert.Lrued

open Idealize.ShloMosaic Idealize.ShloMosaic.TcCoe Idealize.ShloMosaic.Tactic
open Cert.LruIdeal Cert.LruIdeal.Gen Cert.Proof.LruIdeal

theorem ofNat_lt (n : ℕ) [NeZero n] (k : ℕ) (h : k < n) : Fin.ofNat n k = ⟨k, h⟩ := Fin.ext (Nat.mod_eq_of_lt h)
theorem ofNat_self (n : ℕ) [NeZero n] (x : Fin n) : Fin.ofNat n x.val = x := Fin.ext (Nat.mod_eq_of_lt x.isLt)

/-- What a point reads, of the arrays: its batch is `b`, its columns begin at `256 * q`. -/
structure Reads (p : Par Ideal) (V : Arrays) (b q : ℕ) : Prop where
  xv : ∀ m, m < 4 → ∀ r d : Fin 1024, p.xv m (ix3 0 r d) = at3 4 4096 1024 V.x b (1024 * m + r.val) d.val
  ws0 : ∀ (d : Fin 1024) (k : ℕ) (h : k < 256) (h' : k < 512), p.ws (ix2 d ⟨k, h'⟩) = at2 1024 9216 V.w d.val (5120 + (256 * q + k))
  ws1 : ∀ (d : Fin 1024) (k : ℕ) (h : k < 256) (h' : 256 + k < 512), p.ws (ix2 d ⟨256 + k, h'⟩) = at2 1024 9216 V.w d.val (6144 + (256 * q + k))
  wg0 : ∀ (j : Fin 256) (k : ℕ) (h : k < 256) (h' : k < 512), p.wg (ix2 j ⟨k, h'⟩)
    = if j.val / 64 = k / 64 then at3 16 64 64 V.wr (4 * q + j.val / 64) (j.val % 64) (k % 64) else 0
  wg1 : ∀ (j : Fin 256) (k : ℕ) (h : k < 256) (h' : 256 + k < 512), p.wg (ix2 j ⟨256 + k, h'⟩)
    = if j.val / 64 = k / 64 then at3 16 64 64 V.wi (4 * q + j.val / 64) (j.val % 64) (k % 64) else 0
  v8 : ∀ k : Fin 256, p.v8 (ix2 0 k) = at2 1 9216 V.b 0 (5120 + (256 * q + k.val))
  v13 : ∀ k : Fin 256, p.v13 (ix2 0 k) = at2 1 9216 V.b 0 (6144 + (256 * q + k.val))
  v18 : ∀ (r : Fin 4) (k : Fin 256), p.v18 (ix2 r k) = at2 4 1024 V.cw r.val (256 * q + k.val)
  v23 : ∀ k : Fin 256, p.v23 (ix2 0 k) = at2 1 1024 V.cb 0 (256 * q + k.val)
  v28 : ∀ k : Fin 256, p.v28 (ix2 0 k) = at2 1 1024 V.br 0 (256 * q + k.val)
  v33 : ∀ k : Fin 256, p.v33 (ix2 0 k) = at2 1 1024 V.bi 0 (256 * q + k.val)
  v117 : ∀ k : Fin 256, p.v117 (ix2 0 k) = 8 * sp (at2 1 1024 V.lam 0 (256 * q + k.val))

variable {p : Par Ideal} {V : Arrays} {b q : ℕ} (R : Reads p V b q)
include R

theorem u_value (s r c : ℕ) (hs : s < 2) (hr : r < 4104) (hc : c < 128) :
    uS p s r c = if r < 8 then 0 else proj V b (r - 8) (5120 + (256 * q + (128 * s + c))) := by
  unfold uS
  by_cases h : r < 8
  · rw [if_pos h, if_pos h]; simp
  rw [if_neg h, if_neg h]
  have hm : 1024 * ((r - 8) / 1024) + (r - 8) % 1024 = r - 8 := by omega
  have hd : (r - 8) / 1024 < 4 := by omega
  have hx := R.xv ((r - 8) / 1024) hd ⟨(r - 8) % 1024, by omega⟩
  simp only [hm] at hx
  obtain rfl | rfl : s = 0 ∨ s = 1 := by omega
  · rw [if_pos rfl, i3, ofNat_lt 1024 _ (by omega), ofNat_lt 128 c hc]
    unfold k0_pay29 k0_pay28 k0_pay27
    pointwise []
    unfold proj
    refine congrArg₂ (· + ·) (Finset.sum_congr rfl fun x _ => ?_) (R.v8 ⟨c, by omega⟩)
    rw [hx, R.ws0 x c (by omega)]
  · rw [if_neg (by omega), i3, ofNat_lt 1024 _ (by omega), ofNat_lt 128 c hc]
    unfold k0_pay30 k0_pay28 k0_pay27
    pointwise []
    unfold proj
    refine congrArg₂ (· + ·) (Finset.sum_congr rfl fun x _ => ?_) (R.v8 ⟨128 + c, by omega⟩)
    rw [hx, R.ws0 x (128 + c) (by omega)]

theorem g_value (r c : ℕ) (hr : r < 4096) (hc : c < 256) : gS p r c = silu (proj V b r (6144 + (256 * q + c))) := by
  unfold gS
  have hm : 1024 * (r / 1024) + r % 1024 = r := by omega
  have hx := R.xv (r / 1024) (by omega) ⟨r % 1024, by omega⟩
  simp only [hm] at hx
  rw [i2, ofNat_lt 1024 _ (by omega), ofNat_lt 256 c hc]
  unfold k0_pay61 k0_pay27
  pointwise []
  have e : (∑ x : Fin 1024, p.xv (r / 1024) (ix3 0 ⟨r % 1024, by omega⟩ x) * p.ws (ix2 x ⟨256 + c, by omega⟩)) + p.v13 (ix2 0 ⟨c, hc⟩)
      = proj V b r (6144 + (256 * q + c)) := by
    unfold proj
    refine congrArg₂ (· + ·) (Finset.sum_congr rfl fun x _ => ?_) (R.v13 ⟨c, by omega⟩)
    rw [hx, R.ws1 x c (by omega)]
  rw [e]
  rfl

theorem u_stream (s r c : ℕ) (hs : s < 2) (h5 : 5 ≤ r) (hr : r < 4104) (hc : c < 128) (C : ℕ) (hC : C = 128 * s + c) (r' : ℕ) (hr' : r' + 5 = r) :
    uS p s r c = stream V b r' (256 * q + C) := by
  subst hC hr'
  rw [u_value R s (r' + 5) c hs hr hc, stream]
  by_cases h : r' < 3
  · rw [if_pos h, if_pos (by omega)]
  · rw [if_neg h, if_neg (by omega), show r' + 5 - 8 = r' - 3 by omega]

/-- The filtered rows of chunk `k`. -/
abbrev filt (p : Par Ideal) (k : ℕ) : FVec Ideal S1024x256 .f32 :=
  k0_pay5 p.v18 (k0_pay3 p.v18 (k0_pay2 p.v18 p.v23 (vL p k 0 5) (vL p k 0 6)) (vL p k 0 7) (vL p k 0 8))
    (k0_pay4 p.v18 p.v23 (vL p k 1 5) (vL p k 1 6) (vL p k 1 7)) (vL p k 1 8)

theorem filt_value (k : ℕ) (hk : k < 4) (y : Fin 1024) (c : Fin 256) :
    filt p k (ix2 y c) = filtered V b (1024 * k + y.val) (256 * q + c.val) := by
  unfold filt k0_pay5 k0_pay4 k0_pay3 k0_pay2
  pointwise [vL]
  unfold filtered
  have hy := y.isLt
  have hc' := c.isLt
  split
  · next h =>
    rw [u_stream R 0 _ c.val (by omega) (by omega) (by omega) h c.val (by omega) (1024 * k + y.val) (by omega),
      u_stream R 0 _ c.val (by omega) (by omega) (by omega) h c.val (by omega) (1024 * k + y.val + 1) (by omega),
      u_stream R 0 _ c.val (by omega) (by omega) (by omega) h c.val (by omega) (1024 * k + y.val + 2) (by omega),
      u_stream R 0 _ c.val (by omega) (by omega) (by omega) h c.val (by omega) (1024 * k + y.val + 3) (by omega),
      R.v23, R.v18, R.v18, R.v18, R.v18]
    rfl
  · next h =>
    have e : (⟨128 + (c.val - 128), by omega⟩ : Fin 256) = c := Fin.ext (by show 128 + (c.val - 128) = c.val; omega)
    rw [u_stream R 1 _ (c.val - 128) (by omega) (by omega) (by omega) (by omega) c.val (by omega) (1024 * k + y.val) (by omega),
      u_stream R 1 _ (c.val - 128) (by omega) (by omega) (by omega) (by omega) c.val (by omega) (1024 * k + y.val + 1) (by omega),
      u_stream R 1 _ (c.val - 128) (by omega) (by omega) (by omega) (by omega) c.val (by omega) (1024 * k + y.val + 2) (by omega),
      u_stream R 1 _ (c.val - 128) (by omega) (by omega) (by omega) (by omega) c.val (by omega) (1024 * k + y.val + 3) (by omega),
      e, R.v23, R.v18, R.v18, R.v18, R.v18]
    rfl

omit R in
theorem block_sum (f g : ℕ → EReal) (m : ℕ) (hm : m < 4) :
    ∑ x : Fin 256, f x.val * (if x.val / 64 = m then g (x.val % 64) else 0) = ∑ j : Fin 64, f (64 * m + j.val) * g j.val := by
  have e : ∑ x : Fin 256, f x.val * (if x.val / 64 = m then g (x.val % 64) else 0)
      = ∑ i : Fin 4 × Fin 64, f (i.2.val + 64 * i.1.val) * (if i.1.val = m then g i.2.val else 0) := by
    refine (Fintype.sum_equiv (finProdFinEquiv (m := 4) (n := 64)) _ (fun x : Fin (4 * 64) => f x.val * (if x.val / 64 = m then g (x.val % 64) else 0)) fun i => ?_).symm
    have h1 := i.1.isLt
    have h2 := i.2.isLt
    show f (i.2.val + 64 * i.1.val) * _ = f (i.2.val + 64 * i.1.val) * (if (i.2.val + 64 * i.1.val) / 64 = m then g ((i.2.val + 64 * i.1.val) % 64) else 0)
    rw [show (i.2.val + 64 * i.1.val) / 64 = i.1.val by omega, show (i.2.val + 64 * i.1.val) % 64 = i.2.val by omega]
  rw [e, Fintype.sum_prod_type, Finset.sum_eq_single (⟨m, hm⟩ : Fin 4)]
  · refine Finset.sum_congr rfl fun j _ => ?_
    show f (j.val + 64 * m) * (if m = m then g j.val else 0) = _
    rw [if_pos rfl, Nat.add_comm]
  · intro i _ hi
    refine Finset.sum_eq_zero fun j _ => ?_
    rw [if_neg (fun h => hi (Fin.ext h)), mul_zero]
  · intro h
    exact absurd (Finset.mem_univ _) h

theorem gate0_value (k : ℕ) (hk : k < 4) (y : Fin 1024) (c : Fin 256) (h' : c.val < 512) :
    (∑ x : Fin 256, filt p k (ix2 y x) * p.wg (ix2 x ⟨c.val, h'⟩)) + p.v28 (ix2 0 c) = gateOf V V.wr V.br b (1024 * k + y.val) (256 * q + c.val) := by
  have hc := c.isLt
  unfold gateOf
  refine congrArg₂ (· + ·) ?_ (R.v28 c)
  rw [show (256 * q + c.val) / 64 = 4 * q + c.val / 64 by omega, show (256 * q + c.val) % 64 = c.val % 64 by omega]
  have e := block_sum (fun x => filtered V b (1024 * k + y.val) (256 * q + x)) (fun j => at3 16 64 64 V.wr (4 * q + c.val / 64) j (c.val % 64)) (c.val / 64) (by omega)
  refine Eq.trans (Finset.sum_congr rfl fun x _ => ?_) (e.trans (Finset.sum_congr rfl fun j _ => ?_))
  · rw [filt_value R k hk, R.wg0 x c.val hc]
    by_cases h : x.val / 64 = c.val / 64
    · rw [if_pos h, if_pos h, h]
    · rw [if_neg h, if_neg h]
  · show filtered V b (1024 * k + y.val) (256 * q + (64 * (c.val / 64) + j.val)) * _ = _
    rw [show 256 * q + (64 * (c.val / 64) + j.val) = 64 * (4 * q + c.val / 64) + j.val by omega]

theorem gate1_value (k : ℕ) (hk : k < 4) (y : Fin 1024) (c : Fin 256) (h' : 256 + c.val < 512) :
    (∑ x : Fin 256, filt p k (ix2 y x) * p.wg (ix2 x ⟨256 + c.val, h'⟩)) + p.v33 (ix2 0 c) = gateOf V V.wi V.bi b (1024 * k + y.val) (256 * q + c.val) := by
  have hc := c.isLt
  unfold gateOf
  refine congrArg₂ (· + ·) ?_ (R.v33 c)
  rw [show (256 * q + c.val) / 64 = 4 * q + c.val / 64 by omega, show (256 * q + c.val) % 64 = c.val % 64 by omega]
  have e := block_sum (fun x => filtered V b (1024 * k + y.val) (256 * q + x)) (fun j => at3 16 64 64 V.wi (4 * q + c.val / 64) j (c.val % 64)) (c.val / 64) (by omega)
  refine Eq.trans (Finset.sum_congr rfl fun x _ => ?_) (e.trans (Finset.sum_congr rfl fun j _ => ?_))
  · rw [filt_value R k hk, R.wg1 x c.val hc]
    by_cases h : x.val / 64 = c.val / 64
    · rw [if_pos h, if_pos h, h]
    · rw [if_neg h, if_neg h]
  · show filtered V b (1024 * k + y.val) (256 * q + (64 * (c.val / 64) + j.val)) * _ = _
    rw [show 256 * q + (64 * (c.val / 64) + j.val) = 64 * (4 * q + c.val / 64) + j.val by omega]

omit R in
theorem named : (Named.named κ "half_log2_e" 0x3F38AA3B#32 : Ideal .f32) = (((2 * Real.log 2)⁻¹ : ℝ) : EReal) :=
  IdealRules.named_const.ideal_named_scalar _ _ _ _ rfl

theorem a_value (k : ℕ) (hk : k < 4) (y : Fin 1024) (c : Fin 256) : aC p k (ix2 y c) = decayAt V b (256 * q + c.val) (1024 * k + y.val) := by
  unfold aC k0_pay8 k0_pay7 k0_pay6
  pointwise []
  rw [gate0_value R k hk y c, R.v117, zero_sub]
  rfl

theorem i_value (k : ℕ) (hk : k < 4) (y : Fin 1024) (c : Fin 256) : iC p k (ix2 y c) = inputAt V b (256 * q + c.val) (1024 * k + y.val) := by
  unfold iC k0_pay9 k0_pay8 k0_pay7 k0_pay6
  pointwise []
  have e := filt_value R k hk y c
  unfold filt at e
  rw [gate0_value R k hk y c, gate1_value R k hk y c, R.v117, e, zero_sub, named]
  show Ideal.exp2 (Ideal.log (max (Ideal.tanh (ex (gateOf V V.wr V.br b (1024 * k + y.val) (256 * q + c.val)) (at2 1 1024 V.lam 0 (256 * q + c.val)))
    * (Ideal.exp (-ex (gateOf V V.wr V.br b (1024 * k + y.val) (256 * q + c.val)) (at2 1 1024 V.lam 0 (256 * q + c.val)))
      * Ideal.exp (-ex (gateOf V V.wr V.br b (1024 * k + y.val) (256 * q + c.val)) (at2 1 1024 V.lam 0 (256 * q + c.val))) + 1)) 0)
    * (((2 * Real.log 2)⁻¹ : ℝ) : EReal)) * _ = _
  rw [root _ (ex_nonneg _ _)]
  rfl

/-! ## The segments -/

omit R in
theorem seg_index (d j r : ℕ) (hj : j < 256) (hr : r < 8) (hd : d < 2) :
    (2080 * d + 260 * r + j) / 1040 = 2 * d + r / 4 ∧ (2080 * d + 260 * r + j) % 1040 / 260 = r % 4 ∧ (2080 * d + 260 * r + j) % 260 = j := by omega

theorem aL_value (s d j : ℕ) (hs : s < 2) (hd : d < 2) (hj : j < 256) (r : Fin 8) (c : Fin 128) :
    aL p s d j (ix3 0 r c) = decayAt V b (256 * q + (128 * s + c.val)) (256 * (8 * d + r.val) + j) := by
  have hr := r.isLt
  have hc := c.isLt
  obtain ⟨e1, e2, e3⟩ := seg_index d j r.val hj hr hd
  show aC p ((2080 * d + 260 * r.val + j) / 1040) (i2 1024 256 (256 * ((2080 * d + 260 * r.val + j) % 1040 / 260) + (2080 * d + 260 * r.val + j) % 260) (128 * s + c.val)) = _
  rw [e1, e2, e3, i2, ofNat_lt 1024 _ (show 256 * (r.val % 4) + j < 1024 by omega), ofNat_lt 256 _ (show 128 * s + c.val < 256 by omega), a_value R _ (by omega)]
  congr 1
  show 1024 * (2 * d + r.val / 4) + (256 * (r.val % 4) + j) = _
  omega

theorem iL_value (s d j : ℕ) (hs : s < 2) (hd : d < 2) (hj : j < 256) (r : Fin 8) (c : Fin 128) :
    iL p s d j (ix3 0 r c) = inputAt V b (256 * q + (128 * s + c.val)) (256 * (8 * d + r.val) + j) := by
  have hr := r.isLt
  have hc := c.isLt
  obtain ⟨e1, e2, e3⟩ := seg_index d j r.val hj hr hd
  show iC p ((2080 * d + 260 * r.val + j) / 1040) (i2 1024 256 (256 * ((2080 * d + 260 * r.val + j) % 1040 / 260) + (2080 * d + 260 * r.val + j) % 260) (128 * s + c.val)) = _
  rw [e1, e2, e3, i2, ofNat_lt 1024 _ (show 256 * (r.val % 4) + j < 1024 by omega), ofNat_lt 256 _ (show 128 * s + c.val < 256 by omega), i_value R _ (by omega)]
  congr 1
  show 1024 * (2 * d + r.val / 4) + (256 * (r.val % 4) + j) = _
  omega

theorem hV_value (s d : ℕ) (hs : s < 2) (hd : d < 2) (r : Fin 8) (c : Fin 128) : ∀ j, j ≤ 256 → hV p s d j (ix2 r c)
    = seg (decayAt V b (256 * q + (128 * s + c.val))) (inputAt V b (256 * q + (128 * s + c.val))) (256 * (8 * d + r.val)) j
  | 0, _ => by
    show k0_pay88 (ix2 r c) = 0
    unfold k0_pay88
    pointwise []
  | j + 1, h => by
    show k0_pay32 (hV p s d j) (aL p s d j) (iL p s d j) (ix2 r c) = _
    unfold k0_pay32 k0_pay31
    pointwise []
    rw [hV_value s d hs hd r c j (by omega), aL_value R s d j hs hd (by omega), iL_value R s d j hs hd (by omega)]
    rfl

theorem pV_value (s d : ℕ) (hs : s < 2) (hd : d < 2) (r : Fin 8) (c : Fin 128) : ∀ j, j ≤ 256 → pV p s d j (ix2 r c)
    = prod (decayAt V b (256 * q + (128 * s + c.val))) (256 * (8 * d + r.val)) j
  | 0, _ => by
    show k0_pay89 (ix2 r c) = 1
    unfold k0_pay89
    pointwise []
  | j + 1, h => by
    show k0_pay33 (pV p s d j) (aL p s d j) (ix2 r c) = _
    unfold k0_pay33 k0_pay31
    pointwise []
    rw [pV_value s d hs hd r c j (by omega), aL_value R s d j hs hd (by omega)]
    rfl

omit R in
theorem joined (B C : ℕ) (s j : ℕ) : seg (decayAt V B C) (inputAt V B C) s j + prod (decayAt V B C) s j * state (decayAt V B C) (inputAt V B C) s
    = state (decayAt V B C) (inputAt V B C) (s + j) :=
  seg_state _ _ (fun _ => decay_nonneg _ _) (fun _ => decay_ne_top _ _) s j

theorem cin_value (s c : ℕ) (hs : s < 2) (hc : c < 128) : ∀ n, n ≤ 15 → cin p s c n
    = state (decayAt V b (256 * q + (128 * s + c))) (inputAt V b (256 * q + (128 * s + c))) (256 * n)
  | 0, _ => by
    show Ideal.ofBits .f32 0x00000000#32 = 0
    simp
  | n + 1, h => by
    show hV p s (n / 8) 256 (i2 8 128 (n % 8) c) + pV p s (n / 8) 256 (i2 8 128 (n % 8) c) * cin p s c n = _
    rw [cin_value s c hs hc n (by omega), i2, ofNat_lt 8 _ (show n % 8 < 8 by omega), ofNat_lt 128 _ hc,
      hV_value R s (n / 8) hs (by omega) _ _ 256 le_rfl, pV_value R s (n / 8) hs (by omega) _ _ 256 le_rfl]
    show seg _ _ (256 * (8 * (n / 8) + n % 8)) 256 + prod _ (256 * (8 * (n / 8) + n % 8)) 256 * _ = _
    rw [show 8 * (n / 8) + n % 8 = n by omega]
    exact joined b _ (256 * n) 256

/-- The point's result. -/
theorem out_value (r c : ℕ) (hr : r < 4096) (hc : c < 256) : oS p r c = recur V b r (256 * q + c) := by
  have e1 : (260 * (r / 256) + r % 256) / 2080 = r / 2048 := by omega
  have e2 : (260 * (r / 256) + r % 256) % 260 = r % 256 := by omega
  have e3 : (260 * (r / 256) + r % 256) % 2080 / 260 = r / 256 % 8 := by omega
  show (hV p (c / 128) ((260 * (r / 256) + r % 256) / 2080) ((260 * (r / 256) + r % 256) % 260 + 1) (i2 8 128 ((260 * (r / 256) + r % 256) % 2080 / 260) (c % 128))
    + pV p (c / 128) ((260 * (r / 256) + r % 256) / 2080) ((260 * (r / 256) + r % 256) % 260 + 1) (i2 8 128 ((260 * (r / 256) + r % 256) % 2080 / 260) (c % 128))
      * cin p (c / 128) (c % 128) (r / 256)) * gS p r c = _
  have hc2 : 128 * (c / 128) + c % 128 = c := by omega
  rw [e1, e2, e3, g_value R r c hr hc, cin_value R (c / 128) (c % 128) (by omega) (by omega) _ (by omega), i2, ofNat_lt 8 _ (show r / 256 % 8 < 8 by omega),
    ofNat_lt 128 _ (show c % 128 < 128 by omega), hV_value R (c / 128) (r / 2048) (by omega) (by omega) _ _ _ (by omega),
    pV_value R (c / 128) (r / 2048) (by omega) (by omega) _ _ _ (by omega)]
  show (seg (decayAt V b (256 * q + (128 * (c / 128) + c % 128))) _ (256 * (8 * (r / 2048) + r / 256 % 8)) _ + prod _ (256 * (8 * (r / 2048) + r / 256 % 8)) _ * _) * _ = _
  rw [hc2, show 8 * (r / 2048) + r / 256 % 8 = r / 256 by omega, joined, show 256 * (r / 256) + (r % 256 + 1) = r + 1 by omega]
  rw [show 6144 + (256 * q + c) = 6144 + (256 * q + c) from rfl]
  rfl

end Cert.Lrued

end
-- ==== Proof.LruBlocks.lean ====
/- What each grid point of the recurrence's call reads of the argument arrays. -/
module

public import proofs.«01_k».proof.Proof.LruIdealInit
public import proofs.«01_k».proof.Proof.LruValue
public import proofs.«01_k».proof.Proof.Gen.LruIdeal.Frame
public import Idealize.ShloMosaic.Lib.Pipeline.ValueKit

@[expose] public section

set_option maxRecDepth 16384

noncomputable section

namespace Cert.Lrued

open Idealize.ShloMosaic Idealize.ShloMosaic.TcCoe Idealize.ShloMosaic.Tactic
open Cert.LruIdeal Cert.LruIdeal.Gen Cert.Proof.LruIdeal

variable (m : (ℓ : Loc nD τ sig) → Buf (Elt Ideal) ℓ)

/-- The argument arrays of the call. -/
def arraysK (c : Dev nD) : Arrays where
  x := m ((c : Thread nD τ).loc main_arg0)
  w := m ((c : Thread nD τ).loc main_arg1)
  b := m ((c : Thread nD τ).loc main_arg2)
  cw := m ((c : Thread nD τ).loc main_arg3)
  cb := m ((c : Thread nD τ).loc main_arg4)
  wr := m ((c : Thread nD τ).loc main_arg5)
  br := m ((c : Thread nD τ).loc main_arg6)
  wi := m ((c : Thread nD τ).loc main_arg7)
  bi := m ((c : Thread nD τ).loc main_arg8)
  lam := m ((c : Thread nD τ).loc main_arg9)

theorem idx_cols : ∀ t : Fin cfg0.N, win0_0.index t = ![0, 20 + t.val % 4] ∧ win0_1.index t = ![0, 24 + t.val % 4]
    ∧ win0_2.index t = ![t.val % 4, 0, 0] ∧ win0_3.index t = ![t.val % 4, 0, 0] ∧ win0_10.index t = ![t.val / 4, 0, t.val % 4] :=
  (by decide +kernel : ∀ t : Fin grid0.N, _)

theorem idx_whole : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

theorem off_cols : ∀ t : Fin cfg0.N, k0_off1 (grid0.coords t) 5120#32 = ![0, 5120 + 256 * (t.val % 4)] ∧ k0_off1 (grid0.coords t) 6144#32 = ![0, 6144 + 256 * (t.val % 4)]
    ∧ k0_off2 (grid0.coords t) = ![0, 256 * (t.val % 4)] ∧ k0_off3 (grid0.coords t) = ![0, 256 * (t.val % 4)] :=
  (by decide +kernel : ∀ t : Fin grid0.N, _)

theorem q_pt : ∀ t : Fin cfg0.N, qOf (grid0.coords t) = 4 * t.val :=
  (by decide +kernel : ∀ t : Fin grid0.N, _)

theorem pts (t : Fin cfg0.N) : t.val < 16 := lt_of_lt_of_eq t.isLt N_0

theorem blk0 (c : Dev nD) (t : Fin cfg0.N) (d : Fin 1024) (k : Fin 256) :
    iblk m c 0 t (ix2 d k) = m ((c : Thread nD τ).loc main_arg1) (ix2 d ⟨(20 + t.val % 4) * 256 + k.val, by have := pts t; omega⟩) := by
  blk_ext [iblk, V, idx_cols t]
theorem blk1 (c : Dev nD) (t : Fin cfg0.N) (d : Fin 1024) (k : Fin 256) :
    iblk m c 1 t (ix2 d k) = m ((c : Thread nD τ).loc main_arg1) (ix2 d ⟨(24 + t.val % 4) * 256 + k.val, by have := pts t; omega⟩) := by
  blk_ext [iblk, V, idx_cols t]
theorem blk2 (c : Dev nD) (t : Fin cfg0.N) (a : Fin 4) (d k : Fin 64) :
    iblk m c 2 t (ix3 a d k) = m ((c : Thread nD τ).loc main_arg5) (ix3 ⟨(t.val % 4) * 4 + a.val, by omega⟩ d k) := by
  blk_ext [iblk, V, idx_cols t]
theorem blk3 (c : Dev nD) (t : Fin cfg0.N) (a : Fin 4) (d k : Fin 64) :
    iblk m c 3 t (ix3 a d k) = m ((c : Thread nD τ).loc main_arg7) (ix3 ⟨(t.val % 4) * 4 + a.val, by omega⟩ d k) := by
  blk_ext [iblk, V, idx_cols t]
theorem blk4 (c : Dev nD) (t : Fin cfg0.N) (a : Fin 1) (k : Fin 9216) :
    iblk m c 4 t (ix2 a k) = m ((c : Thread nD τ).loc main_arg2) (ix2 a k) := by
  blk_ext [iblk, V, idx_whole t]
theorem blk5 (c : Dev nD) (t : Fin cfg0.N) (a : Fin 4) (k : Fin 1024) :
    iblk m c 5 t (ix2 a k) = m ((c : Thread nD τ).loc main_arg3) (ix2 a k) := by
  blk_ext [iblk, V, idx_whole t]
theorem blk6 (c : Dev nD) (t : Fin cfg0.N) (a : Fin 1) (k : Fin 1024) :
    iblk m c 6 t (ix2 a k) = m ((c : Thread nD τ).loc main_arg4) (ix2 a k) := by
  blk_ext [iblk, V, idx_whole t]
theorem blk7 (c : Dev nD) (t : Fin cfg0.N) (a : Fin 1) (k : Fin 1024) :
    iblk m c 7 t (ix2 a k) = m ((c : Thread nD τ).loc main_arg6) (ix2 a k) := by
  blk_ext [iblk, V, idx_whole t]
theorem blk8 (c : Dev nD) (t : Fin cfg0.N) (a : Fin 1) (k : Fin 1024) :
    iblk m c 8 t (ix2 a k) = m ((c : Thread nD τ).loc main_arg8) (ix2 a k) := by
  blk_ext [iblk, V, idx_whole t]
theorem blk9 (c : Dev nD) (t : Fin cfg0.N) (a : Fin 1) (k : Fin 1024) :
    iblk m c 9 t (ix2 a k) = m ((c : Thread nD τ).loc main_arg9) (ix2 a k) := by
  blk_ext [iblk, V, idx_whole t]

/-- What point `t` reads: its blocks as the staging buffers hold them, and x where it lies. -/
abbrev parK (c : Dev nD) (t : Fin cfg0.N) : Par Ideal :=
  parOf c (grid0.coords t) (m ((c : Thread nD τ).loc main_arg0)) (st0_0 t) (st0_1 t) (st0_2 t) (st0_3 t) (st0_4 t) (st0_5 t) (st0_6 t) (st0_7 t) (st0_8 t) (st0_9 t)
    ((st0_0 t).view.rep (iblk m c 0 t)) ((st0_1 t).view.rep (iblk m c 1 t)) ((st0_2 t).view.rep (iblk m c 2 t)) ((st0_3 t).view.rep (iblk m c 3 t))
    ((st0_4 t).view.rep (iblk m c 4 t)) ((st0_5 t).view.rep (iblk m c 5 t)) ((st0_6 t).view.rep (iblk m c 6 t)) ((st0_7 t).view.rep (iblk m c 7 t))
    ((st0_8 t).view.rep (iblk m c 8 t)) ((st0_9 t).view.rep (iblk m c 9 t))

theorem narrowed_slab (f : Vec Ideal S1024x256 .f32) (y) : k0_pay42 f y = f y := by
  unfold k0_pay42; clean_types; pointwise

theorem narrowed_block (f : Vec Ideal S1x64x64 .f32) (a b : Fin 64) : k0_pay45 f (ix2 a b) = f (ix3 0 a b) := by
  unfold k0_pay45; clean_types; pointwise

theorem scaled_lam (f : Vec Ideal S1x256 .f32) (k : Fin 256) : k0_pay55 f (ix2 0 k) = 8 * sp (f (ix2 0 k)) := by
  unfold k0_pay55 sp; clean_types; pointwise [ofBits_eight, zero_sub]; rfl

theorem zero_bf16 : (Scalar.ofBits .bf16 0x0000#16 : Ideal .bf16) = 0 := by
  show Ideal.ofBits .bf16 0x0000#16 = 0
  simp [Ideal.ofBits, Ideal.ieee]

theorem x_block (c : Dev nD) (X : Buf (Elt Ideal) (xM.view.loc (c : Thread nD τ))) (b : Fin 16) (r d : Fin 1024) :
    slotVal c X b (ix3 0 r d) = X (ix3 ⟨b.val / 4, by omega⟩ ⟨1024 * (b.val % 4) + r.val, by omega⟩ d) := by
  have hn : S1024x1024.numel = S1x1024x1024.numel := by decide +kernel
  have e : Shape.reshapeEquiv (s := S1x1024x1024) (s' := S1024x1024) hn (ix2 r d) = ix3 0 r d := by
    refine (Shape.reshapeEquiv_cons_one _ _).trans ?_
    funext a
    fin_cases a <;> rfl
  show X ((Rect.unit (s := S4x4096x1024) (xOff b) S1x1024x1024.size (xOff_inb b)).emb (Shape.reshapeEquiv (s := S1x1024x1024) (s' := S1024x1024) hn (ix2 r d))) = _
  rw [e]
  refine congrArg X (funext fun a => ?_)
  fin_cases a <;> apply Fin.ext <;> simp [ix3]

/-- Columns of a held array, read at an index. -/
theorem cols_read {sp : Space} {a n : ℕ} [NeZero n] (M : Memref sig .tc sp (⟨2, ![a, n]⟩ : Shape) .f32) (f : (⟨2, ![a, n]⟩ : Shape).Idx → Elt Ideal .f32)
    (o : Fin 2 → ℕ) (p : ℕ) (ho : o = ![0, p]) (hb : ∀ i, o i + (![a, 256] : Fin 2 → ℕ) i ≤ (![a, n] : Fin 2 → ℕ) i) (r : Fin a) (k : Fin 256) :
    M.view.readAt (Elt Ideal) (Rect.unit (s := (⟨2, ![a, n]⟩ : Shape)) o ![a, 256] hb).toLoadRect (M.view.rep f) (ix2 r k) = f (ix2 r (Fin.ofNat n (p + k.val))) := by
  subst ho
  rw [View.readAt_rep]
  have h : p + 256 ≤ n := hb 1
  refine congrArg f (funext fun i => ?_)
  fin_cases i <;> apply Fin.ext
  · show 0 + 1 * r.val = r.val; omega
  · show p + 1 * k.val = (p + k.val) % n
    rw [Nat.mod_eq_of_lt (by omega)]; omega

variable (c : Dev nD) (t : Fin cfg0.N)

theorem reads_v8 (k : Fin 256) : (parK m c t).v8 (ix2 0 k) = at2 1 9216 (arraysK m c).b 0 (5120 + (256 * (t.val % 4) + k.val)) :=
  ((cols_read (st0_4 t) (iblk m c 4 t) _ _ (off_cols t).1 _ 0 k).trans (blk4 m c t _ _)).trans (by rw [Nat.add_assoc]; rfl)
theorem reads_v13 (k : Fin 256) : (parK m c t).v13 (ix2 0 k) = at2 1 9216 (arraysK m c).b 0 (6144 + (256 * (t.val % 4) + k.val)) :=
  ((cols_read (st0_4 t) (iblk m c 4 t) _ _ (off_cols t).2.1 _ 0 k).trans (blk4 m c t _ _)).trans (by rw [Nat.add_assoc]; rfl)
theorem reads_v18 (r : Fin 4) (k : Fin 256) : (parK m c t).v18 (ix2 r k) = at2 4 1024 (arraysK m c).cw r.val (256 * (t.val % 4) + k.val) :=
  ((cols_read (st0_5 t) (iblk m c 5 t) _ _ (off_cols t).2.2.1 _ r k).trans (blk5 m c t _ _)).trans (by unfold at2; rw [ofNat_self 4 r]; rfl)
theorem reads_v23 (k : Fin 256) : (parK m c t).v23 (ix2 0 k) = at2 1 1024 (arraysK m c).cb 0 (256 * (t.val % 4) + k.val) :=
  (cols_read (st0_6 t) (iblk m c 6 t) _ _ (off_cols t).2.2.2 _ 0 k).trans (blk6 m c t _ _)
theorem reads_v28 (k : Fin 256) : (parK m c t).v28 (ix2 0 k) = at2 1 1024 (arraysK m c).br 0 (256 * (t.val % 4) + k.val) :=
  (cols_read (st0_7 t) (iblk m c 7 t) _ _ (off_cols t).2.2.2 _ 0 k).trans (blk7 m c t _ _)
theorem reads_v33 (k : Fin 256) : (parK m c t).v33 (ix2 0 k) = at2 1 1024 (arraysK m c).bi 0 (256 * (t.val % 4) + k.val) :=
  (cols_read (st0_8 t) (iblk m c 8 t) _ _ (off_cols t).2.2.2 _ 0 k).trans (blk8 m c t _ _)
theorem reads_v117 (k : Fin 256) : (parK m c t).v117 (ix2 0 k) = 8 * sp (at2 1 1024 (arraysK m c).lam 0 (256 * (t.val % 4) + k.val)) :=
  (scaled_lam _ k).trans (congrArg (fun z => 8 * sp z) ((cols_read (st0_9 t) (iblk m c 9 t) _ _ (off_cols t).2.2.2 _ 0 k).trans (blk9 m c t _ _)))

theorem reads_ws0 (d : Fin 1024) (k : ℕ) (h : k < 256) (h' : k < 512) :
    (parK m c t).ws (ix2 d ⟨k, h'⟩) = at2 1024 9216 (arraysK m c).w d.val (5120 + (256 * (t.val % 4) + k)) := by
  refine (if_pos h).trans ((narrowed_slab _ _).trans ?_)
  refine (congrFun (View.read_rep (st0_0 t).view (iblk m c 0 t)) (i2 1024 256 d.val k)).trans ((blk0 m c t _ _).trans ?_)
  refine congrArg (arraysK m c).w (congrArg (ix2 _) (Fin.ext ?_))
  show (20 + t.val % 4) * 256 + k % 256 = (5120 + (256 * (t.val % 4) + k)) % 9216
  omega
theorem reads_ws1 (d : Fin 1024) (k : ℕ) (h : k < 256) (h' : 256 + k < 512) :
    (parK m c t).ws (ix2 d ⟨256 + k, h'⟩) = at2 1024 9216 (arraysK m c).w d.val (6144 + (256 * (t.val % 4) + k)) := by
  refine (if_neg (show ¬ 256 + k < 256 by omega)).trans ((narrowed_slab _ _).trans ?_)
  refine (congrFun (View.read_rep (st0_1 t).view (iblk m c 1 t)) (i2 1024 256 d.val (256 + k - 256))).trans ((blk1 m c t _ _).trans ?_)
  refine congrArg (arraysK m c).w (congrArg (ix2 _) (Fin.ext ?_))
  show (24 + t.val % 4) * 256 + (256 + k - 256) % 256 = (6144 + (256 * (t.val % 4) + k)) % 9216
  omega

theorem gate_block (M : Memref sig .tc .vmem S4x64x64 .f32) (f : S4x64x64.Idx → Elt Ideal .f32) (A : (⟨3, ![16, 64, 64]⟩ : Shape).Idx → Elt Ideal .f32)
    (hf : ∀ (a : Fin 4) (d k : Fin 64), f (ix3 a d k) = A (ix3 ⟨(t.val % 4) * 4 + a.val, by omega⟩ d k)) (j k : ℕ) (hj : j < 256) :
    k0_pay45 (blkW (F := Ideal) c M (M.view.rep f) (j / 64)) (i2 64 64 (j % 64) k) = at3 16 64 64 A (4 * (t.val % 4) + j / 64) (j % 64) (k % 64) := by
  refine (narrowed_block _ _ _).trans ?_
  refine (congrFun (View.read_rep M.view f) _).trans ((hf _ _ _).trans ?_)
  refine congrArg A (funext fun a => ?_)
  fin_cases a <;> apply Fin.ext
  · show (t.val % 4) * 4 + (j / 64) % 4 = (4 * (t.val % 4) + j / 64) % 16
    omega
  · show j % 64 % 64 % 64 = j % 64 % 64
    omega
  · show k % 64 % 64 = k % 64 % 64
    omega

theorem reads_wg0 (j : Fin 256) (k : ℕ) (h : k < 256) (h' : k < 512) : (parK m c t).wg (ix2 j ⟨k, h'⟩)
    = if j.val / 64 = k / 64 then at3 16 64 64 (arraysK m c).wr (4 * (t.val % 4) + j.val / 64) (j.val % 64) (k % 64) else 0 := by
  by_cases e : j.val / 64 = k / 64
  · rw [if_pos e]
    refine (if_pos (show j.val / 64 = k % 256 / 64 by omega)).trans ((if_pos h).trans ?_)
    exact gate_block c t (st0_2 t) (iblk m c 2 t) _ (blk2 m c t) j.val (k % 64) j.isLt |>.trans (by rw [Nat.mod_mod]; rfl)
  · rw [if_neg e]
    exact (if_neg (show ¬ j.val / 64 = k % 256 / 64 by omega)).trans (zero_bf16)
theorem reads_wg1 (j : Fin 256) (k : ℕ) (h : k < 256) (h' : 256 + k < 512) : (parK m c t).wg (ix2 j ⟨256 + k, h'⟩)
    = if j.val / 64 = k / 64 then at3 16 64 64 (arraysK m c).wi (4 * (t.val % 4) + j.val / 64) (j.val % 64) (k % 64) else 0 := by
  by_cases e : j.val / 64 = k / 64
  · rw [if_pos e]
    refine (if_pos (show j.val / 64 = (256 + k) % 256 / 64 by omega)).trans ((if_neg (show ¬ 256 + k < 256 by omega)).trans ?_)
    exact gate_block c t (st0_3 t) (iblk m c 3 t) _ (blk3 m c t) j.val ((256 + k) % 64) j.isLt |>.trans (by rw [Nat.mod_mod, show (256 + k) % 64 = k % 64 by omega]; rfl)
  · rw [if_neg e]
    exact (if_neg (show ¬ j.val / 64 = (256 + k) % 256 / 64 by omega)).trans (zero_bf16)

theorem reads_xv (a : ℕ) (ha : a < 4) (r d : Fin 1024) : (parK m c t).xv a (ix3 0 r d) = at3 4 4096 1024 (arraysK m c).x (t.val / 4) (1024 * a + r.val) d.val := by
  have ht := pts t
  refine (x_block c (m ((c : Thread nD τ).loc main_arg0)) (bx (qOf (grid0.coords t) + a)) r d).trans ?_
  have hb : (bx (qOf (grid0.coords t) + a)).val = 4 * (t.val / 4) + a := by
    rw [q_pt t]; show (4 * ((4 * t.val + a) / 16) + (4 * t.val + a) % 4) % 16 = _; omega
  refine congrArg (m ((c : Thread nD τ).loc main_arg0)) (funext fun i => ?_)
  fin_cases i <;> apply Fin.ext
  · show (bx (qOf (grid0.coords t) + a)).val / 4 = t.val / 4 % 4
    omega
  · show 1024 * ((bx (qOf (grid0.coords t) + a)).val % 4) + r.val = (1024 * a + r.val) % 4096
    omega
  · show d.val = d.val % 1024
    omega

theorem reads : Reads (parK m c t) (arraysK m c) (t.val / 4) (t.val % 4) where
  xv := reads_xv m c t
  ws0 := reads_ws0 m c t
  ws1 := reads_ws1 m c t
  wg0 := reads_wg0 m c t
  wg1 := reads_wg1 m c t
  v8 := reads_v8 m c t
  v13 := reads_v13 m c t
  v18 := reads_v18 m c t
  v23 := reads_v23 m c t
  v28 := reads_v28 m c t
  v33 := reads_v33 m c t
  v117 := reads_v117 m c t

end Cert.Lrued

end
-- ==== Proof.LruRefRun.lean ====
/- The run of the recurrence's reference over the step of its loop: at contents that hold a state every value of one trip is
   the step's, and the results are fields of the step iterated. -/
module

public import proofs.«01_k».proof.Proof.Gen.LruRefIdeal.Run
public import proofs.«01_k».proof.Proof.Gen.LruRefIdeal.Step

@[expose] public section

noncomputable section

namespace Cert.Lrued.RefRun

open Idealize.ShloMosaic Idealize.ShloMosaic.TcCoe Idealize.SL.Sem Idealize.ShloMosaic.StableHlo
open Cert.LruRefIdeal Cert.LruRefIdeal.Gen Cert.LruRefIdeal.Value
open Cert.LruRefIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v93_3) = s.main_v93_3
  f_4 : V0 (Proc.devRef .tc main_v93_4) = s.main_v93_4
  f_0 : V0 (Proc.devRef .tc main_v93_0) = s.main_v93_0
  f_1 : V0 (Proc.devRef .tc main_v93_1) = s.main_v93_1
  n_2 : V0 (Proc.devRef .tc main_v93_2) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.LruRefIdeal.Step.b0 j s := by
  unfold Cert.LruRefIdeal.Step.b0
  rfl
set_option maxRecDepth 8192 in
theorem al_1 (h : Holds V0 s j) : (constantI S_ 32 0#32 : (Proc.devRef .tc main_while0b_call2_c_0 : DevRef τ sig).ty.Contents (Elt F)) = Cert.LruRefIdeal.Step.b1 j s := by
  unfold Cert.LruRefIdeal.Step.b1
  rfl
set_option maxRecDepth 8192 in
theorem al_2 (h : Holds V0 s j) : (Host.dynamicSlice S1x4x1024 (V0 (Proc.devRef .tc main_v93_0)) (fun k => (((![V0 (Proc.devRef .tc main_v93_2), constantI S_ 32 0#32, constantI S_ 32 0#32] : Fin 3 → (⟨S_, .i32⟩ : BufTy).Contents (Elt F))) k (Shape.Idx.first h_S_)).toInt) sliceFits_S4096x4x1024_S1x4x1024 : (Proc.devRef .tc main_while0b_call2_v0 : DevRef τ sig).ty.Contents (Elt F)) = Cert.LruRefIdeal.Step.b2 j s := by
  unfold Cert.LruRefIdeal.Step.b2
  rw [← al_0 h, ← al_1 h, h.f_0, h.n_2]
  try rfl
set_option maxRecDepth 8192 in
theorem al_3 (h : Holds V0 s j) : (shapeCast S4x1024 (Host.dynamicSlice S1x4x1024 (V0 (Proc.devRef .tc main_v93_0)) (fun k => (((![V0 (Proc.devRef .tc main_v93_2), constantI S_ 32 0#32, constantI S_ 32 0#32] : Fin 3 → (⟨S_, .i32⟩ : BufTy).Contents (Elt F))) k (Shape.Idx.first h_S_)).toInt) sliceFits_S4096x4x1024_S1x4x1024) shapeCasts_S1x4x1024_S4x1024 : (Proc.devRef .tc main_while0b_v110 : DevRef τ sig).ty.Contents (Elt F)) = Cert.LruRefIdeal.Step.b3 j s := by
  unfold Cert.LruRefIdeal.Step.b3
  rw [← al_2 h]
  try rfl
set_option maxRecDepth 8192 in
theorem al_4 (h : Holds V0 s j) : (constantI S_ 32 0#32 : (Proc.devRef .tc main_while0b_call3_c : DevRef τ sig).ty.Contents (Elt F)) = Cert.LruRefIdeal.Step.b4 j s := by
  unfold Cert.LruRefIdeal.Step.b4
  rfl
set_option maxRecDepth 8192 in
theorem al_5 (h : Holds V0 s j) : (constantI S_ 32 0#32 : (Proc.devRef .tc main_while0b_call3_c_0 : DevRef τ sig).ty.Contents (Elt F)) = Cert.LruRefIdeal.Step.b5 j s := by
  unfold Cert.LruRefIdeal.Step.b5
  rfl
set_option maxRecDepth 8192 in
theorem al_6 (h : Holds V0 s j) : (Host.dynamicSlice S1x4x1024 (V0 (Proc.devRef .tc main_v93_1)) (fun k => (((![V0 (Proc.devRef .tc main_v93_2), constantI S_ 32 0#32, constantI S_ 32 0#32] : Fin 3 → (⟨S_, .i32⟩ : BufTy).Contents (Elt F))) k (Shape.Idx.first h_S_)).toInt) sliceFits_S4096x4x1024_S1x4x1024 : (Proc.devRef .tc main_while0b_call3_v0 : DevRef τ sig).ty.Contents (Elt F)) = Cert.LruRefIdeal.Step.b6 j s := by
  unfold Cert.LruRefIdeal.Step.b6
  rw [← al_4 h, ← al_5 h, h.f_1, h.n_2]
  try rfl
set_option maxRecDepth 8192 in
theorem al_7 (h : Holds V0 s j) : (shapeCast S4x1024 (Host.dynamicSlice S1x4x1024 (V0 (Proc.devRef .tc main_v93_1)) (fun k => (((![V0 (Proc.devRef .tc main_v93_2), constantI S_ 32 0#32, constantI S_ 32 0#32] : Fin 3 → (⟨S_, .i32⟩ : BufTy).Contents (Elt F))) k (Shape.Idx.first h_S_)).toInt) sliceFits_S4096x4x1024_S1x4x1024) shapeCasts_S1x4x1024_S4x1024 : (Proc.devRef .tc main_while0b_v111 : DevRef τ sig).ty.Contents (Elt F)) = Cert.LruRefIdeal.Step.b7 j s := by
  unfold Cert.LruRefIdeal.Step.b7
  rw [← al_6 h]
  try rfl
set_option maxRecDepth 8192 in
theorem al_8 (h : Holds V0 s j) : (mulf (shapeCast S4x1024 (Host.dynamicSlice S1x4x1024 (V0 (Proc.devRef .tc main_v93_0)) (fun k => (((![V0 (Proc.devRef .tc main_v93_2), constantI S_ 32 0#32, constantI S_ 32 0#32] : Fin 3 → (⟨S_, .i32⟩ : BufTy).Contents (Elt F))) k (Shape.Idx.first h_S_)).toInt) sliceFits_S4096x4x1024_S1x4x1024) shapeCasts_S1x4x1024_S4x1024) (V0 (Proc.devRef .tc main_v93_3)) : (Proc.devRef .tc main_while0b_v112 : DevRef τ sig).ty.Contents (Elt F)) = Cert.LruRefIdeal.Step.b8 j s := by
  unfold Cert.LruRefIdeal.Step.b8
  rw [← al_3 h, h.f_3]
  try rfl
set_option maxRecDepth 8192 in
theorem al_9 (h : Holds V0 s j) : (res_main_while0b_v113 V0 : (Proc.devRef .tc main_while0b_v113 : DevRef τ sig).ty.Contents (Elt F)) = Cert.LruRefIdeal.Step.b9 j s := by
  unfold res_main_while0b_v113 Cert.LruRefIdeal.Step.b9
  rw [← al_8 h, ← al_7 h]
  try rfl
set_option maxRecDepth 8192 in
theorem al_10 (h : Holds V0 s j) : (broadcastInDim S1x4x1024 ![1, 2] bcast_S4x1024_S1x4x1024_1_2 (res_main_while0b_v113 V0) : (Proc.devRef .tc main_while0b_call4_v0 : DevRef τ sig).ty.Contents (Elt F)) = Cert.LruRefIdeal.Step.b10 j s := by
  unfold Cert.LruRefIdeal.Step.b10
  rw [← al_9 h]
  try rfl
set_option maxRecDepth 8192 in
theorem al_11 (h : Holds V0 s j) : (constantI S_ 32 0#32 : (Proc.devRef .tc main_while0b_call4_c : DevRef τ sig).ty.Contents (Elt F)) = Cert.LruRefIdeal.Step.b11 j s := by
  unfold Cert.LruRefIdeal.Step.b11
  rfl
set_option maxRecDepth 8192 in
theorem al_12 (h : Holds V0 s j) : (constantI S_ 32 0#32 : (Proc.devRef .tc main_while0b_call4_c_0 : DevRef τ sig).ty.Contents (Elt F)) = Cert.LruRefIdeal.Step.b12 j s := by
  unfold Cert.LruRefIdeal.Step.b12
  rfl
set_option maxRecDepth 8192 in
theorem al_13 (h : Holds V0 s j) : (Host.dynamicUpdateSlice (V0 (Proc.devRef .tc main_v93_4)) (broadcastInDim S1x4x1024 ![1, 2] bcast_S4x1024_S1x4x1024_1_2 (res_main_while0b_v113 V0)) (fun k => (((![V0 (Proc.devRef .tc main_v93_2), constantI S_ 32 0#32, constantI S_ 32 0#32] : Fin 3 → (⟨S_, .i32⟩ : BufTy).Contents (Elt F))) k (Shape.Idx.first h_S_)).toInt) updateFits_S4096x4x1024_S1x4x1024 : (Proc.devRef .tc main_while0b_v114 : DevRef τ sig).ty.Contents (Elt F)) = Cert.LruRefIdeal.Step.b13 j s := by
  unfold Cert.LruRefIdeal.Step.b13
  rw [← al_10 h, ← al_11 h, ← al_12 h, h.f_4, h.n_2]
  try rfl

/-! One trip's step of the carried values is `step`, field by field; a counter steps to the next number. -/

theorem step_3 (h : Holds V0 s j) : step_main_v93_3 V0 = (step j s).main_v93_3 := by
  unfold step_main_v93_3 Cert.LruRefIdeal.Step.step
  show id (res_main_while0b_v113 V0) = _
  rw [al_9 h]
  try rfl
theorem step_4 (h : Holds V0 s j) : step_main_v93_4 V0 = (step j s).main_v93_4 := by
  unfold step_main_v93_4 Cert.LruRefIdeal.Step.step
  exact al_13 h
theorem step_2 (h : Holds V0 s j) : step_main_v93_2 V0 = constantI S_ 32 (BitVec.ofNat 32 (j + 1)) := by
  unfold step_main_v93_2
  rw [h.n_2]
  funext i
  show BitVec.ofNat 32 j + 1#32 = BitVec.ofNat 32 (j + 1)
  simp only [BitVec.ofNat_add]

set_option maxRecDepth 8192 in
theorem out_main_v109_holds (h : Holds V0 s j) {x_main_arg0 : (⟨S4x4096x1024, .f32⟩ : BufTy).Contents (Elt F)} (h_main_arg0 : V0 (Proc.devRef .tc main_arg0) = x_main_arg0) {x_main_arg1 : (⟨S1024x9216, .f32⟩ : BufTy).Contents (Elt F)} (h_main_arg1 : V0 (Proc.devRef .tc main_arg1) = x_main_arg1) {x_main_arg2 : (⟨S1x9216, .f32⟩ : BufTy).Contents (Elt F)} (h_main_arg2 : V0 (Proc.devRef .tc main_arg2) = x_main_arg2) : out_main_v109 V0 = Cert.LruRefIdeal.Step.R_main_v109 s x_main_arg0 x_main_arg1 x_main_arg2 := by
  unfold out_main_v109 Cert.LruRefIdeal.Step.R_main_v109
  rw [h.f_4, h_main_arg0, h_main_arg1, h_main_arg2]
  try rfl

/-- One trip keeps the valuation holding: `step` of the state, the same set-up values, the next number. -/
theorem holds_step (h : Holds V0 s j) : Holds (STEP V0) (step j s) (j + 1) where
  f_3 := (STEP_main_v93_3 V0).trans (step_3 h)
  f_4 := (STEP_main_v93_4 V0).trans (step_4 h)
  n_2 := (STEP_main_v93_2 V0).trans (step_2 h)
  f_0 := (STEP_main_v93_0 V0).trans h.f_0
  f_1 := (STEP_main_v93_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `LruRefIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v109) = Cert.LruRefIdeal.Step.R_main_v109 (it c 4096) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := holds_iter m c (it c) (h0 c) (hs c) 4096
    ⟨(h c).1.trans (out_main_v109_holds hk (iter_main_arg0 m c 4096) (iter_main_arg1 m c 4096) (iter_main_arg2 m c 4096)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.Lrued.RefRun

end
-- ==== Proof.LruReference.lean ====
/- The reference of the recurrence's call, operation by operation, as that function. -/
module

public import proofs.«01_k».proof.Proof.LruSeq
public import proofs.«01_k».proof.Proof.LruRefRun
public import Idealize.ShloMosaic.Lib.Pointwise
public import Idealize.ShloMosaic.Lib.KernelVsHost
public import Idealize.ShloMosaic.Lib.Tactic.CleanTypes

@[expose] public section

set_option maxRecDepth 16384

noncomputable section

namespace Cert.Lrued

open Idealize.ShloMosaic Idealize.ShloMosaic.TcCoe Idealize.ShloMosaic.Tactic
open Cert.LruRefIdeal Cert.LruRefIdeal.Step

theorem ofNat_mk (n : ℕ) [NeZero n] (k : ℕ) (h : k < n) : Fin.ofNat n k = ⟨k, h⟩ := Fin.ext (Nat.mod_eq_of_lt h)
theorem ofNat_val (n : ℕ) [NeZero n] (x : Fin n) : Fin.ofNat n x.val = x := Fin.ext (Nat.mod_eq_of_lt x.isLt)

variable (V : Arrays)

theorem v4_apply (b : Fin 4) (t : Fin 4096) (k : Fin 9216) :
    A_main_v4 (F := Ideal) V.x V.w V.b V.cw V.cb V.wr V.br V.wi V.bi V.lam (ix3 b t k) = proj V b.val t.val k.val := by
  unfold A_main_v4 A_main_v3 A_main_v2 A_main_v1 A_main_v0
  clean_types
  pointwise [proj, at2, at3]
  simp only [ofNat_val]
  rfl
theorem v13_apply (b : Fin 4) (r : Fin 4099) (c : Fin 1024) :
    A_main_v13 (F := Ideal) V.x V.w V.b V.cw V.cb V.wr V.br V.wi V.bi V.lam (ix3 b r c) = stream V b.val r.val c.val := by
  unfold A_main_v13 K_main_call0_v0 K_main_c A_main_v9
  clean_types
  pointwise []
  unfold stream
  by_cases h : r.val < 3
  · rw [dif_neg (by omega), if_pos h]
    simp [FloatOps.sitofp]
  · rw [dif_pos (by omega), if_neg h, v4_apply]
theorem v43_apply (b : Fin 4) (t : Fin 4096) (c : Fin 1024) :
    A_main_v43 (F := Ideal) V.x V.w V.b V.cw V.cb V.wr V.br V.wi V.bi V.lam (ix3 b t c) = filtered V b.val t.val c.val := by
  unfold A_main_v43 A_main_v42 A_main_v41 A_main_v40 A_main_v39 A_main_v38 A_main_v37 A_main_v36 A_main_v35 A_main_v34 A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v12
  clean_types
  pointwise []
  simp only [v13_apply]
  simp only [Nat.add_comm 1, Nat.add_comm 2, Nat.add_comm 3]
  unfold filtered
  simp only [at2, ofNat_val]
  rfl
theorem v53_apply (b : Fin 4) (t : Fin 4096) (c : Fin 1024) :
    A_main_v53 (F := Ideal) V.x V.w V.b V.cw V.cb V.wr V.br V.wi V.bi V.lam (ix3 b t c) = gateOf V V.wr V.br b.val t.val c.val := by
  unfold A_main_v53 A_main_v52 A_main_v51 A_main_v50 A_main_v49 A_main_v48 A_main_v44 A_main_v47
  clean_types
  pointwise []
  simp only [v43_apply]
  unfold gateOf
  simp only [at2, at3, ofNat_val, ofNat_mk 16 (c.val / 64) (by omega), ofNat_mk 64 (c.val % 64) (by omega)]
  refine congrArg₂ (· + ·) (Finset.sum_congr rfl fun x _ => ?_) rfl
  rw [mul_comm, Nat.mul_comm 64]
theorem v65_apply (b : Fin 4) (t : Fin 4096) (c : Fin 1024) :
    A_main_v65 (F := Ideal) V.x V.w V.b V.cw V.cb V.wr V.br V.wi V.bi V.lam (ix3 b t c) = gateOf V V.wi V.bi b.val t.val c.val := by
  unfold A_main_v65 A_main_v64 A_main_v63 A_main_v62 A_main_v61 A_main_v60 A_main_v45 A_main_v47
  clean_types
  pointwise []
  simp only [v43_apply]
  unfold gateOf
  simp only [at2, at3, ofNat_val, ofNat_mk 16 (c.val / 64) (by omega), ofNat_mk 64 (c.val % 64) (by omega)]
  refine congrArg₂ (· + ·) (Finset.sum_congr rfl fun x _ => ?_) rfl
  rw [mul_comm, Nat.mul_comm 64]
theorem v79_apply (b : Fin 4) (t : Fin 4096) (c : Fin 1024) :
    A_main_v79 (F := Ideal) V.x V.w V.b V.cw V.cb V.wr V.br V.wi V.bi V.lam (ix3 b t c) = decayAt V b.val c.val t.val := by
  unfold A_main_v79 A_main_v78 A_main_v77 A_main_v76 A_main_v75 A_main_call1_v11 A_main_call1_v10 A_main_call1_v9 A_main_call1_v8 A_main_call1_v7 A_main_call1_v6 K_main_call1_v5 A_main_call1_v4 A_main_call1_v3 K_main_call1_v2 A_main_call1_v1 K_main_call1_v0 K_main_call1_cst A_main_v74 A_main_v46 A_main_v73 K_main_v72 K_main_cst_3 A_main_v59 K_main_v58 K_main_cst_0 A_main_v57 K_main_v56 K_main_cst A_main_v55 A_main_v54
  clean_types
  pointwise []
  simp only [v53_apply]
  simp only [ne_eq, not_true_eq_false, if_false]
  unfold decayAt
  simp only [at2, ofNat_val]
  show Ideal.exp (Ideal.ofBits .f32 0xC1000000#32 * Ideal.logistic (gateOf V V.wr V.br b.val t.val c.val) * sp (V.lam (ix2 0 c))) = _
  rw [ofBits_neg_eight, log_decay]
  rfl
theorem v88_apply (b : Fin 4) (t : Fin 4096) (c : Fin 1024) :
    A_main_v88 (F := Ideal) V.x V.w V.b V.cw V.cb V.wr V.br V.wi V.bi V.lam (ix3 b t c) = inputAt V b.val c.val t.val := by
  unfold A_main_v88 A_main_v87 A_main_v86 A_main_v85 K_main_v84 K_main_cst_5 A_main_v83 A_main_v82 A_main_v81 K_main_v80 K_main_cst_4 A_main_v71 K_main_v70 K_main_cst_2 A_main_v69 K_main_v68 K_main_cst_1 A_main_v67 A_main_v66 A_main_v78 A_main_v77 A_main_v76 A_main_v75 A_main_call1_v11 A_main_call1_v10 A_main_call1_v9 A_main_call1_v8 A_main_call1_v7 A_main_call1_v6 K_main_call1_v5 A_main_call1_v4 A_main_call1_v3 K_main_call1_v2 A_main_call1_v1 K_main_call1_v0 K_main_call1_cst A_main_v74 A_main_v46 A_main_v73 K_main_v72 K_main_cst_3 A_main_v59 K_main_v58 K_main_cst_0 A_main_v57 K_main_v56 K_main_cst A_main_v55 A_main_v54
  clean_types
  pointwise []
  simp only [v53_apply, v65_apply, v43_apply]
  simp only [ne_eq, not_true_eq_false, if_false]
  unfold inputAt factor
  simp only [at2, ofNat_val]
  show Ideal.sqrt (max (-(Ideal.exp (Ideal.ofBits .f32 0x40000000#32 * (Ideal.ofBits .f32 0xC1000000#32
      * Ideal.logistic (gateOf V V.wr V.br b.val t.val c.val) * sp (V.lam (ix2 0 c)))) - 1)) 0) * _ = _
  rw [ofBits_neg_eight, ofBits_two, log_decay]
  rfl

end Cert.Lrued

end
-- ==== Proof.LruRefLoop.lean ====
/- The loop of the recurrence's reference, and its result as the function of Proof/LruSeq.lean. -/
module

public import proofs.«01_k».proof.Proof.LruReference
public import Idealize.ShloMosaic.Lib.DynamicIndex
public import Idealize.ShloMosaic.Lib.Pipeline.Value

@[expose] public section

set_option maxRecDepth 16384

noncomputable section

namespace Cert.Lrued

open Idealize.ShloMosaic Idealize.ShloMosaic.TcCoe Idealize.ShloMosaic.Tactic
open Cert.LruRefIdeal Cert.LruRefIdeal.Step Cert.LruRefIdeal.Gen

variable (V : Arrays)

/-- The states the loop goes through. -/
def iter : ℕ → State Ideal
  | 0 => init V.x V.w V.b V.cw V.cb V.wr V.br V.wi V.bi V.lam
  | n + 1 => step n (iter n)

theorem iter_a : ∀ n, (iter V n).main_v93_0 = A_main_v90 V.x V.w V.b V.cw V.cb V.wr V.br V.wi V.bi V.lam
  | 0 => rfl
  | n + 1 => iter_a n
theorem iter_i : ∀ n, (iter V n).main_v93_1 = A_main_v91 V.x V.w V.b V.cw V.cb V.wr V.br V.wi V.bi V.lam
  | 0 => rfl
  | n + 1 => iter_i n

theorem starts (n : ℕ) (hn : n < 4096) (u v : (⟨S_, .i32⟩ : BufTy).Contents (Elt Ideal)) (hu : u = constantI S_ 32 0#32) (hv : v = constantI S_ 32 0#32)
    (a : Fin 3) : ((((![(constantI S_ 32 (BitVec.ofNat 32 n) : (⟨S_, .i32⟩ : BufTy).Contents (Elt Ideal)), u, v] :
      Fin 3 → (⟨S_, .i32⟩ : BufTy).Contents (Elt Ideal))) a (Shape.Idx.first h_S_)).toInt) = ((![n, 0, 0] : Fin 3 → ℕ) a : ℤ) := by
  subst hu hv
  match a with
  | ⟨0, _⟩ => exact toInt_ofNat_of_lt (by omega)
  | ⟨1, _⟩ => rfl
  | ⟨2, _⟩ => rfl

theorem row_fits (n : ℕ) (hn : n < 4096) : S4096x4x1024.Slices ![n, 0, 0] S1x4x1024 :=
  ⟨rfl, fun a => match a with
    | ⟨0, _⟩ => by show n + 1 ≤ 4096; omega
    | ⟨1, _⟩ => by show 0 + 4 ≤ 4; omega
    | ⟨2, _⟩ => by show 0 + 1024 ≤ 1024; omega⟩

theorem clamped (n : ℕ) (hn : n < 4096) (a : Fin 3) : (min (max ((((![(constantI S_ 32 (BitVec.ofNat 32 n) : (⟨S_, .i32⟩ : BufTy).Contents (Elt Ideal)),
      constantI S_ 32 0#32, constantI S_ 32 0#32] : Fin 3 → (⟨S_, .i32⟩ : BufTy).Contents (Elt Ideal))) a (Shape.Idx.first h_S_)).toInt) 0)
      ((S4096x4x1024.size a - S1x4x1024.size a : Nat) : Int)).toNat = (![n, 0, 0] : Fin 3 → ℕ) a := by
  rw [starts n hn _ _ rfl rfl]
  match a with
  | ⟨0, _⟩ => show (min (max (n : ℤ) 0) ((4096 - 1 : ℕ) : ℤ)).toNat = n; omega
  | ⟨1, _⟩ => rfl
  | ⟨2, _⟩ => rfl

theorem b3_apply (n : ℕ) (hn : n < 4096) (b : Fin 4) (c : Fin 1024) : b3 n (iter V n) (ix2 b c) = decayAt V b.val c.val n := by
  unfold b3 b2
  rw [Host.dynamicSlice_eq_extractStridedSlice S1x4x1024 _ _ ![n, 0, 0] _ (row_fits n hn) (starts n hn _ _ rfl rfl), iter_a]
  unfold A_main_v90
  clean_types
  pointwise []
  simp only [v79_apply]

theorem b7_apply (n : ℕ) (hn : n < 4096) (b : Fin 4) (c : Fin 1024) : b7 n (iter V n) (ix2 b c) = inputAt V b.val c.val n := by
  unfold b7 b6
  rw [Host.dynamicSlice_eq_extractStridedSlice S1x4x1024 _ _ ![n, 0, 0] _ (row_fits n hn) (starts n hn _ _ rfl rfl), iter_i]
  unfold A_main_v91
  clean_types
  pointwise []
  simp only [v88_apply]

theorem carry_apply (b : Fin 4) (c : Fin 1024) : ∀ n, n ≤ 4096 → (iter V n).main_v93_3 (ix2 b c) = state (decayAt V b.val c.val) (inputAt V b.val c.val) n
  | 0, _ => by
    show K_main_v89 (ix2 b c) = _
    unfold K_main_v89 K_main_cst_6
    pointwise []
    rfl
  | n + 1, h => by
    show b9 n (iter V n) (ix2 b c) = decayAt V b.val c.val n * state _ _ n + inputAt V b.val c.val n
    rw [← carry_apply b c n (by omega), ← b3_apply V n (by omega), ← b7_apply V n (by omega)]
    rfl

theorem rows_apply (t : Fin 4096) (b : Fin 4) (c : Fin 1024) : ∀ n, n ≤ 4096 → t.val < n →
    (iter V n).main_v93_4 (ix3 t b c) = state (decayAt V b.val c.val) (inputAt V b.val c.val) (t.val + 1)
  | 0, _, h => absurd h (by omega)
  | n + 1, h, ht => by
    show b13 n (iter V n) (ix3 t b c) = _
    unfold b13
    rw [Host.dynamicUpdateSlice_eq_updateSlice _ _ _ _ ![n, 0, 0] (clamped n (by omega)) (row_fits n (by omega))]
    unfold b10
    clean_types
    pointwise []
    by_cases h' : n ≤ t.val
    · rw [dif_pos ⟨h', ht⟩, show t.val + 1 = n + 1 by omega]
      exact carry_apply V b c (n + 1) h
    · rw [dif_neg (fun hh => h' hh.1)]
      exact rows_apply t b c n (by omega) (by omega)

theorem silu_def (z : EReal) : z * Ideal.div 1 (1 + Ideal.exp (-z)) = silu z := rfl

theorem result_apply (b : Fin 4) (t : Fin 4096) (c : Fin 1024) :
    R_main_v109 (iter V 4096) V.x V.w V.b (ix3 b t c) = recur V b.val t.val c.val := by
  unfold R_main_v109
  clean_types
  pointwise []
  rw [rows_apply V t b c 4096 le_rfl t.isLt]
  unfold recur silu proj
  simp only [at2, at3, ofNat_val, ofNat_mk 9216 (6144 + c.val) (by omega)]
  rfl

/-- The arrays of a memory. -/
def arraysR (m : (ℓ : Loc nD τ sig) → Buf (Elt Ideal) ℓ) (c : Dev nD) : Arrays :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6), m ((c.tc : Thread nD τ).loc main_arg7),
    m ((c.tc : Thread nD τ).loc main_arg8), m ((c.tc : Thread nD τ).loc main_arg9)⟩

def recurred (V : Arrays) : (⟨3, ![4, 4096, 1024]⟩ : Shape).Idx → EReal := fun y => recur V (y 0).val (y 1).val (y 2).val

theorem reference_result (m : (ℓ : Loc nD τ sig) → Buf (Elt Ideal) ℓ) (c : Dev nD) :
    R_main_v109 (iter (arraysR m c) 4096) (m ((c.tc : Thread nD τ).loc main_arg0)) (m ((c.tc : Thread nD τ).loc main_arg1))
      (m ((c.tc : Thread nD τ).loc main_arg2)) = recurred (arraysR m c) := by
  funext y
  obtain ⟨b, t, k, rfl⟩ : ∃ (b : Fin 4) (t : Fin 4096) (k : Fin 1024), y = ix3 b t k := ⟨y 0, y 1, y 2, eq_ix3 y⟩
  exact result_apply (arraysR m c) b t k

end Cert.Lrued

end
-- ==== Proof.LruFinal.lean ====
/- The result array of the recurrence's call: the recurrence of the argument arrays. -/
module

public import proofs.«01_k».proof.Proof.LruIdealRun
public import proofs.«01_k».proof.Proof.LruBlocks
public import proofs.«01_k».proof.Proof.LruRefLoop

@[expose] public section

set_option maxRecDepth 16384

noncomputable section

namespace Cert.Lrued

open Idealize.ShloMosaic Idealize.ShloMosaic.TcCoe Idealize.ShloMosaic.Tactic
open Cert.LruIdeal Cert.LruIdeal.Gen Cert.Proof.LruIdeal

variable (m : (ℓ : Loc nD τ sig) → Buf (Elt Ideal) ℓ)

theorem final (c : Dev nD) : (dats m 0 c).arrAt 10 cfg0.N = recurred (arraysK m c) := by
  refine (dats m 0 c).arrAt_eq_of_covers 10 _ (by decide +kernel) fun t hf y => ?_
  blk_simp
  rw [after_10]
  obtain ⟨a, r, k, rfl⟩ : ∃ (a : Fin 1) (r : Fin 4096) (k : Fin 256), y = (ix3 a r k : (⟨3, ![1, 4096, 256]⟩ : Shape).Idx) := ⟨y 0, y 1, y 2, eq_ix3 y⟩
  have he : ((win0_10.blk t).view.emb (ix3 a r k) : (⟨3, ![4, 4096, 1024]⟩ : Shape).Idx)
      = ix3 ⟨t.val / 4, by have := pts t; omega⟩ r ⟨(t.val % 4) * 256 + k.val, by omega⟩ := by
    blk_ext [idx_cols t]
  rw [he]
  refine (out_value (reads m c t) r.val k.val r.isLt k.isLt).trans ?_
  rw [Nat.mul_comm 256]
  rfl

end Cert.Lrued

end
-- ==== Proof.WtsSpec.lean ====
/- The layout of the attention's weights: which column of the input projection stands at a column of a pair of heads, and the
   rearrangement of a block of 128 columns read entry by entry. -/
module

public import proofs.«01_k».proof.Proof.Gen.WtsIdeal.Skeleton
public import Idealize.ShloMosaic.Lib.Pipeline.ValueKit
public import Idealize.ShloMosaic.Lib.KernelVsHost
public import Idealize.ShloMosaic.Lib.Tactic.CleanTypes

@[expose] public section

set_option maxRecDepth 16384

noncomputable section

namespace Cert.Laid

open Idealize.ShloMosaic Idealize.ShloMosaic.TcCoe Idealize.ShloMosaic.Tactic
open Cert.WtsIdeal Cert.WtsIdeal.Gen

/-- Where the entry of a rotated pair comes from: the second and third quarters change places. -/
def turn (l : ℕ) : ℕ := if l / 32 = 1 then l + 32 else if l / 32 = 2 then l - 32 else l

theorem turn_lt {l : ℕ} (h : l < 128) : turn l < 128 := by unfold turn; split <;> (try split) <;> omega

/-- The column's number divided by 32, as the kernel takes it in words. -/
def quarter (l : Fin 128) : BitVec 32 :=
  Scalar.select
    (IntOp.andi
      (IntOp.cmpi CmpIPredicate.ne
        (IntOp.subi (BitVec.setWidth 32 (IntOp.cmpi CmpIPredicate.sgt (BitVec.ofNat 32 l.val) 0#32))
          (BitVec.setWidth 32 (IntOp.cmpi CmpIPredicate.slt (BitVec.ofNat 32 l.val) 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector (BitVec.ofNat 32 l.val) 32#32) 0#32))
    (IntOp.subi (IntOp.divsi ArithUnit.vector (BitVec.ofNat 32 l.val) 32#32) 1#32)
    (IntOp.divsi ArithUnit.vector (BitVec.ofNat 32 l.val) 32#32)

theorem quarter_one : ∀ l : Fin 128, IntOp.cmpi CmpIPredicate.eq (quarter l) 1#32 = if l.val / 32 = 1 then 1#1 else 0#1 := by
  decide +kernel
theorem quarter_two : ∀ l : Fin 128, IntOp.cmpi CmpIPredicate.eq (quarter l) 2#32 = if l.val / 32 = 2 then 1#1 else 0#1 := by
  decide +kernel

/-- The kernel's two selections at a column. -/
theorem selected (f : Fin 128 → EReal) (l : Fin 128) (h1 : (l.val + 128 - 96) % 128 < 128) (h2 : (l.val + 128 - 32) % 128 < 128) :
    Scalar.select (IntOp.cmpi CmpIPredicate.eq (quarter l) 1#32) (f ⟨(l.val + 128 - 96) % 128, h1⟩)
      (Scalar.select (IntOp.cmpi CmpIPredicate.eq (quarter l) 2#32) (f ⟨(l.val + 128 - 32) % 128, h2⟩) (f l))
      = f ⟨turn l.val, turn_lt l.isLt⟩ := by
  have hl := l.isLt
  rw [quarter_one, quarter_two]
  by_cases e1 : l.val / 32 = 1
  · rw [if_pos e1]
    refine (show Scalar.select 1#1 _ _ = _ from rfl).trans (congrArg f (Fin.ext ?_))
    show (l.val + 128 - 96) % 128 = turn l.val
    rw [turn, if_pos e1]; omega
  · rw [if_neg e1]
    by_cases e2 : l.val / 32 = 2
    · rw [if_pos e2]
      refine (show Scalar.select 0#1 _ (Scalar.select 1#1 _ _) = _ from rfl).trans (congrArg f (Fin.ext ?_))
      show (l.val + 128 - 32) % 128 = turn l.val
      rw [turn, if_neg e1, if_pos e2]; omega
    · rw [if_neg e2]
      refine (show Scalar.select 0#1 _ (Scalar.select 0#1 _ _) = _ from rfl).trans (congrArg f (Fin.ext ?_))
      show l.val = turn l.val
      rw [turn, if_neg e1, if_neg e2]

theorem turned_at (v : Vec Ideal S256x128 .f32) (r : Fin 256) (l : Fin 128) :
    k0_pay3 v (ix3 0 r l) = v (ix2 r ⟨turn l.val, turn_lt l.isLt⟩) := by
  unfold_payloads
  pointwise []
  exact selected (fun k => v (ix2 r k)) l _ _

theorem plain_at (v : Vec Ideal S256x128 .f32) (r : Fin 256) (l : Fin 128) : k0_pay1 v (ix3 0 r l) = v (ix2 r l) := by
  unfold_payloads
  pointwise []

/-- The kernel's rearrangement of a row of biases, on eight rows. -/
def turnedBias (v : Vec Ideal S1x128 .f32) : Vec Ideal S1x8x128 .f32 :=
  k0_pay19 (k0_pay13 v) (iota .tc S8x128 32 [1] iota_S8x128_d1_w32) (k0_pay14 v) (k0_pay15 v) 32#32 k0_pay16 k0_pay17 k0_pay18

theorem turnedBias_at (v : Vec Ideal S1x128 .f32) (r : Fin 8) (l : Fin 128) :
    turnedBias v (ix3 0 r l) = v (ix2 0 ⟨turn l.val, turn_lt l.isLt⟩) := by
  unfold turnedBias
  unfold_payloads
  pointwise []
  exact selected (fun k => v (ix2 0 k)) l _ _

theorem plainBias_at (v : Vec Ideal S1x128 .f32) (r : Fin 8) (l : Fin 128) : k0_pay2 v (ix3 0 r l) = v (ix2 0 l) := by
  unfold_payloads
  pointwise []

/-- The first column of the input projection that a slab takes. -/
def base (i : ℕ) : ℕ := ![0, 1536, 3072, 4608, 512, 2048, 3584, 1024, 2560, 4096] (Fin.ofNat 10 i)

/-- The place of a slab's column in its pair: queries and keys have their rotary halves exchanged, values and gates stand as they are. -/
def place (i l : ℕ) : ℕ := if i = 2 ∨ i = 3 ∨ i = 6 ∨ i = 9 then l else turn l

theorem base_le (i : ℕ) : base i ≤ 4608 := by
  unfold base
  generalize Fin.ofNat 10 i = k
  revert k
  decide

theorem place_lt (i : ℕ) {l : ℕ} (h : l < 128) : place i l < 128 := by
  unfold place; split
  · exact h
  · exact turn_lt h

/-- The column of the input projection that stands at a column of a pair of heads. -/
def source (p : Fin 4) (l : Fin 1280) : Fin 9216 :=
  ⟨base (l.val / 128) + p.val * 128 + place (l.val / 128) (l.val % 128), by
    have h1 := base_le (l.val / 128)
    have h2 : place (l.val / 128) (l.val % 128) < 128 := place_lt _ (Nat.mod_lt _ (by decide))
    omega⟩

/-- The two results as functions of the argument arrays. -/
def weights (w : (⟨2, ![1024, 9216]⟩ : Shape).Idx → EReal) : (⟨3, ![4, 1024, 1280]⟩ : Shape).Idx → EReal := fun i => w (ix2 (i 1) (source (i 0) (i 2)))
def biases (b : (⟨2, ![1, 9216]⟩ : Shape).Idx → EReal) : (⟨3, ![4, 8, 1280]⟩ : Shape).Idx → EReal := fun i => b (ix2 0 (source (i 0) (i 2)))

end Cert.Laid

end
-- ==== Proof.WtsValue.lean ====
/- The weight layout kernel's two result arrays: every entry is the argument's entry at the column it comes from. -/
module

public import proofs.«01_k».proof.Proof.WtsSpec
public import proofs.«01_k».proof.Proof.Gen.WtsIdeal.Value
public import Idealize.ShloMosaic.Lib.Pipeline.ValueKit
public import Idealize.ShloMosaic.Lib.Pipeline.ReadBack

@[expose] public section

set_option maxRecDepth 16384

noncomputable section

namespace Cert.Laid

open Idealize.ShloMosaic Idealize.ShloMosaic.TcCoe Idealize.ShloMosaic.Tactic
open Cert.WtsIdeal Cert.WtsIdeal.Gen

variable (m : (ℓ : Loc nD τ sig) → Buf (Elt Ideal) ℓ)

/-- A point's block of weights, from its ten blocks of columns. -/
def blockW (xs : Fin 10 → Vec Ideal S1024x128 .f32) : Vec Ideal S1x1024x1280 .bf16 := fun i =>
  xs ⟨(i 2).val / 128, by have : (i 2).val < 1280 := (i 2).isLt; omega⟩
    (ix2 (i 1) ⟨place ((i 2).val / 128) ((i 2).val % 128), place_lt _ (Nat.mod_lt _ (by decide))⟩)

/-- A point's block of biases, from its ten blocks of columns. -/
def blockB (bs : Fin 10 → Vec Ideal S1x128 .f32) : Vec Ideal S1x8x1280 .f32 := fun i =>
  bs ⟨(i 2).val / 128, by have : (i 2).val < 1280 := (i 2).isLt; omega⟩
    (ix2 0 ⟨place ((i 2).val / 128) ((i 2).val % 128), place_lt _ (Nat.mod_lt _ (by decide))⟩)

theorem blockW_at (xs : Fin 10 → Vec Ideal S1024x128 .f32) (i : Fin 10) (r : Fin 1024) (l : Fin 128) (y : S1x1024x1280.Idx)
    (h1 : (y 1).val = r.val) (h2 : (y 2).val = 128 * i.val + l.val) :
    blockW xs y = xs i (ix2 r ⟨place i.val l.val, place_lt _ l.isLt⟩) := by
  have e1 : (y 2).val / 128 = i.val := by omega
  have e2 : (y 2).val % 128 = l.val := by omega
  have er : y 1 = r := Fin.ext h1
  unfold blockW
  refine congrArg₂ (fun (q : Fin 10) p => xs q p) (Fin.ext e1) ?_
  rw [er]
  exact congrArg (ix2 r) (Fin.ext (by show place _ _ = place _ _; rw [e1, e2]))

theorem blockB_at (bs : Fin 10 → Vec Ideal S1x128 .f32) (i : Fin 10) (l : Fin 128) (y : S1x8x1280.Idx)
    (h2 : (y 2).val = 128 * i.val + l.val) :
    blockB bs y = bs i (ix2 0 ⟨place i.val l.val, place_lt _ l.isLt⟩) := by
  have e1 : (y 2).val / 128 = i.val := by omega
  have e2 : (y 2).val % 128 = l.val := by omega
  unfold blockB
  refine congrArg₂ (fun (q : Fin 10) p => bs q p) (Fin.ext e1) ?_
  exact congrArg (ix2 0) (Fin.ext (by show place _ _ = place _ _; rw [e1, e2]))

theorem loaded_at (v : Vec Ideal S1024x128 .f32) (r0 : ℕ) (inb : ∀ a : Fin 2, (![r0, 0] : Fin 2 → ℕ) a + (![256, 128] : Fin 2 → ℕ) a ≤ S1024x128.size a)
    (r : Fin 256) (l : Fin 128) : View.ld v (Rect.unit (s := S1024x128) ![r0, 0] ![256, 128] inb) (ix2 r l)
      = v (ix2 ⟨r0 + r.val, by have h0 : r0 + 256 ≤ 1024 := inb 0; omega⟩ l) := by
  refine congrArg v (funext fun a => Fin.ext ?_)
  match a with
  | ⟨0, _⟩ => exact congrArg (r0 + ·) (one_mul _)
  | ⟨1, _⟩ => exact (congrArg (0 + ·) (one_mul _)).trans (Nat.zero_add _)

theorem turned_piece (xs : Fin 10 → Vec Ideal S1024x128 .f32) (i : Fin 10) (hi : ¬(i.val = 2 ∨ i.val = 3 ∨ i.val = 6 ∨ i.val = 9)) (r0 : ℕ)
    (inb : ∀ a : Fin 2, (![r0, 0] : Fin 2 → ℕ) a + (![256, 128] : Fin 2 → ℕ) a ≤ S1024x128.size a)
    (inb' : ∀ a : Fin 3, (![0, r0, 128 * i.val] : Fin 3 → ℕ) a + (![1, 256, 128] : Fin 3 → ℕ) a ≤ S1x1024x1280.size a) (x : S1x256x128.Idx) :
    k0_pay3 (View.ld (xs i) (Rect.unit (s := S1024x128) ![r0, 0] ![256, 128] inb)) x
      = blockW xs ((Rect.unit (s := S1x1024x1280) ![0, r0, 128 * i.val] ![1, 256, 128] inb').emb x) := by
  obtain ⟨z, r, l, rfl⟩ : ∃ (z : Fin 1) (r : Fin 256) (l : Fin 128), x = (ix3 z r l : (⟨3, ![1, 256, 128]⟩ : Shape).Idx) := ⟨x 0, x 1, x 2, eq_ix3 x⟩
  obtain rfl : z = 0 := Subsingleton.elim _ _
  have h0 : r0 + 256 ≤ 1024 := inb 0
  rw [turned_at, loaded_at, blockW_at xs i ⟨r0 + r.val, by omega⟩ l _ (congrArg (r0 + ·) (one_mul _)) (congrArg (128 * i.val + ·) (one_mul _))]
  exact congrArg (fun q => xs i (ix2 _ q)) (Fin.ext (by show turn _ = place _ _; rw [place, if_neg hi]))

theorem plain_piece (xs : Fin 10 → Vec Ideal S1024x128 .f32) (i : Fin 10) (hi : i.val = 2 ∨ i.val = 3 ∨ i.val = 6 ∨ i.val = 9) (r0 : ℕ)
    (inb : ∀ a : Fin 2, (![r0, 0] : Fin 2 → ℕ) a + (![256, 128] : Fin 2 → ℕ) a ≤ S1024x128.size a)
    (inb' : ∀ a : Fin 3, (![0, r0, 128 * i.val] : Fin 3 → ℕ) a + (![1, 256, 128] : Fin 3 → ℕ) a ≤ S1x1024x1280.size a) (x : S1x256x128.Idx) :
    k0_pay1 (View.ld (xs i) (Rect.unit (s := S1024x128) ![r0, 0] ![256, 128] inb)) x
      = blockW xs ((Rect.unit (s := S1x1024x1280) ![0, r0, 128 * i.val] ![1, 256, 128] inb').emb x) := by
  obtain ⟨z, r, l, rfl⟩ : ∃ (z : Fin 1) (r : Fin 256) (l : Fin 128), x = (ix3 z r l : (⟨3, ![1, 256, 128]⟩ : Shape).Idx) := ⟨x 0, x 1, x 2, eq_ix3 x⟩
  obtain rfl : z = 0 := Subsingleton.elim _ _
  have h0 : r0 + 256 ≤ 1024 := inb 0
  rw [plain_at, loaded_at, blockW_at xs i ⟨r0 + r.val, by omega⟩ l _ (congrArg (r0 + ·) (one_mul _)) (congrArg (128 * i.val + ·) (one_mul _))]
  exact congrArg (fun q => xs i (ix2 _ q)) (Fin.ext (by show _ = place _ _; rw [place, if_pos hi]))

theorem turnedBias_piece (bs : Fin 10 → Vec Ideal S1x128 .f32) (i : Fin 10) (hi : ¬(i.val = 2 ∨ i.val = 3 ∨ i.val = 6 ∨ i.val = 9))
    (inb' : ∀ a : Fin 3, (![0, 0, 128 * i.val] : Fin 3 → ℕ) a + (![1, 8, 128] : Fin 3 → ℕ) a ≤ S1x8x1280.size a) (x : S1x8x128.Idx) :
    turnedBias (bs i) x = blockB bs ((Rect.unit (s := S1x8x1280) ![0, 0, 128 * i.val] ![1, 8, 128] inb').emb x) := by
  obtain ⟨z, r, l, rfl⟩ : ∃ (z : Fin 1) (r : Fin 8) (l : Fin 128), x = (ix3 z r l : (⟨3, ![1, 8, 128]⟩ : Shape).Idx) := ⟨x 0, x 1, x 2, eq_ix3 x⟩
  obtain rfl : z = 0 := Subsingleton.elim _ _
  rw [turnedBias_at, blockB_at bs i l _ (congrArg (128 * i.val + ·) (one_mul _))]
  exact congrArg (fun q => bs i (ix2 _ q)) (Fin.ext (by show turn _ = place _ _; rw [place, if_neg hi]))

theorem plainBias_piece (bs : Fin 10 → Vec Ideal S1x128 .f32) (i : Fin 10) (hi : i.val = 2 ∨ i.val = 3 ∨ i.val = 6 ∨ i.val = 9)
    (inb' : ∀ a : Fin 3, (![0, 0, 128 * i.val] : Fin 3 → ℕ) a + (![1, 8, 128] : Fin 3 → ℕ) a ≤ S1x8x1280.size a) (x : S1x8x128.Idx) :
    k0_pay2 (bs i) x = blockB bs ((Rect.unit (s := S1x8x1280) ![0, 0, 128 * i.val] ![1, 8, 128] inb').emb x) := by
  obtain ⟨z, r, l, rfl⟩ : ∃ (z : Fin 1) (r : Fin 8) (l : Fin 128), x = (ix3 z r l : (⟨3, ![1, 8, 128]⟩ : Shape).Idx) := ⟨x 0, x 1, x 2, eq_ix3 x⟩
  obtain rfl : z = 0 := Subsingleton.elim _ _
  rw [plainBias_at, blockB_at bs i l _ (congrArg (128 * i.val + ·) (one_mul _))]
  exact congrArg (fun q => bs i (ix2 _ q)) (Fin.ext (by show _ = place _ _; rw [place, if_pos hi]))

/-- A row of biases loaded whole. -/
theorem loaded_whole (v : Vec Ideal S1x128 .f32) : View.ld v r0_8 = v := by
  funext i
  refine congrArg v (funext fun a => Fin.ext ?_)
  match a with
  | ⟨0, _⟩ => exact (congrArg (0 + ·) (one_mul _)).trans (Nat.zero_add _)
  | ⟨1, _⟩ => exact (congrArg (0 + ·) (one_mul _)).trans (Nat.zero_add _)

theorem stored_weights (x0 x1 x2 x3 x4 x5 x6 x7 x8 x9 : Vec Ideal S1024x128 .f32) (b0 b1 b2 b3 b4 b5 b6 b7 b8 b9 : Vec Ideal S1x128 .f32) :
    out0_20 (F := Ideal) x0 x1 x2 x3 x4 x5 x6 x7 x8 x9 b0 b1 b2 b3 b4 b5 b6 b7 b8 b9 = blockW ![x0, x1, x2, x3, x4, x5, x6, x7, x8, x9] := by
  funext y
  refine View.canon_append_of_piecesOf (blockW ![x0, x1, x2, x3, x4, x5, x6, x7, x8, x9]) [] [_, _, _, _, _, _, _, _, _, _, _, _, _, _, _, _, _, _, _, _, _, _, _, _, _, _, _, _, _, _, _, _, _, _, _, _, _, _, _, _] ⟨fun x => plain_piece ![x0, x1, x2, x3, x4, x5, x6, x7, x8, x9] 9 (by decide) 768 (by decide) (by decide) x,
    fun x => plain_piece ![x0, x1, x2, x3, x4, x5, x6, x7, x8, x9] 9 (by decide) 512 (by decide) (by decide) x,
    fun x => plain_piece ![x0, x1, x2, x3, x4, x5, x6, x7, x8, x9] 9 (by decide) 256 (by decide) (by decide) x,
    fun x => plain_piece ![x0, x1, x2, x3, x4, x5, x6, x7, x8, x9] 9 (by decide) 0 (by decide) (by decide) x,
    fun x => turned_piece ![x0, x1, x2, x3, x4, x5, x6, x7, x8, x9] 8 (by decide) 768 (by decide) (by decide) x,
    fun x => turned_piece ![x0, x1, x2, x3, x4, x5, x6, x7, x8, x9] 8 (by decide) 512 (by decide) (by decide) x,
    fun x => turned_piece ![x0, x1, x2, x3, x4, x5, x6, x7, x8, x9] 8 (by decide) 256 (by decide) (by decide) x,
    fun x => turned_piece ![x0, x1, x2, x3, x4, x5, x6, x7, x8, x9] 8 (by decide) 0 (by decide) (by decide) x,
    fun x => turned_piece ![x0, x1, x2, x3, x4, x5, x6, x7, x8, x9] 7 (by decide) 768 (by decide) (by decide) x,
    fun x => turned_piece ![x0, x1, x2, x3, x4, x5, x6, x7, x8, x9] 7 (by decide) 512 (by decide) (by decide) x,
    fun x => turned_piece ![x0, x1, x2, x3, x4, x5, x6, x7, x8, x9] 7 (by decide) 256 (by decide) (by decide) x,
    fun x => turned_piece ![x0, x1, x2, x3, x4, x5, x6, x7, x8, x9] 7 (by decide) 0 (by decide) (by decide) x,
    fun x => plain_piece ![x0, x1, x2, x3, x4, x5, x6, x7, x8, x9] 6 (by decide) 768 (by decide) (by decide) x,
    fun x => plain_piece ![x0, x1, x2, x3, x4, x5, x6, x7, x8, x9] 6 (by decide) 512 (by decide) (by decide) x,
    fun x => plain_piece ![x0, x1, x2, x3, x4, x5, x6, x7, x8, x9] 6 (by decide) 256 (by decide) (by decide) x,
    fun x => plain_piece ![x0, x1, x2, x3, x4, x5, x6, x7, x8, x9] 6 (by decide) 0 (by decide) (by decide) x,
    fun x => turned_piece ![x0, x1, x2, x3, x4, x5, x6, x7, x8, x9] 5 (by decide) 768 (by decide) (by decide) x,
    fun x => turned_piece ![x0, x1, x2, x3, x4, x5, x6, x7, x8, x9] 5 (by decide) 512 (by decide) (by decide) x,
    fun x => turned_piece ![x0, x1, x2, x3, x4, x5, x6, x7, x8, x9] 5 (by decide) 256 (by decide) (by decide) x,
    fun x => turned_piece ![x0, x1, x2, x3, x4, x5, x6, x7, x8, x9] 5 (by decide) 0 (by decide) (by decide) x,
    fun x => turned_piece ![x0, x1, x2, x3, x4, x5, x6, x7, x8, x9] 4 (by decide) 768 (by decide) (by decide) x,
    fun x => turned_piece ![x0, x1, x2, x3, x4, x5, x6, x7, x8, x9] 4 (by decide) 512 (by decide) (by decide) x,
    fun x => turned_piece ![x0, x1, x2, x3, x4, x5, x6, x7, x8, x9] 4 (by decide) 256 (by decide) (by decide) x,
    fun x => turned_piece ![x0, x1, x2, x3, x4, x5, x6, x7, x8, x9] 4 (by decide) 0 (by decide) (by decide) x,
    fun x => plain_piece ![x0, x1, x2, x3, x4, x5, x6, x7, x8, x9] 3 (by decide) 768 (by decide) (by decide) x,
    fun x => plain_piece ![x0, x1, x2, x3, x4, x5, x6, x7, x8, x9] 3 (by decide) 512 (by decide) (by decide) x,
    fun x => plain_piece ![x0, x1, x2, x3, x4, x5, x6, x7, x8, x9] 3 (by decide) 256 (by decide) (by decide) x,
    fun x => plain_piece ![x0, x1, x2, x3, x4, x5, x6, x7, x8, x9] 3 (by decide) 0 (by decide) (by decide) x,
    fun x => plain_piece ![x0, x1, x2, x3, x4, x5, x6, x7, x8, x9] 2 (by decide) 768 (by decide) (by decide) x,
    fun x => plain_piece ![x0, x1, x2, x3, x4, x5, x6, x7, x8, x9] 2 (by decide) 512 (by decide) (by decide) x,
    fun x => plain_piece ![x0, x1, x2, x3, x4, x5, x6, x7, x8, x9] 2 (by decide) 256 (by decide) (by decide) x,
    fun x => plain_piece ![x0, x1, x2, x3, x4, x5, x6, x7, x8, x9] 2 (by decide) 0 (by decide) (by decide) x,
    fun x => turned_piece ![x0, x1, x2, x3, x4, x5, x6, x7, x8, x9] 1 (by decide) 768 (by decide) (by decide) x,
    fun x => turned_piece ![x0, x1, x2, x3, x4, x5, x6, x7, x8, x9] 1 (by decide) 512 (by decide) (by decide) x,
    fun x => turned_piece ![x0, x1, x2, x3, x4, x5, x6, x7, x8, x9] 1 (by decide) 256 (by decide) (by decide) x,
    fun x => turned_piece ![x0, x1, x2, x3, x4, x5, x6, x7, x8, x9] 1 (by decide) 0 (by decide) (by decide) x,
    fun x => turned_piece ![x0, x1, x2, x3, x4, x5, x6, x7, x8, x9] 0 (by decide) 768 (by decide) (by decide) x,
    fun x => turned_piece ![x0, x1, x2, x3, x4, x5, x6, x7, x8, x9] 0 (by decide) 512 (by decide) (by decide) x,
    fun x => turned_piece ![x0, x1, x2, x3, x4, x5, x6, x7, x8, x9] 0 (by decide) 256 (by decide) (by decide) x,
    fun x => turned_piece ![x0, x1, x2, x3, x4, x5, x6, x7, x8, x9] 0 (by decide) 0 (by decide) (by decide) x,
    trivial⟩ y (View.cover_of_tiledL _ ![1, 256, 128] (by sl_kernel_rfl) y)

theorem stored_biases (x0 x1 x2 x3 x4 x5 x6 x7 x8 x9 : Vec Ideal S1024x128 .f32) (b0 b1 b2 b3 b4 b5 b6 b7 b8 b9 : Vec Ideal S1x128 .f32) :
    out0_21 (F := Ideal) x0 x1 x2 x3 x4 x5 x6 x7 x8 x9 b0 b1 b2 b3 b4 b5 b6 b7 b8 b9 = blockB ![b0, b1, b2, b3, b4, b5, b6, b7, b8, b9] := by
  unfold out0_21
  simp only [loaded_whole]
  funext y
  refine View.canon_append_of_piecesOf (blockB ![b0, b1, b2, b3, b4, b5, b6, b7, b8, b9]) [] [_, _, _, _, _, _, _, _, _, _] ⟨fun x => plainBias_piece ![b0, b1, b2, b3, b4, b5, b6, b7, b8, b9] 9 (by decide) (by decide) x,
    fun x => turnedBias_piece ![b0, b1, b2, b3, b4, b5, b6, b7, b8, b9] 8 (by decide) (by decide) x,
    fun x => turnedBias_piece ![b0, b1, b2, b3, b4, b5, b6, b7, b8, b9] 7 (by decide) (by decide) x,
    fun x => plainBias_piece ![b0, b1, b2, b3, b4, b5, b6, b7, b8, b9] 6 (by decide) (by decide) x,
    fun x => turnedBias_piece ![b0, b1, b2, b3, b4, b5, b6, b7, b8, b9] 5 (by decide) (by decide) x,
    fun x => turnedBias_piece ![b0, b1, b2, b3, b4, b5, b6, b7, b8, b9] 4 (by decide) (by decide) x,
    fun x => plainBias_piece ![b0, b1, b2, b3, b4, b5, b6, b7, b8, b9] 3 (by decide) (by decide) x,
    fun x => plainBias_piece ![b0, b1, b2, b3, b4, b5, b6, b7, b8, b9] 2 (by decide) (by decide) x,
    fun x => turnedBias_piece ![b0, b1, b2, b3, b4, b5, b6, b7, b8, b9] 1 (by decide) (by decide) x,
    fun x => turnedBias_piece ![b0, b1, b2, b3, b4, b5, b6, b7, b8, b9] 0 (by decide) (by decide) x,
    trivial⟩ y (View.cover_of_tiledL _ ![1, 8, 128] (by sl_kernel_rfl) y)

theorem pts (t : Fin cfg0.N) : t.val < 4 := lt_of_lt_of_eq t.isLt N_0

theorem idx_in : ∀ t : Fin cfg0.N, win0_0.index t = ![0, 0 + t.val] ∧ win0_1.index t = ![0, 12 + t.val] ∧ win0_2.index t = ![0, 24 + t.val] ∧ win0_3.index t = ![0, 36 + t.val] ∧ win0_4.index t = ![0, 4 + t.val] ∧ win0_5.index t = ![0, 16 + t.val] ∧ win0_6.index t = ![0, 28 + t.val] ∧ win0_7.index t = ![0, 8 + t.val] ∧ win0_8.index t = ![0, 20 + t.val] ∧ win0_9.index t = ![0, 32 + t.val]
    ∧ win0_10.index t = ![0, 0 + t.val] ∧ win0_11.index t = ![0, 12 + t.val] ∧ win0_12.index t = ![0, 24 + t.val] ∧ win0_13.index t = ![0, 36 + t.val] ∧ win0_14.index t = ![0, 4 + t.val] ∧ win0_15.index t = ![0, 16 + t.val] ∧ win0_16.index t = ![0, 28 + t.val] ∧ win0_17.index t = ![0, 8 + t.val] ∧ win0_18.index t = ![0, 20 + t.val] ∧ win0_19.index t = ![0, 32 + t.val]
    ∧ win0_20.index t = ![t.val, 0, 0] ∧ win0_21.index t = ![t.val, 0, 0] :=
  (by decide +kernel : ∀ t : Fin grid0.N, _)

theorem blk_w0 (c : Dev nD) (t : Fin cfg0.N) (r : Fin 1024) (k : Fin 128) :
    iblk m c 0 t (ix2 r k) = m ((c : Thread nD τ).loc main_arg0) (ix2 r ⟨0 + t.val * 128 + k.val, by have := pts t; omega⟩) := by
  blk_ext [iblk, V, idx_in t]

theorem blk_b0 (c : Dev nD) (t : Fin cfg0.N) (k : Fin 128) :
    iblk m c 10 t (ix2 0 k) = m ((c : Thread nD τ).loc main_arg1) (ix2 0 ⟨0 + t.val * 128 + k.val, by have := pts t; omega⟩) := by
  blk_ext [iblk, V, idx_in t]

theorem blk_w1 (c : Dev nD) (t : Fin cfg0.N) (r : Fin 1024) (k : Fin 128) :
    iblk m c 1 t (ix2 r k) = m ((c : Thread nD τ).loc main_arg0) (ix2 r ⟨1536 + t.val * 128 + k.val, by have := pts t; omega⟩) := by
  blk_ext [iblk, V, idx_in t]

theorem blk_b1 (c : Dev nD) (t : Fin cfg0.N) (k : Fin 128) :
    iblk m c 11 t (ix2 0 k) = m ((c : Thread nD τ).loc main_arg1) (ix2 0 ⟨1536 + t.val * 128 + k.val, by have := pts t; omega⟩) := by
  blk_ext [iblk, V, idx_in t]

theorem blk_w2 (c : Dev nD) (t : Fin cfg0.N) (r : Fin 1024) (k : Fin 128) :
    iblk m c 2 t (ix2 r k) = m ((c : Thread nD τ).loc main_arg0) (ix2 r ⟨3072 + t.val * 128 + k.val, by have := pts t; omega⟩) := by
  blk_ext [iblk, V, idx_in t]

theorem blk_b2 (c : Dev nD) (t : Fin cfg0.N) (k : Fin 128) :
    iblk m c 12 t (ix2 0 k) = m ((c : Thread nD τ).loc main_arg1) (ix2 0 ⟨3072 + t.val * 128 + k.val, by have := pts t; omega⟩) := by
  blk_ext [iblk, V, idx_in t]

theorem blk_w3 (c : Dev nD) (t : Fin cfg0.N) (r : Fin 1024) (k : Fin 128) :
    iblk m c 3 t (ix2 r k) = m ((c : Thread nD τ).loc main_arg0) (ix2 r ⟨4608 + t.val * 128 + k.val, by have := pts t; omega⟩) := by
  blk_ext [iblk, V, idx_in t]

theorem blk_b3 (c : Dev nD) (t : Fin cfg0.N) (k : Fin 128) :
    iblk m c 13 t (ix2 0 k) = m ((c : Thread nD τ).loc main_arg1) (ix2 0 ⟨4608 + t.val * 128 + k.val, by have := pts t; omega⟩) := by
  blk_ext [iblk, V, idx_in t]

theorem blk_w4 (c : Dev nD) (t : Fin cfg0.N) (r : Fin 1024) (k : Fin 128) :
    iblk m c 4 t (ix2 r k) = m ((c : Thread nD τ).loc main_arg0) (ix2 r ⟨512 + t.val * 128 + k.val, by have := pts t; omega⟩) := by
  blk_ext [iblk, V, idx_in t]

theorem blk_b4 (c : Dev nD) (t : Fin cfg0.N) (k : Fin 128) :
    iblk m c 14 t (ix2 0 k) = m ((c : Thread nD τ).loc main_arg1) (ix2 0 ⟨512 + t.val * 128 + k.val, by have := pts t; omega⟩) := by
  blk_ext [iblk, V, idx_in t]

theorem blk_w5 (c : Dev nD) (t : Fin cfg0.N) (r : Fin 1024) (k : Fin 128) :
    iblk m c 5 t (ix2 r k) = m ((c : Thread nD τ).loc main_arg0) (ix2 r ⟨2048 + t.val * 128 + k.val, by have := pts t; omega⟩) := by
  blk_ext [iblk, V, idx_in t]

theorem blk_b5 (c : Dev nD) (t : Fin cfg0.N) (k : Fin 128) :
    iblk m c 15 t (ix2 0 k) = m ((c : Thread nD τ).loc main_arg1) (ix2 0 ⟨2048 + t.val * 128 + k.val, by have := pts t; omega⟩) := by
  blk_ext [iblk, V, idx_in t]

theorem blk_w6 (c : Dev nD) (t : Fin cfg0.N) (r : Fin 1024) (k : Fin 128) :
    iblk m c 6 t (ix2 r k) = m ((c : Thread nD τ).loc main_arg0) (ix2 r ⟨3584 + t.val * 128 + k.val, by have := pts t; omega⟩) := by
  blk_ext [iblk, V, idx_in t]

theorem blk_b6 (c : Dev nD) (t : Fin cfg0.N) (k : Fin 128) :
    iblk m c 16 t (ix2 0 k) = m ((c : Thread nD τ).loc main_arg1) (ix2 0 ⟨3584 + t.val * 128 + k.val, by have := pts t; omega⟩) := by
  blk_ext [iblk, V, idx_in t]

theorem blk_w7 (c : Dev nD) (t : Fin cfg0.N) (r : Fin 1024) (k : Fin 128) :
    iblk m c 7 t (ix2 r k) = m ((c : Thread nD τ).loc main_arg0) (ix2 r ⟨1024 + t.val * 128 + k.val, by have := pts t; omega⟩) := by
  blk_ext [iblk, V, idx_in t]

theorem blk_b7 (c : Dev nD) (t : Fin cfg0.N) (k : Fin 128) :
    iblk m c 17 t (ix2 0 k) = m ((c : Thread nD τ).loc main_arg1) (ix2 0 ⟨1024 + t.val * 128 + k.val, by have := pts t; omega⟩) := by
  blk_ext [iblk, V, idx_in t]

theorem blk_w8 (c : Dev nD) (t : Fin cfg0.N) (r : Fin 1024) (k : Fin 128) :
    iblk m c 8 t (ix2 r k) = m ((c : Thread nD τ).loc main_arg0) (ix2 r ⟨2560 + t.val * 128 + k.val, by have := pts t; omega⟩) := by
  blk_ext [iblk, V, idx_in t]

theorem blk_b8 (c : Dev nD) (t : Fin cfg0.N) (k : Fin 128) :
    iblk m c 18 t (ix2 0 k) = m ((c : Thread nD τ).loc main_arg1) (ix2 0 ⟨2560 + t.val * 128 + k.val, by have := pts t; omega⟩) := by
  blk_ext [iblk, V, idx_in t]

theorem blk_w9 (c : Dev nD) (t : Fin cfg0.N) (r : Fin 1024) (k : Fin 128) :
    iblk m c 9 t (ix2 r k) = m ((c : Thread nD τ).loc main_arg0) (ix2 r ⟨4096 + t.val * 128 + k.val, by have := pts t; omega⟩) := by
  blk_ext [iblk, V, idx_in t]

theorem blk_b9 (c : Dev nD) (t : Fin cfg0.N) (k : Fin 128) :
    iblk m c 19 t (ix2 0 k) = m ((c : Thread nD τ).loc main_arg1) (ix2 0 ⟨4096 + t.val * 128 + k.val, by have := pts t; omega⟩) := by
  blk_ext [iblk, V, idx_in t]

theorem cols_w (c : Dev nD) (t : Fin cfg0.N) (r : Fin 1024) (k : Fin 128) (i : Fin 10) :
    (![iblk m c 0 t, iblk m c 1 t, iblk m c 2 t, iblk m c 3 t, iblk m c 4 t, iblk m c 5 t, iblk m c 6 t, iblk m c 7 t, iblk m c 8 t, iblk m c 9 t] : Fin 10 → Vec Ideal S1024x128 .f32) i (ix2 r k)
      = m ((c : Thread nD τ).loc main_arg0) (ix2 r ⟨base i.val + t.val * 128 + k.val, by have := pts t; have := base_le i.val; omega⟩) := by
  match i with
  | ⟨0, _⟩ => exact blk_w0 m c t r k
  | ⟨1, _⟩ => exact blk_w1 m c t r k
  | ⟨2, _⟩ => exact blk_w2 m c t r k
  | ⟨3, _⟩ => exact blk_w3 m c t r k
  | ⟨4, _⟩ => exact blk_w4 m c t r k
  | ⟨5, _⟩ => exact blk_w5 m c t r k
  | ⟨6, _⟩ => exact blk_w6 m c t r k
  | ⟨7, _⟩ => exact blk_w7 m c t r k
  | ⟨8, _⟩ => exact blk_w8 m c t r k
  | ⟨9, _⟩ => exact blk_w9 m c t r k

theorem final_weights (c : Dev nD) : (dats m 0 c).arrAt 20 cfg0.N = weights (m ((c : Thread nD τ).loc main_arg0)) := by
  refine (dats m 0 c).arrAt_eq_of_covers 20 _ (by decide +kernel) fun t hf y => ?_
  blk_simp
  rw [after0_20, stored_weights]
  obtain ⟨z, r, l, rfl⟩ : ∃ (z : Fin 1) (r : Fin 1024) (l : Fin 1280), y = (ix3 z r l : (⟨3, ![1, 1024, 1280]⟩ : Shape).Idx) := ⟨y 0, y 1, y 2, eq_ix3 y⟩
  obtain rfl : z = 0 := Subsingleton.elim _ _
  have he : ((win0_20.blk t).view.emb (ix3 0 r l) : (⟨3, ![4, 1024, 1280]⟩ : Shape).Idx) = ix3 ⟨t.val, pts t⟩ r l := by
    blk_ext [idx_in t]
  rw [he]
  exact cols_w m c t r _ _

theorem cols_b (c : Dev nD) (t : Fin cfg0.N) (k : Fin 128) (i : Fin 10) :
    (![iblk m c 10 t, iblk m c 11 t, iblk m c 12 t, iblk m c 13 t, iblk m c 14 t, iblk m c 15 t, iblk m c 16 t, iblk m c 17 t, iblk m c 18 t, iblk m c 19 t] : Fin 10 → Vec Ideal S1x128 .f32) i (ix2 0 k)
      = m ((c : Thread nD τ).loc main_arg1) (ix2 0 ⟨base i.val + t.val * 128 + k.val, by have := pts t; have := base_le i.val; omega⟩) := by
  match i with
  | ⟨0, _⟩ => exact blk_b0 m c t k
  | ⟨1, _⟩ => exact blk_b1 m c t k
  | ⟨2, _⟩ => exact blk_b2 m c t k
  | ⟨3, _⟩ => exact blk_b3 m c t k
  | ⟨4, _⟩ => exact blk_b4 m c t k
  | ⟨5, _⟩ => exact blk_b5 m c t k
  | ⟨6, _⟩ => exact blk_b6 m c t k
  | ⟨7, _⟩ => exact blk_b7 m c t k
  | ⟨8, _⟩ => exact blk_b8 m c t k
  | ⟨9, _⟩ => exact blk_b9 m c t k

theorem final_biases (c : Dev nD) : (dats m 0 c).arrAt 21 cfg0.N = biases (m ((c : Thread nD τ).loc main_arg1)) := by
  refine (dats m 0 c).arrAt_eq_of_covers 21 _ (by decide +kernel) fun t hf y => ?_
  blk_simp
  rw [after0_21, stored_biases]
  obtain ⟨z, r, l, rfl⟩ : ∃ (z : Fin 1) (r : Fin 8) (l : Fin 1280), y = (ix3 z r l : (⟨3, ![1, 8, 1280]⟩ : Shape).Idx) := ⟨y 0, y 1, y 2, eq_ix3 y⟩
  obtain rfl : z = 0 := Subsingleton.elim _ _
  have he : ((win0_21.blk t).view.emb (ix3 0 r l) : (⟨3, ![4, 8, 1280]⟩ : Shape).Idx) = ix3 ⟨t.val, pts t⟩ r l := by
    blk_ext [idx_in t]
  rw [he]
  exact cols_b m c t _ _

end Cert.Laid

end
-- ==== Proof.WtsReference.lean ====
/- The weight layout reference's two result arrays read entry by entry. -/
module

public import proofs.«01_k».proof.Proof.WtsSpec
public import proofs.«01_k».proof.Proof.Gen.WtsRefIdeal.Run
public import Idealize.ShloMosaic.Lib.Tactic.CleanTypes
public import Idealize.ShloMosaic.Lib.Pipeline.Value

@[expose] public section

set_option maxRecDepth 16384

noncomputable section

namespace Cert.Laid

open Idealize.ShloMosaic Idealize.ShloMosaic.TcCoe Idealize.ShloMosaic.Tactic
open Cert.WtsRefIdeal Cert.WtsRefIdeal.Gen Cert.WtsRefIdeal.Value

variable (m : (ℓ : Loc Cert.WtsRefIdeal.nD Cert.WtsRefIdeal.τ Cert.WtsRefIdeal.sig) → Buf (Elt Ideal) ℓ)

/-- Ten slabs of 128 columns side by side, read at a column. -/
theorem slabs_at {n : ℕ} (f : Fin 10 → (⟨3, ![n, 4, 128]⟩ : Shape).Idx → EReal)
    (h : Shape.Concatenates ((List.ofFn fun k : Fin 10 => (⟨⟨3, ![n, 4, 128]⟩, f k⟩ : (s : Shape) × (s.Idx → EReal))).map (·.1)) ⟨3, ![n, 4, 1280]⟩ 2)
    (r : Fin n) (p : Fin 4) (l : Fin 1280) :
    concatenate ⟨3, ![n, 4, 1280]⟩ 2 (List.ofFn fun k : Fin 10 => (⟨⟨3, ![n, 4, 128]⟩, f k⟩ : (s : Shape) × (s.Idx → EReal))) h (ix3 r p l)
      = f ⟨l.val / 128, by omega⟩ (ix3 r p ⟨l.val % 128, by omega⟩) :=
  concatenate_ofFn_apply 2 f h rfl 128 rfl (ix3 r p l) ⟨l.val / 128, by omega⟩ rfl (ix3 r p ⟨l.val % 128, by omega⟩) rfl
    (fun b hb => by
      match b with
      | ⟨0, _⟩ => rfl
      | ⟨1, _⟩ => rfl
      | ⟨2, _⟩ => exact absurd rfl hb)

theorem rotary_at (x : FVec Ideal S1024x512 .f32) (h1 : S1024x512.ShapeCasts S1024x4x2x2x32)
    (h2 : S1024x4x2x2x32.Transposes [0, 1, 3, 2, 4] S1024x4x2x2x32) (h3 : S1024x4x2x2x32.ShapeCasts S1024x4x128)
    (r : Fin 1024) (p : Fin 4) (k : Fin 128) :
    shapeCast S1024x4x128 (transpose S1024x4x2x2x32 [0, 1, 3, 2, 4] (shapeCast S1024x4x2x2x32 x h1) h2) h3 (ix3 r p k)
      = x (ix2 r ⟨p.val * 128 + turn k.val, by have := turn_lt k.isLt; omega⟩) := by
  pointwise []
  refine congrArg (fun q => x (ix2 _ q)) (Fin.ext ?_)
  show p.val * 128 + k.val / 32 % 2 * 64 + k.val / 64 * 32 + k.val % 32 = p.val * 128 + turn k.val
  unfold turn
  split <;> (try split) <;> omega

theorem pair_at (x : FVec Ideal S1024x512 .f32) (h : S1024x512.ShapeCasts S1024x4x128) (r : Fin 1024) (p : Fin 4) (k : Fin 128) :
    shapeCast S1024x4x128 x h (ix3 r p k) = x (ix2 r ⟨p.val * 128 + k.val, by omega⟩) := by
  pointwise []

theorem rotaryBias_at (x : FVec Ideal S1x512 .f32) (h1 : S1x512.ShapeCasts S1x4x2x2x32)
    (h2 : S1x4x2x2x32.Transposes [0, 1, 3, 2, 4] S1x4x2x2x32) (h3 : S1x4x2x2x32.ShapeCasts S1x4x128)
    (r : Fin 1) (p : Fin 4) (k : Fin 128) :
    shapeCast S1x4x128 (transpose S1x4x2x2x32 [0, 1, 3, 2, 4] (shapeCast S1x4x2x2x32 x h1) h2) h3 (ix3 r p k)
      = x (ix2 r ⟨p.val * 128 + turn k.val, by have := turn_lt k.isLt; omega⟩) := by
  obtain rfl : r = 0 := Subsingleton.elim _ _
  pointwise []
  refine congrArg (fun q => x (ix2 _ q)) (Fin.ext ?_)
  show p.val * 128 + k.val / 32 % 2 * 64 + k.val / 64 * 32 + k.val % 32 = p.val * 128 + turn k.val
  unfold turn
  split <;> (try split) <;> omega

theorem pairBias_at (x : FVec Ideal S1x512 .f32) (h : S1x512.ShapeCasts S1x4x128) (r : Fin 1) (p : Fin 4) (k : Fin 128) :
    shapeCast S1x4x128 x h (ix3 r p k) = x (ix2 r ⟨p.val * 128 + k.val, by omega⟩) := by
  obtain rfl : r = 0 := Subsingleton.elim _ _
  pointwise []

/-- The reference's ten slabs. -/
def slabs (w : FVec Ideal S1024x9216 .f32) : Fin 10 → FVec Ideal S1024x4x128 .f32 :=
  ![shapeCast S1024x4x128 (transpose S1024x4x2x2x32 [0, 1, 3, 2, 4] (shapeCast S1024x4x2x2x32 (extractStridedSlice S1024x512 ![0, 0] (extractStridedSlice S1024x1536 ![0, 0] w slices_S1024x9216_S1024x1536_0_0) slices_S1024x1536_S1024x512_0_0) shapeCasts_S1024x512_S1024x4x2x2x32) transposes_S1024x4x2x2x32_S1024x4x2x2x32_0_1_3_2_4) shapeCasts_S1024x4x2x2x32_S1024x4x128,
    shapeCast S1024x4x128 (transpose S1024x4x2x2x32 [0, 1, 3, 2, 4] (shapeCast S1024x4x2x2x32 (extractStridedSlice S1024x512 ![0, 0] (extractStridedSlice S1024x1536 ![0, 1536] w slices_S1024x9216_S1024x1536_0_1536) slices_S1024x1536_S1024x512_0_0) shapeCasts_S1024x512_S1024x4x2x2x32) transposes_S1024x4x2x2x32_S1024x4x2x2x32_0_1_3_2_4) shapeCasts_S1024x4x2x2x32_S1024x4x128,
    shapeCast S1024x4x128 (extractStridedSlice S1024x512 ![0, 0] (extractStridedSlice S1024x1536 ![0, 3072] w slices_S1024x9216_S1024x1536_0_3072) slices_S1024x1536_S1024x512_0_0) shapeCasts_S1024x512_S1024x4x128,
    shapeCast S1024x4x128 (extractStridedSlice S1024x512 ![0, 4608] w slices_S1024x9216_S1024x512_0_4608) shapeCasts_S1024x512_S1024x4x128,
    shapeCast S1024x4x128 (transpose S1024x4x2x2x32 [0, 1, 3, 2, 4] (shapeCast S1024x4x2x2x32 (extractStridedSlice S1024x512 ![0, 512] (extractStridedSlice S1024x1536 ![0, 0] w slices_S1024x9216_S1024x1536_0_0) slices_S1024x1536_S1024x512_0_512) shapeCasts_S1024x512_S1024x4x2x2x32) transposes_S1024x4x2x2x32_S1024x4x2x2x32_0_1_3_2_4) shapeCasts_S1024x4x2x2x32_S1024x4x128,
    shapeCast S1024x4x128 (transpose S1024x4x2x2x32 [0, 1, 3, 2, 4] (shapeCast S1024x4x2x2x32 (extractStridedSlice S1024x512 ![0, 512] (extractStridedSlice S1024x1536 ![0, 1536] w slices_S1024x9216_S1024x1536_0_1536) slices_S1024x1536_S1024x512_0_512) shapeCasts_S1024x512_S1024x4x2x2x32) transposes_S1024x4x2x2x32_S1024x4x2x2x32_0_1_3_2_4) shapeCasts_S1024x4x2x2x32_S1024x4x128,
    shapeCast S1024x4x128 (extractStridedSlice S1024x512 ![0, 512] (extractStridedSlice S1024x1536 ![0, 3072] w slices_S1024x9216_S1024x1536_0_3072) slices_S1024x1536_S1024x512_0_512) shapeCasts_S1024x512_S1024x4x128,
    shapeCast S1024x4x128 (transpose S1024x4x2x2x32 [0, 1, 3, 2, 4] (shapeCast S1024x4x2x2x32 (extractStridedSlice S1024x512 ![0, 1024] (extractStridedSlice S1024x1536 ![0, 0] w slices_S1024x9216_S1024x1536_0_0) slices_S1024x1536_S1024x512_0_1024) shapeCasts_S1024x512_S1024x4x2x2x32) transposes_S1024x4x2x2x32_S1024x4x2x2x32_0_1_3_2_4) shapeCasts_S1024x4x2x2x32_S1024x4x128,
    shapeCast S1024x4x128 (transpose S1024x4x2x2x32 [0, 1, 3, 2, 4] (shapeCast S1024x4x2x2x32 (extractStridedSlice S1024x512 ![0, 1024] (extractStridedSlice S1024x1536 ![0, 1536] w slices_S1024x9216_S1024x1536_0_1536) slices_S1024x1536_S1024x512_0_1024) shapeCasts_S1024x512_S1024x4x2x2x32) transposes_S1024x4x2x2x32_S1024x4x2x2x32_0_1_3_2_4) shapeCasts_S1024x4x2x2x32_S1024x4x128,
    shapeCast S1024x4x128 (extractStridedSlice S1024x512 ![0, 1024] (extractStridedSlice S1024x1536 ![0, 3072] w slices_S1024x9216_S1024x1536_0_3072) slices_S1024x1536_S1024x512_0_1024) shapeCasts_S1024x512_S1024x4x128]

theorem weight_slab (w : FVec Ideal S1024x9216 .f32) (r : Fin 1024) (p : Fin 4) (k : Fin 128) (i : Fin 10) :
    slabs w i (ix3 r p k) = w (ix2 r ⟨base i.val + p.val * 128 + place i.val k.val, by
      have h1 := base_le i.val
      have h2 : place i.val k.val < 128 := place_lt _ k.isLt
      omega⟩) := by
  match i with
  | ⟨0, _⟩ =>
    show (shapeCast S1024x4x128 (transpose S1024x4x2x2x32 [0, 1, 3, 2, 4] (shapeCast S1024x4x2x2x32 (extractStridedSlice S1024x512 ![0, 0] (extractStridedSlice S1024x1536 ![0, 0] w slices_S1024x9216_S1024x1536_0_0) slices_S1024x1536_S1024x512_0_0) shapeCasts_S1024x512_S1024x4x2x2x32) transposes_S1024x4x2x2x32_S1024x4x2x2x32_0_1_3_2_4) shapeCasts_S1024x4x2x2x32_S1024x4x128) (ix3 r p k) = _
    refine (rotary_at _ _ _ _ r p k).trans ?_
    pointwise []
    exact congrArg (fun q => w (ix2 _ q)) (Fin.ext (by show _ = 0 + p.val * 128 + turn k.val; dsimp only; omega))
  | ⟨1, _⟩ =>
    show (shapeCast S1024x4x128 (transpose S1024x4x2x2x32 [0, 1, 3, 2, 4] (shapeCast S1024x4x2x2x32 (extractStridedSlice S1024x512 ![0, 0] (extractStridedSlice S1024x1536 ![0, 1536] w slices_S1024x9216_S1024x1536_0_1536) slices_S1024x1536_S1024x512_0_0) shapeCasts_S1024x512_S1024x4x2x2x32) transposes_S1024x4x2x2x32_S1024x4x2x2x32_0_1_3_2_4) shapeCasts_S1024x4x2x2x32_S1024x4x128) (ix3 r p k) = _
    refine (rotary_at _ _ _ _ r p k).trans ?_
    pointwise []
    exact congrArg (fun q => w (ix2 _ q)) (Fin.ext (by show _ = 1536 + p.val * 128 + turn k.val; dsimp only; omega))
  | ⟨2, _⟩ =>
    show (shapeCast S1024x4x128 (extractStridedSlice S1024x512 ![0, 0] (extractStridedSlice S1024x1536 ![0, 3072] w slices_S1024x9216_S1024x1536_0_3072) slices_S1024x1536_S1024x512_0_0) shapeCasts_S1024x512_S1024x4x128) (ix3 r p k) = _
    refine (pair_at _ _ r p k).trans ?_
    pointwise []
    exact congrArg (fun q => w (ix2 _ q)) (Fin.ext (by show _ = 3072 + p.val * 128 + k.val; dsimp only; omega))
  | ⟨3, _⟩ =>
    show (shapeCast S1024x4x128 (extractStridedSlice S1024x512 ![0, 4608] w slices_S1024x9216_S1024x512_0_4608) shapeCasts_S1024x512_S1024x4x128) (ix3 r p k) = _
    refine (pair_at _ _ r p k).trans ?_
    pointwise []
    exact congrArg (fun q => w (ix2 _ q)) (Fin.ext (by show _ = 4608 + p.val * 128 + k.val; dsimp only; omega))
  | ⟨4, _⟩ =>
    show (shapeCast S1024x4x128 (transpose S1024x4x2x2x32 [0, 1, 3, 2, 4] (shapeCast S1024x4x2x2x32 (extractStridedSlice S1024x512 ![0, 512] (extractStridedSlice S1024x1536 ![0, 0] w slices_S1024x9216_S1024x1536_0_0) slices_S1024x1536_S1024x512_0_512) shapeCasts_S1024x512_S1024x4x2x2x32) transposes_S1024x4x2x2x32_S1024x4x2x2x32_0_1_3_2_4) shapeCasts_S1024x4x2x2x32_S1024x4x128) (ix3 r p k) = _
    refine (rotary_at _ _ _ _ r p k).trans ?_
    pointwise []
    exact congrArg (fun q => w (ix2 _ q)) (Fin.ext (by show _ = 512 + p.val * 128 + turn k.val; dsimp only; omega))
  | ⟨5, _⟩ =>
    show (shapeCast S1024x4x128 (transpose S1024x4x2x2x32 [0, 1, 3, 2, 4] (shapeCast S1024x4x2x2x32 (extractStridedSlice S1024x512 ![0, 512] (extractStridedSlice S1024x1536 ![0, 1536] w slices_S1024x9216_S1024x1536_0_1536) slices_S1024x1536_S1024x512_0_512) shapeCasts_S1024x512_S1024x4x2x2x32) transposes_S1024x4x2x2x32_S1024x4x2x2x32_0_1_3_2_4) shapeCasts_S1024x4x2x2x32_S1024x4x128) (ix3 r p k) = _
    refine (rotary_at _ _ _ _ r p k).trans ?_
    pointwise []
    exact congrArg (fun q => w (ix2 _ q)) (Fin.ext (by show _ = 2048 + p.val * 128 + turn k.val; dsimp only; omega))
  | ⟨6, _⟩ =>
    show (shapeCast S1024x4x128 (extractStridedSlice S1024x512 ![0, 512] (extractStridedSlice S1024x1536 ![0, 3072] w slices_S1024x9216_S1024x1536_0_3072) slices_S1024x1536_S1024x512_0_512) shapeCasts_S1024x512_S1024x4x128) (ix3 r p k) = _
    refine (pair_at _ _ r p k).trans ?_
    pointwise []
    exact congrArg (fun q => w (ix2 _ q)) (Fin.ext (by show _ = 3584 + p.val * 128 + k.val; dsimp only; omega))
  | ⟨7, _⟩ =>
    show (shapeCast S1024x4x128 (transpose S1024x4x2x2x32 [0, 1, 3, 2, 4] (shapeCast S1024x4x2x2x32 (extractStridedSlice S1024x512 ![0, 1024] (extractStridedSlice S1024x1536 ![0, 0] w slices_S1024x9216_S1024x1536_0_0) slices_S1024x1536_S1024x512_0_1024) shapeCasts_S1024x512_S1024x4x2x2x32) transposes_S1024x4x2x2x32_S1024x4x2x2x32_0_1_3_2_4) shapeCasts_S1024x4x2x2x32_S1024x4x128) (ix3 r p k) = _
    refine (rotary_at _ _ _ _ r p k).trans ?_
    pointwise []
    exact congrArg (fun q => w (ix2 _ q)) (Fin.ext (by show _ = 1024 + p.val * 128 + turn k.val; dsimp only; omega))
  | ⟨8, _⟩ =>
    show (shapeCast S1024x4x128 (transpose S1024x4x2x2x32 [0, 1, 3, 2, 4] (shapeCast S1024x4x2x2x32 (extractStridedSlice S1024x512 ![0, 1024] (extractStridedSlice S1024x1536 ![0, 1536] w slices_S1024x9216_S1024x1536_0_1536) slices_S1024x1536_S1024x512_0_1024) shapeCasts_S1024x512_S1024x4x2x2x32) transposes_S1024x4x2x2x32_S1024x4x2x2x32_0_1_3_2_4) shapeCasts_S1024x4x2x2x32_S1024x4x128) (ix3 r p k) = _
    refine (rotary_at _ _ _ _ r p k).trans ?_
    pointwise []
    exact congrArg (fun q => w (ix2 _ q)) (Fin.ext (by show _ = 2560 + p.val * 128 + turn k.val; dsimp only; omega))
  | ⟨9, _⟩ =>
    show (shapeCast S1024x4x128 (extractStridedSlice S1024x512 ![0, 1024] (extractStridedSlice S1024x1536 ![0, 3072] w slices_S1024x9216_S1024x1536_0_3072) slices_S1024x1536_S1024x512_0_1024) shapeCasts_S1024x512_S1024x4x128) (ix3 r p k) = _
    refine (pair_at _ _ r p k).trans ?_
    pointwise []
    exact congrArg (fun q => w (ix2 _ q)) (Fin.ext (by show _ = 4096 + p.val * 128 + k.val; dsimp only; omega))

/-- The reference's ten slabs. -/
def slabsBias (w : FVec Ideal S1x9216 .f32) : Fin 10 → FVec Ideal S1x4x128 .f32 :=
  ![shapeCast S1x4x128 (transpose S1x4x2x2x32 [0, 1, 3, 2, 4] (shapeCast S1x4x2x2x32 (extractStridedSlice S1x512 ![0, 0] (extractStridedSlice S1x1536 ![0, 0] w slices_S1x9216_S1x1536_0_0) slices_S1x1536_S1x512_0_0) shapeCasts_S1x512_S1x4x2x2x32) transposes_S1x4x2x2x32_S1x4x2x2x32_0_1_3_2_4) shapeCasts_S1x4x2x2x32_S1x4x128,
    shapeCast S1x4x128 (transpose S1x4x2x2x32 [0, 1, 3, 2, 4] (shapeCast S1x4x2x2x32 (extractStridedSlice S1x512 ![0, 0] (extractStridedSlice S1x1536 ![0, 1536] w slices_S1x9216_S1x1536_0_1536) slices_S1x1536_S1x512_0_0) shapeCasts_S1x512_S1x4x2x2x32) transposes_S1x4x2x2x32_S1x4x2x2x32_0_1_3_2_4) shapeCasts_S1x4x2x2x32_S1x4x128,
    shapeCast S1x4x128 (extractStridedSlice S1x512 ![0, 0] (extractStridedSlice S1x1536 ![0, 3072] w slices_S1x9216_S1x1536_0_3072) slices_S1x1536_S1x512_0_0) shapeCasts_S1x512_S1x4x128,
    shapeCast S1x4x128 (extractStridedSlice S1x512 ![0, 4608] w slices_S1x9216_S1x512_0_4608) shapeCasts_S1x512_S1x4x128,
    shapeCast S1x4x128 (transpose S1x4x2x2x32 [0, 1, 3, 2, 4] (shapeCast S1x4x2x2x32 (extractStridedSlice S1x512 ![0, 512] (extractStridedSlice S1x1536 ![0, 0] w slices_S1x9216_S1x1536_0_0) slices_S1x1536_S1x512_0_512) shapeCasts_S1x512_S1x4x2x2x32) transposes_S1x4x2x2x32_S1x4x2x2x32_0_1_3_2_4) shapeCasts_S1x4x2x2x32_S1x4x128,
    shapeCast S1x4x128 (transpose S1x4x2x2x32 [0, 1, 3, 2, 4] (shapeCast S1x4x2x2x32 (extractStridedSlice S1x512 ![0, 512] (extractStridedSlice S1x1536 ![0, 1536] w slices_S1x9216_S1x1536_0_1536) slices_S1x1536_S1x512_0_512) shapeCasts_S1x512_S1x4x2x2x32) transposes_S1x4x2x2x32_S1x4x2x2x32_0_1_3_2_4) shapeCasts_S1x4x2x2x32_S1x4x128,
    shapeCast S1x4x128 (extractStridedSlice S1x512 ![0, 512] (extractStridedSlice S1x1536 ![0, 3072] w slices_S1x9216_S1x1536_0_3072) slices_S1x1536_S1x512_0_512) shapeCasts_S1x512_S1x4x128,
    shapeCast S1x4x128 (transpose S1x4x2x2x32 [0, 1, 3, 2, 4] (shapeCast S1x4x2x2x32 (extractStridedSlice S1x512 ![0, 1024] (extractStridedSlice S1x1536 ![0, 0] w slices_S1x9216_S1x1536_0_0) slices_S1x1536_S1x512_0_1024) shapeCasts_S1x512_S1x4x2x2x32) transposes_S1x4x2x2x32_S1x4x2x2x32_0_1_3_2_4) shapeCasts_S1x4x2x2x32_S1x4x128,
    shapeCast S1x4x128 (transpose S1x4x2x2x32 [0, 1, 3, 2, 4] (shapeCast S1x4x2x2x32 (extractStridedSlice S1x512 ![0, 1024] (extractStridedSlice S1x1536 ![0, 1536] w slices_S1x9216_S1x1536_0_1536) slices_S1x1536_S1x512_0_1024) shapeCasts_S1x512_S1x4x2x2x32) transposes_S1x4x2x2x32_S1x4x2x2x32_0_1_3_2_4) shapeCasts_S1x4x2x2x32_S1x4x128,
    shapeCast S1x4x128 (extractStridedSlice S1x512 ![0, 1024] (extractStridedSlice S1x1536 ![0, 3072] w slices_S1x9216_S1x1536_0_3072) slices_S1x1536_S1x512_0_1024) shapeCasts_S1x512_S1x4x128]

theorem bias_slab (w : FVec Ideal S1x9216 .f32) (r : Fin 1) (p : Fin 4) (k : Fin 128) (i : Fin 10) :
    slabsBias w i (ix3 r p k) = w (ix2 r ⟨base i.val + p.val * 128 + place i.val k.val, by
      have h1 := base_le i.val
      have h2 : place i.val k.val < 128 := place_lt _ k.isLt
      omega⟩) := by
  obtain rfl : r = 0 := Subsingleton.elim _ _
  match i with
  | ⟨0, _⟩ =>
    show (shapeCast S1x4x128 (transpose S1x4x2x2x32 [0, 1, 3, 2, 4] (shapeCast S1x4x2x2x32 (extractStridedSlice S1x512 ![0, 0] (extractStridedSlice S1x1536 ![0, 0] w slices_S1x9216_S1x1536_0_0) slices_S1x1536_S1x512_0_0) shapeCasts_S1x512_S1x4x2x2x32) transposes_S1x4x2x2x32_S1x4x2x2x32_0_1_3_2_4) shapeCasts_S1x4x2x2x32_S1x4x128) (ix3 0 p k) = _
    refine (rotaryBias_at _ _ _ _ 0 p k).trans ?_
    pointwise []
    exact congrArg (fun q => w (ix2 _ q)) (Fin.ext (by show _ = 0 + p.val * 128 + turn k.val; dsimp only; omega))
  | ⟨1, _⟩ =>
    show (shapeCast S1x4x128 (transpose S1x4x2x2x32 [0, 1, 3, 2, 4] (shapeCast S1x4x2x2x32 (extractStridedSlice S1x512 ![0, 0] (extractStridedSlice S1x1536 ![0, 1536] w slices_S1x9216_S1x1536_0_1536) slices_S1x1536_S1x512_0_0) shapeCasts_S1x512_S1x4x2x2x32) transposes_S1x4x2x2x32_S1x4x2x2x32_0_1_3_2_4) shapeCasts_S1x4x2x2x32_S1x4x128) (ix3 0 p k) = _
    refine (rotaryBias_at _ _ _ _ 0 p k).trans ?_
    pointwise []
    exact congrArg (fun q => w (ix2 _ q)) (Fin.ext (by show _ = 1536 + p.val * 128 + turn k.val; dsimp only; omega))
  | ⟨2, _⟩ =>
    show (shapeCast S1x4x128 (extractStridedSlice S1x512 ![0, 0] (extractStridedSlice S1x1536 ![0, 3072] w slices_S1x9216_S1x1536_0_3072) slices_S1x1536_S1x512_0_0) shapeCasts_S1x512_S1x4x128) (ix3 0 p k) = _
    refine (pairBias_at _ _ 0 p k).trans ?_
    pointwise []
    exact congrArg (fun q => w (ix2 _ q)) (Fin.ext (by show _ = 3072 + p.val * 128 + k.val; dsimp only; omega))
  | ⟨3, _⟩ =>
    show (shapeCast S1x4x128 (extractStridedSlice S1x512 ![0, 4608] w slices_S1x9216_S1x512_0_4608) shapeCasts_S1x512_S1x4x128) (ix3 0 p k) = _
    refine (pairBias_at _ _ 0 p k).trans ?_
    pointwise []
    exact congrArg (fun q => w (ix2 _ q)) (Fin.ext (by show _ = 4608 + p.val * 128 + k.val; dsimp only; omega))
  | ⟨4, _⟩ =>
    show (shapeCast S1x4x128 (transpose S1x4x2x2x32 [0, 1, 3, 2, 4] (shapeCast S1x4x2x2x32 (extractStridedSlice S1x512 ![0, 512] (extractStridedSlice S1x1536 ![0, 0] w slices_S1x9216_S1x1536_0_0) slices_S1x1536_S1x512_0_512) shapeCasts_S1x512_S1x4x2x2x32) transposes_S1x4x2x2x32_S1x4x2x2x32_0_1_3_2_4) shapeCasts_S1x4x2x2x32_S1x4x128) (ix3 0 p k) = _
    refine (rotaryBias_at _ _ _ _ 0 p k).trans ?_
    pointwise []
    exact congrArg (fun q => w (ix2 _ q)) (Fin.ext (by show _ = 512 + p.val * 128 + turn k.val; dsimp only; omega))
  | ⟨5, _⟩ =>
    show (shapeCast S1x4x128 (transpose S1x4x2x2x32 [0, 1, 3, 2, 4] (shapeCast S1x4x2x2x32 (extractStridedSlice S1x512 ![0, 512] (extractStridedSlice S1x1536 ![0, 1536] w slices_S1x9216_S1x1536_0_1536) slices_S1x1536_S1x512_0_512) shapeCasts_S1x512_S1x4x2x2x32) transposes_S1x4x2x2x32_S1x4x2x2x32_0_1_3_2_4) shapeCasts_S1x4x2x2x32_S1x4x128) (ix3 0 p k) = _
    refine (rotaryBias_at _ _ _ _ 0 p k).trans ?_
    pointwise []
    exact congrArg (fun q => w (ix2 _ q)) (Fin.ext (by show _ = 2048 + p.val * 128 + turn k.val; dsimp only; omega))
  | ⟨6, _⟩ =>
    show (shapeCast S1x4x128 (extractStridedSlice S1x512 ![0, 512] (extractStridedSlice S1x1536 ![0, 3072] w slices_S1x9216_S1x1536_0_3072) slices_S1x1536_S1x512_0_512) shapeCasts_S1x512_S1x4x128) (ix3 0 p k) = _
    refine (pairBias_at _ _ 0 p k).trans ?_
    pointwise []
    exact congrArg (fun q => w (ix2 _ q)) (Fin.ext (by show _ = 3584 + p.val * 128 + k.val; dsimp only; omega))
  | ⟨7, _⟩ =>
    show (shapeCast S1x4x128 (transpose S1x4x2x2x32 [0, 1, 3, 2, 4] (shapeCast S1x4x2x2x32 (extractStridedSlice S1x512 ![0, 1024] (extractStridedSlice S1x1536 ![0, 0] w slices_S1x9216_S1x1536_0_0) slices_S1x1536_S1x512_0_1024) shapeCasts_S1x512_S1x4x2x2x32) transposes_S1x4x2x2x32_S1x4x2x2x32_0_1_3_2_4) shapeCasts_S1x4x2x2x32_S1x4x128) (ix3 0 p k) = _
    refine (rotaryBias_at _ _ _ _ 0 p k).trans ?_
    pointwise []
    exact congrArg (fun q => w (ix2 _ q)) (Fin.ext (by show _ = 1024 + p.val * 128 + turn k.val; dsimp only; omega))
  | ⟨8, _⟩ =>
    show (shapeCast S1x4x128 (transpose S1x4x2x2x32 [0, 1, 3, 2, 4] (shapeCast S1x4x2x2x32 (extractStridedSlice S1x512 ![0, 1024] (extractStridedSlice S1x1536 ![0, 1536] w slices_S1x9216_S1x1536_0_1536) slices_S1x1536_S1x512_0_1024) shapeCasts_S1x512_S1x4x2x2x32) transposes_S1x4x2x2x32_S1x4x2x2x32_0_1_3_2_4) shapeCasts_S1x4x2x2x32_S1x4x128) (ix3 0 p k) = _
    refine (rotaryBias_at _ _ _ _ 0 p k).trans ?_
    pointwise []
    exact congrArg (fun q => w (ix2 _ q)) (Fin.ext (by show _ = 2560 + p.val * 128 + turn k.val; dsimp only; omega))
  | ⟨9, _⟩ =>
    show (shapeCast S1x4x128 (extractStridedSlice S1x512 ![0, 1024] (extractStridedSlice S1x1536 ![0, 3072] w slices_S1x9216_S1x1536_0_3072) slices_S1x1536_S1x512_0_1024) shapeCasts_S1x512_S1x4x128) (ix3 0 p k) = _
    refine (pairBias_at _ _ 0 p k).trans ?_
    pointwise []
    exact congrArg (fun q => w (ix2 _ q)) (Fin.ext (by show _ = 4096 + p.val * 128 + k.val; dsimp only; omega))

theorem weights_outer (y : FVec Ideal S1024x4x1280 .f32) (h : S1024x4x1280.Transposes [1, 0, 2] S4x1024x1280) (p : Fin 4) (r : Fin 1024) (l : Fin 1280) :
    (truncf .bf16 (transpose S4x1024x1280 [1, 0, 2] y h : FVec Ideal S4x1024x1280 .f32) bitsLt_bf16_f32 : FVec Ideal S4x1024x1280 .bf16) (ix3 p r l) = y (ix3 r p l) := by
  pointwise []

theorem biases_outer (y : FVec Ideal S1x4x1280 .f32) (h : S1x4x1280.Transposes [1, 0, 2] S4x1x1280) (p : Fin 4) (r : Fin 8) (l : Fin 1280) :
    broadcastInDim S4x8x1280 ![0, 1, 2] bcast_S4x1x1280_S4x8x1280_0_1_2 (transpose S4x1x1280 [1, 0, 2] y h) (ix3 p r l) = y (ix3 0 p l) := by
  pointwise []

theorem reference_weights (c : Dev Cert.WtsRefIdeal.nD) : res_main_v40 m c = weights (m ((c : Thread nD τ).loc main_arg0)) := by
  funext i
  obtain ⟨p, r, l, rfl⟩ : ∃ (p : Fin 4) (r : Fin 1024) (l : Fin 1280), i = (ix3 p r l : (⟨3, ![4, 1024, 1280]⟩ : Shape).Idx) := ⟨i 0, i 1, i 2, eq_ix3 i⟩
  exact (weights_outer _ _ p r l).trans <| (slabs_at (slabs (m ((c : Thread nD τ).loc main_arg0))) _ r p l).trans (weight_slab _ r p _ _)

/-- The reference's biases. -/
def laidBiases (b : FVec Ideal S1x9216 .f32) : FVec Ideal S4x8x1280 .f32 :=
  broadcastInDim S4x8x1280 ![0, 1, 2] bcast_S4x1x1280_S4x8x1280_0_1_2 (transpose S4x1x1280 [1, 0, 2]
    (concatenate S1x4x1280 2 (List.ofFn fun k : Fin 10 => (⟨S1x4x128, slabsBias b k⟩ : (s : Shape) × (s.Idx → EReal)))
      concatenates_S1x4x128_S1x4x128_S1x4x128_S1x4x128_S1x4x128_S1x4x128_S1x4x128_S1x4x128_S1x4x128_S1x4x128_S1x4x1280_d2) transposes_S1x4x1280_S4x1x1280_1_0_2)

theorem reference_biases (b : FVec Ideal S1x9216 .f32) : laidBiases b = biases b := by
  funext i
  obtain ⟨p, r, l, rfl⟩ : ∃ (p : Fin 4) (r : Fin 8) (l : Fin 1280), i = (ix3 p r l : (⟨3, ![4, 8, 1280]⟩ : Shape).Idx) := ⟨i 0, i 1, i 2, eq_ix3 i⟩
  exact (biases_outer _ _ p r l).trans <| (slabs_at (slabsBias b) _ 0 p l).trans (bias_slab _ 0 p _ _)

end Cert.Laid

end
-- ==== Proof.lean ====
/- The certificate of three of the layer's calls, the last one, the gated recurrence and the layout of the attention's weights:
   the frames, the quiescence of their references and their equality. The values of the last call are the row function of Proof/MergeSpec.lean on both sides
   (Proof/MergeValue.lean, Proof/MergeReference.lean), those of the recurrence the function of Proof/LruSeq.lean
   (Proof/LruFinal.lean, Proof/LruRefLoop.lean), those of the layout the entries Proof/WtsSpec.lean names
   (Proof/WtsValue.lean, Proof/WtsReference.lean). -/
module

public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gen.Lru
public import proofs.«01_k».proof.Proof.Gen.Lru.Skeleton
public import proofs.«01_k».proof.Proof.Gen.Lru.Loops
public import proofs.«01_k».proof.Proof.Gen.Lru.Launch
public import proofs.«01_k».proof.Proof.Gen.Lru.Points
public import proofs.«01_k».proof.Proof.Gen.Lru.Frame
public import proofs.«01_k».proof.Proof.Gen.LruIdeal
public import proofs.«01_k».proof.Proof.Gen.LruIdeal.Skeleton
public import proofs.«01_k».proof.Proof.Gen.LruIdeal.Loops
public import proofs.«01_k».proof.Proof.Gen.LruIdeal.Launch
public import proofs.«01_k».proof.Proof.Gen.LruIdeal.Points
public import proofs.«01_k».proof.Proof.Gen.LruIdeal.Frame
public import proofs.«01_k».proof.Proof.Gen.LruRefIdeal.Run
public import proofs.«01_k».proof.Proof.Gen.Wts.Frame
public import proofs.«01_k».proof.Proof.Gen.WtsIdeal.Value
public import proofs.«01_k».proof.Proof.Gen.WtsRefIdeal.Run
public import Idealize.ShloMosaic.Adequacy
public import Idealize.ShloMosaic.Init
public import Idealize.ShloMosaic.Lib.Quiescent
public import proofs.«01_k».proof.Proof.MergeReference
public import proofs.«01_k».proof.Proof.LruRun
public import proofs.«01_k».proof.Proof.LruFinal
public import proofs.«01_k».proof.Proof.WtsValue
public import proofs.«01_k».proof.Proof.WtsReference

@[expose] public section

noncomputable section

namespace Cert.Proof

open Idealize.ShloMosaic Idealize.SL.Sem

theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem algebraic_MergeIdeal_MergeRefIdeal : algebraic_MergeIdeal_MergeRefIdeal := by
  intro m ρ m' ρ' _ hagree
  refine ⟨_, Cert.MergeIdeal.Value.run (F := Ideal) m ρ, ?_⟩
  refine (θ_run Cert.MergeRefIdeal.defs _ _).mono (fun _ h c => ⟨?_, (h c).2⟩) (Cert.MergeRefIdeal.Value.run (F := Ideal) m' ρ')
  rw [(h c).1]
  exact (Cert.Merged.reference m' c).trans (.trans (by simp only [hagree c])
    ((Cert.Merged.final m c).symm.trans (Cert.MergeIdeal.Value.final13 m c)))

theorem quiescent_LruRefIdeal : quiescent_LruRefIdeal := fun m ρ _ =>
  (θ_run Cert.LruRefIdeal.defs _ _).mono (fun r h => ⟨fun c => (h c).2, sem_eq_zero_of_no_sems (by decide) r.2⟩)
    (Cert.LruRefIdeal.Value.run (F := Ideal) m ρ)

theorem preserves_Lru_LruIdeal : preserves_Lru_LruIdeal :=
  IdealRules.named_const.statement Cert.LruIdeal.κ "half_log2_e" .f32 0x3F38AA3B#32 (((2 * (Real.log 2))⁻¹ : ℝ) : EReal) rfl

/-- The two programs' argument arrays, from memories that agree on them. -/
theorem arrays_agree (m : (ℓ : Loc Cert.LruIdeal.nD Cert.LruIdeal.τ Cert.LruIdeal.sig) → Buf (Elt Ideal) ℓ)
    (m' : (ℓ : Loc Cert.LruRefIdeal.nD Cert.LruRefIdeal.τ Cert.LruRefIdeal.sig) → Buf (Elt Ideal) ℓ) (c : Dev Cert.LruIdeal.nD)
    (h : m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)
      ∧ m' ((c.tc : Thread Cert.LruRefIdeal.nD Cert.LruRefIdeal.τ).loc Cert.LruRefIdeal.main_arg8) = m ((c.tc : Thread Cert.LruIdeal.nD Cert.LruIdeal.τ).loc Cert.LruIdeal.main_arg8)
      ∧ m' ((c.tc : Thread Cert.LruRefIdeal.nD Cert.LruRefIdeal.τ).loc Cert.LruRefIdeal.main_arg9) = m ((c.tc : Thread Cert.LruIdeal.nD Cert.LruIdeal.τ).loc Cert.LruIdeal.main_arg9)) :
    Cert.Lrued.arraysR m' c = Cert.Lrued.arraysK m c := by
  obtain ⟨h0, h1, h2, h3, h4, h5, h6, h7, h8, h9⟩ := h
  unfold Cert.Lrued.arraysR Cert.Lrued.arraysK
  rw [h0, h1, h2, h3, h4, h5, h6, h7, h8, h9]

theorem algebraic_LruIdeal_LruRefIdeal : algebraic_LruIdeal_LruRefIdeal := by
  intro m ρ m' ρ' _ hagree
  refine ⟨fun c => Cert.Lrued.recurred (Cert.Lrued.arraysK m c), ?_, ?_⟩
  · refine (θ_run Cert.LruIdeal.defs _ _).mono (fun r h c => ⟨((h.1 c).1 10).trans (Cert.Lrued.final m c), ?_⟩) (Cert.Proof.LruIdeal.run_main m ρ)
    exact ⟨((h.1 c).2 Cert.LruIdeal.main_arg0 (Pipeline.mem_restRefs_of Cert.LruIdeal.main_arg0 (by decide) (by decide))),
      ((h.1 c).1 1).trans (((Cert.Proof.LruIdeal.dats m 0 c).arrAt_in 1 rfl _).trans (Cert.Proof.LruIdeal.A_eq m c 1)),
      ((h.1 c).1 4).trans (((Cert.Proof.LruIdeal.dats m 0 c).arrAt_in 4 rfl _).trans (Cert.Proof.LruIdeal.A_eq m c 4)),
      ((h.1 c).1 5).trans (((Cert.Proof.LruIdeal.dats m 0 c).arrAt_in 5 rfl _).trans (Cert.Proof.LruIdeal.A_eq m c 5)),
      ((h.1 c).1 6).trans (((Cert.Proof.LruIdeal.dats m 0 c).arrAt_in 6 rfl _).trans (Cert.Proof.LruIdeal.A_eq m c 6)),
      ((h.1 c).1 2).trans (((Cert.Proof.LruIdeal.dats m 0 c).arrAt_in 2 rfl _).trans (Cert.Proof.LruIdeal.A_eq m c 2)),
      ((h.1 c).1 7).trans (((Cert.Proof.LruIdeal.dats m 0 c).arrAt_in 7 rfl _).trans (Cert.Proof.LruIdeal.A_eq m c 7)),
      ((h.1 c).1 3).trans (((Cert.Proof.LruIdeal.dats m 0 c).arrAt_in 3 rfl _).trans (Cert.Proof.LruIdeal.A_eq m c 3)),
      ((h.1 c).1 8).trans (((Cert.Proof.LruIdeal.dats m 0 c).arrAt_in 8 rfl _).trans (Cert.Proof.LruIdeal.A_eq m c 8)),
      ((h.1 c).1 9).trans (((Cert.Proof.LruIdeal.dats m 0 c).arrAt_in 9 rfl _).trans (Cert.Proof.LruIdeal.A_eq m c 9))⟩
  · refine (θ_run Cert.LruRefIdeal.defs _ _).mono (fun r h c => ⟨?_, (h c).2⟩)
      (Cert.Lrued.RefRun.run_iter m' ρ' (fun c => Cert.Lrued.iter (Cert.Lrued.arraysR m' c)) (fun _ => rfl) (fun _ _ => rfl))
    exact (h c).1.trans ((Cert.Lrued.reference_result m' c).trans (congrArg Cert.Lrued.recurred (arrays_agree m m' c (hagree c))))

theorem quiescent_WtsRefIdeal : quiescent_WtsRefIdeal := fun m ρ _ =>
  (θ_run Cert.WtsRefIdeal.defs _ _).mono (fun r h => ⟨fun c => (h c).2.2, sem_eq_zero_of_no_sems (by decide) r.2⟩)
    (Cert.WtsRefIdeal.Value.run (F := Ideal) m ρ)

theorem algebraic_WtsIdeal_WtsRefIdeal : algebraic_WtsIdeal_WtsRefIdeal := by
  intro m ρ m' ρ' _ hagree
  refine ⟨_, _, Cert.WtsIdeal.Value.run_blocks (F := Ideal) m ρ, ?_⟩
  refine (θ_run Cert.WtsRefIdeal.defs _ _).mono (fun _ h c => ⟨?_, ?_, (h c).2.2⟩) (Cert.WtsRefIdeal.Value.run (F := Ideal) m' ρ')
  · exact (h c).1.trans ((Cert.Laid.reference_weights m' c).trans (.trans (by rw [(hagree c).1]) (Cert.Laid.final_weights m c).symm))
  · exact (h c).2.1.trans ((Cert.Laid.reference_biases _).trans (.trans (by rw [(hagree c).2]) (Cert.Laid.final_biases m c).symm))

theorem claim : Cert.Claim := ⟨Cert.Merge.Gen.facts, Cert.MergeIdeal.Gen.facts, Cert.MergeRefIdeal.Gen.facts,
  Cert.Lru.Gen.facts, Cert.LruIdeal.Gen.facts, Cert.LruRefIdeal.Gen.facts,
  Cert.Wts.Gen.facts, Cert.WtsIdeal.Gen.facts, Cert.WtsRefIdeal.Gen.facts,
  fun m ρ _ => Cert.Merge.Gen.frame m ρ, fun m ρ _ => Cert.MergeIdeal.Gen.frame m ρ, quiescent_MergeRefIdeal,
  fun m ρ _ => Cert.Proof.Lru.frame_run m ρ, fun m ρ _ => Cert.Proof.LruIdeal.frame_run m ρ, quiescent_LruRefIdeal,
  fun m ρ _ => Cert.Wts.Gen.frame m ρ, fun m ρ _ => Cert.WtsIdeal.Gen.frame m ρ, quiescent_WtsRefIdeal,
  (trivial : preserves_Merge_MergeIdeal), algebraic_MergeIdeal_MergeRefIdeal, preserves_Lru_LruIdeal, algebraic_LruIdeal_LruRefIdeal,
  (trivial : preserves_Wts_WtsIdeal), algebraic_WtsIdeal_WtsRefIdeal⟩

end Cert.Proof

end
